-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmIdeal_ssm_tame [hPre_ssm_tame : Cert.Pre_ssm_tame.Facts] (m : (ℓ : Loc Cert.SsmIdeal.nD Cert.SsmIdeal.τ Cert.SsmIdeal.sig) → Buf (Elt Ideal) ℓ) : Prop :=
  ∀ c : Dev Cert.SsmIdeal.nD,
    (Cert.Pre_ssm_tame.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8))) = (fun _ => 1#1)

def Pre_SsmRefIdeal (m : (ℓ : Loc Cert.SsmRefIdeal.nD Cert.SsmRefIdeal.τ Cert.SsmRefIdeal.sig) → Buf (Elt Ideal) ℓ) : Prop :=
  True

def Pre_SsmRefIdeal_ssm_tame [hPre_ssm_tame : Cert.Pre_ssm_tame.Facts] (m : (ℓ : Loc Cert.SsmRefIdeal.nD Cert.SsmRefIdeal.τ Cert.SsmRefIdeal.sig) → Buf (Elt Ideal) ℓ) : Prop :=
  ∀ c : Dev Cert.SsmRefIdeal.nD,
    (Cert.Pre_ssm_tame.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8))) = (fun _ => 1#1)

def Pre_Fft (m : (ℓ : Loc Cert.Fft.nD Cert.Fft.τ Cert.Fft.sig) → Buf (Elt Bits) ℓ) : Prop :=
  True

def Pre_FftIdeal (m : (ℓ : Loc Cert.FftIdeal.nD Cert.FftIdeal.τ Cert.FftIdeal.sig) → Buf (Elt Ideal) ℓ) : Prop :=
  True

def Pre_FftIdeal_fft_tame [hPre_fft_tame : Cert.Pre_fft_tame.Facts] (m : (ℓ : Loc Cert.FftIdeal.nD Cert.FftIdeal.τ Cert.FftIdeal.sig) → Buf (Elt Ideal) ℓ) : Prop :=
  ∀ c : Dev Cert.FftIdeal.nD,
    (Cert.Pre_fft_tame.fn (F := Ideal) (m ((c.tc : Thread Cert.FftIdeal.nD Cert.FftIdeal.τ).loc Cert.FftIdeal.main_arg0))) = (fun _ => 1#1)

def Pre_FftRefIdeal (m : (ℓ : Loc Cert.FftRefIdeal.nD Cert.FftRefIdeal.τ Cert.FftRefIdeal.sig) → Buf (Elt Ideal) ℓ) : Prop :=
  True

def Pre_FftRefIdeal_fft_tame [hPre_fft_tame : Cert.Pre_fft_tame.Facts] (m : (ℓ : Loc Cert.FftRefIdeal.nD Cert.FftRefIdeal.τ Cert.FftRefIdeal.sig) → Buf (Elt Ideal) ℓ) : Prop :=
  ∀ c : Dev Cert.FftRefIdeal.nD,
    (Cert.Pre_fft_tame.fn (F := Ideal) (m ((c.tc : Thread Cert.FftRefIdeal.nD Cert.FftRefIdeal.τ).loc Cert.FftRefIdeal.main_arg0))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_SsmIdeal_pre_ssm_tame [hSsmIdeal : Cert.SsmIdeal.Facts] [hPre_ssm_tame : Cert.Pre_ssm_tame.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal_ssm_tame m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8))
      ∧ r.2.sem = fun _ => 0)

def quiescent_SsmRefIdeal_pre_ssm_tame [hSsmRefIdeal : Cert.SsmRefIdeal.Facts] [hPre_ssm_tame : Cert.Pre_ssm_tame.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal_ssm_tame m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8))
      ∧ r.2.sem = fun _ => 0)

def quiescent_Fft [hFft : Cert.Fft.Facts] : Prop :=
  ∀ (m : (ℓ : Loc Cert.Fft.nD Cert.Fft.τ Cert.Fft.sig) → Buf (Elt Bits) ℓ) (g : Dev Cert.Fft.nD → PrngReg), Pre_Fft m →
    θ_run (Cert.Fft.defs (F := Bits)) (onTc (τ := Cert.Fft.τ) (Cert.Fft.main (F := Bits))) ⟨m, fun _ => 0, g⟩ (fun r => (∀ c : Dev Cert.Fft.nD,
      r.2.mem ((c.tc : Thread Cert.Fft.nD Cert.Fft.τ).loc Cert.Fft.main_arg0) = m ((c.tc : Thread Cert.Fft.nD Cert.Fft.τ).loc Cert.Fft.main_arg0))
      ∧ r.2.sem = fun _ => 0)

def quiescent_FftIdeal [hFftIdeal : Cert.FftIdeal.Facts] : Prop :=
  ∀ (m : (ℓ : Loc Cert.FftIdeal.nD Cert.FftIdeal.τ Cert.FftIdeal.sig) → Buf (Elt Ideal) ℓ) (g : Dev Cert.FftIdeal.nD → PrngReg), Pre_FftIdeal m →
    θ_run (Cert.FftIdeal.defs (F := Ideal)) (onTc (τ := Cert.FftIdeal.τ) (Cert.FftIdeal.main (F := Ideal))) ⟨m, fun _ => 0, g⟩ (fun r => (∀ c : Dev Cert.FftIdeal.nD,
      r.2.mem ((c.tc : Thread Cert.FftIdeal.nD Cert.FftIdeal.τ).loc Cert.FftIdeal.main_arg0) = m ((c.tc : Thread Cert.FftIdeal.nD Cert.FftIdeal.τ).loc Cert.FftIdeal.main_arg0))
      ∧ r.2.sem = fun _ => 0)

def quiescent_FftIdeal_pre_fft_tame [hFftIdeal : Cert.FftIdeal.Facts] [hPre_fft_tame : Cert.Pre_fft_tame.Facts] : Prop :=
  ∀ (m : (ℓ : Loc Cert.FftIdeal.nD Cert.FftIdeal.τ Cert.FftIdeal.sig) → Buf (Elt Ideal) ℓ) (g : Dev Cert.FftIdeal.nD → PrngReg), Pre_FftIdeal_fft_tame m →
    θ_run (Cert.FftIdeal.defs (F := Ideal)) (onTc (τ := Cert.FftIdeal.τ) (Cert.FftIdeal.main (F := Ideal))) ⟨m, fun _ => 0, g⟩ (fun r => (∀ c : Dev Cert.FftIdeal.nD,
      r.2.mem ((c.tc : Thread Cert.FftIdeal.nD Cert.FftIdeal.τ).loc Cert.FftIdeal.main_arg0) = m ((c.tc : Thread Cert.FftIdeal.nD Cert.FftIdeal.τ).loc Cert.FftIdeal.main_arg0))
      ∧ r.2.sem = fun _ => 0)

def quiescent_FftRefIdeal [hFftRefIdeal : Cert.FftRefIdeal.Facts] : Prop :=
  ∀ (m : (ℓ : Loc Cert.FftRefIdeal.nD Cert.FftRefIdeal.τ Cert.FftRefIdeal.sig) → Buf (Elt Ideal) ℓ) (g : Dev Cert.FftRefIdeal.nD → PrngReg), Pre_FftRefIdeal m →
    θ_run (Cert.FftRefIdeal.defs (F := Ideal)) (onTc (τ := Cert.FftRefIdeal.τ) (Cert.FftRefIdeal.main (F := Ideal))) ⟨m, fun _ => 0, g⟩ (fun r => (∀ c : Dev Cert.FftRefIdeal.nD,
      r.2.mem ((c.tc : Thread Cert.FftRefIdeal.nD Cert.FftRefIdeal.τ).loc Cert.FftRefIdeal.main_arg0) = m ((c.tc : Thread Cert.FftRefIdeal.nD Cert.FftRefIdeal.τ).loc Cert.FftRefIdeal.main_arg0))
      ∧ r.2.sem = fun _ => 0)

def quiescent_FftRefIdeal_pre_fft_tame [hFftRefIdeal : Cert.FftRefIdeal.Facts] [hPre_fft_tame : Cert.Pre_fft_tame.Facts] : Prop :=
  ∀ (m : (ℓ : Loc Cert.FftRefIdeal.nD Cert.FftRefIdeal.τ Cert.FftRefIdeal.sig) → Buf (Elt Ideal) ℓ) (g : Dev Cert.FftRefIdeal.nD → PrngReg), Pre_FftRefIdeal_fft_tame m →
    θ_run (Cert.FftRefIdeal.defs (F := Ideal)) (onTc (τ := Cert.FftRefIdeal.τ) (Cert.FftRefIdeal.main (F := Ideal))) ⟨m, fun _ => 0, g⟩ (fun r => (∀ c : Dev Cert.FftRefIdeal.nD,
      r.2.mem ((c.tc : Thread Cert.FftRefIdeal.nD Cert.FftRefIdeal.τ).loc Cert.FftRefIdeal.main_arg0) = m ((c.tc : Thread Cert.FftRefIdeal.nD Cert.FftRefIdeal.τ).loc Cert.FftRefIdeal.main_arg0))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v107) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v2_0)) (v1 : (c : Dev Cert.InpIdeal.nD) → Buf (Elt Ideal) ((c.tc : Thread Cert.InpIdeal.nD Cert.InpIdeal.τ).loc Cert.InpIdeal.main_v2_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v2_0) = v0 c
          ∧ r.2.mem ((c.tc : Thread Cert.InpIdeal.nD Cert.InpIdeal.τ).loc Cert.InpIdeal.main_v2_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v15) = v0 c
          ∧ r.2.mem ((c.tc : Thread Cert.InpRefIdeal.nD Cert.InpRefIdeal.τ).loc Cert.InpRefIdeal.main_v17) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Ssm_SsmIdeal : Prop :=
  True

def algebraic_SsmIdeal_SsmRefIdeal_pre_ssm_tame [hSsmIdeal : Cert.SsmIdeal.Facts] [hSsmRefIdeal : Cert.SsmRefIdeal.Facts] [hPre_ssm_tame : Cert.Pre_ssm_tame.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal_ssm_tame m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)) →
    ∃ (v0 : (c : Dev Cert.SsmIdeal.nD) → Buf (Elt Ideal) ((c.tc : Thread Cert.SsmIdeal.nD Cert.SsmIdeal.τ).loc Cert.SsmIdeal.main_v303)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v303) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v100) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8))

def preserves_Fft_FftIdeal : Prop :=
  True

def algebraic_FftIdeal_FftRefIdeal_pre_fft_tame [hFftIdeal : Cert.FftIdeal.Facts] [hFftRefIdeal : Cert.FftRefIdeal.Facts] [hPre_fft_tame : Cert.Pre_fft_tame.Facts] : Prop :=
  ∀ (m : (ℓ : Loc Cert.FftIdeal.nD Cert.FftIdeal.τ Cert.FftIdeal.sig) → Buf (Elt Ideal) ℓ) (g : Dev Cert.FftIdeal.nD → PrngReg)
    (m' : (ℓ : Loc Cert.FftRefIdeal.nD Cert.FftRefIdeal.τ Cert.FftRefIdeal.sig) → Buf (Elt Ideal) ℓ) (g' : Dev Cert.FftRefIdeal.nD → PrngReg), Pre_FftIdeal_fft_tame m →
    (∀ c : Dev Cert.FftIdeal.nD,
      m' ((c.tc : Thread Cert.FftRefIdeal.nD Cert.FftRefIdeal.τ).loc Cert.FftRefIdeal.main_arg0) = m ((c.tc : Thread Cert.FftIdeal.nD Cert.FftIdeal.τ).loc Cert.FftIdeal.main_arg0)) →
    ∃ (v0 : (c : Dev Cert.FftIdeal.nD) → Buf (Elt Ideal) ((c.tc : Thread Cert.FftIdeal.nD Cert.FftIdeal.τ).loc Cert.FftIdeal.main_v58)),
      θ_run (Cert.FftIdeal.defs (F := Ideal)) (onTc (τ := Cert.FftIdeal.τ) (Cert.FftIdeal.main (F := Ideal))) ⟨m, fun _ => 0, g⟩ (fun r => ∀ c : Dev Cert.FftIdeal.nD,
          r.2.mem ((c.tc : Thread Cert.FftIdeal.nD Cert.FftIdeal.τ).loc Cert.FftIdeal.main_v58) = v0 c
          ∧ r.2.mem ((c.tc : Thread Cert.FftIdeal.nD Cert.FftIdeal.τ).loc Cert.FftIdeal.main_arg0) = m ((c.tc : Thread Cert.FftIdeal.nD Cert.FftIdeal.τ).loc Cert.FftIdeal.main_arg0))
      ∧ θ_run (Cert.FftRefIdeal.defs (F := Ideal)) (onTc (τ := Cert.FftRefIdeal.τ) (Cert.FftRefIdeal.main (F := Ideal))) ⟨m', fun _ => 0, g'⟩ (fun r => ∀ c : Dev Cert.FftRefIdeal.nD,
          r.2.mem ((c.tc : Thread Cert.FftRefIdeal.nD Cert.FftRefIdeal.τ).loc Cert.FftRefIdeal.main_v28) = v0 c
          ∧ r.2.mem ((c.tc : Thread Cert.FftRefIdeal.nD Cert.FftRefIdeal.τ).loc Cert.FftRefIdeal.main_arg0) = m' ((c.tc : Thread Cert.FftRefIdeal.nD Cert.FftRefIdeal.τ).loc Cert.FftRefIdeal.main_arg0))

def Claim : Prop :=
  ∃ (hMlp : Cert.Mlp.Facts) (hMlpIdeal : Cert.MlpIdeal.Facts) (hMlpRefIdeal : Cert.MlpRefIdeal.Facts) (hInp : Cert.Inp.Facts) (hInpIdeal : Cert.InpIdeal.Facts) (hInpRefIdeal : Cert.InpRefIdeal.Facts) (hSsm : Cert.Ssm.Facts) (hSsmIdeal : Cert.SsmIdeal.Facts) (hSsmRefIdeal : Cert.SsmRefIdeal.Facts) (hFft : Cert.Fft.Facts) (hFftIdeal : Cert.FftIdeal.Facts) (hFftRefIdeal : Cert.FftRefIdeal.Facts) (hPre_ssm_tame : Cert.Pre_ssm_tame.Facts) (hPre_fft_tame : Cert.Pre_fft_tame.Facts),
    quiescent_Mlp (hMlp := hMlp)
    ∧ quiescent_MlpIdeal (hMlpIdeal := hMlpIdeal)
    ∧ quiescent_MlpRefIdeal (hMlpRefIdeal := hMlpRefIdeal)
    ∧ quiescent_Inp (hInp := hInp)
    ∧ quiescent_InpIdeal (hInpIdeal := hInpIdeal)
    ∧ quiescent_InpRefIdeal (hInpRefIdeal := hInpRefIdeal)
    ∧ quiescent_Ssm (hSsm := hSsm)
    ∧ quiescent_SsmIdeal (hSsmIdeal := hSsmIdeal)
    ∧ quiescent_SsmIdeal_pre_ssm_tame (hSsmIdeal := hSsmIdeal) (hPre_ssm_tame := hPre_ssm_tame)
    ∧ quiescent_SsmRefIdeal (hSsmRefIdeal := hSsmRefIdeal)
    ∧ quiescent_SsmRefIdeal_pre_ssm_tame (hSsmRefIdeal := hSsmRefIdeal) (hPre_ssm_tame := hPre_ssm_tame)
    ∧ quiescent_Fft (hFft := hFft)
    ∧ quiescent_FftIdeal (hFftIdeal := hFftIdeal)
    ∧ quiescent_FftIdeal_pre_fft_tame (hFftIdeal := hFftIdeal) (hPre_fft_tame := hPre_fft_tame)
    ∧ quiescent_FftRefIdeal (hFftRefIdeal := hFftRefIdeal)
    ∧ quiescent_FftRefIdeal_pre_fft_tame (hFftRefIdeal := hFftRefIdeal) (hPre_fft_tame := hPre_fft_tame)
    ∧ preserves_Mlp_MlpIdeal
    ∧ algebraic_MlpIdeal_MlpRefIdeal (hMlpIdeal := hMlpIdeal) (hMlpRefIdeal := hMlpRefIdeal)
    ∧ preserves_Inp_InpIdeal
    ∧ algebraic_InpIdeal_InpRefIdeal (hInpIdeal := hInpIdeal) (hInpRefIdeal := hInpRefIdeal)
    ∧ preserves_Ssm_SsmIdeal
    ∧ algebraic_SsmIdeal_SsmRefIdeal_pre_ssm_tame (hSsmIdeal := hSsmIdeal) (hSsmRefIdeal := hSsmRefIdeal) (hPre_ssm_tame := hPre_ssm_tame)
    ∧ preserves_Fft_FftIdeal
    ∧ algebraic_FftIdeal_FftRefIdeal_pre_fft_tame (hFftIdeal := hFftIdeal) (hFftRefIdeal := hFftRefIdeal) (hPre_fft_tame := hPre_fft_tame)
-- ==== Pre_fft_tame.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S32768x512 .bf16) : IVec S32768x512 1 :=
  let main_v0 : FVec F S32768x512 .bf16 := Host.absf main_arg0
  let main_cst : FVec F S_ .bf16 := constant S_ .bf16 0x7F80#16
  let main_v1 : FVec F S32768x512 .bf16 := broadcastInDim S32768x512 ![] bcast_S_S32768x512 main_cst
  let main_v2 : IVec S32768x512 1 := cmpf .olt main_v0 main_v1
  main_v2
-- ==== Pre_ssm_tame.lean ====
abbrev S32768x512 : Shape := ⟨2, ![32768, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S32x16 : Shape := ⟨2, ![32, 16]⟩
abbrev S_ : Shape := ⟨0, ![]⟩
abbrev S16777216 : Shape := ⟨1, ![16777216]⟩
abbrev S4096 : Shape := ⟨1, ![4096]⟩
abbrev S64 : Shape := ⟨1, ![64]⟩
abbrev S65536 : Shape := ⟨1, ![65536]⟩
abbrev S512 : Shape := ⟨1, ![512]⟩
abbrev S17052224 : Shape := ⟨1, ![17052224]⟩

class Facts : Prop where
  bcast_S_S32768x512 : S_.BroadcastsInDim S32768x512 (![] : Fin 0 → Fin S32768x512.rank)
  shapeCasts_S32768x512_S16777216 : S32768x512.ShapeCasts S16777216
  bcast_S_S2x32x64 : S_.BroadcastsInDim S2x32x64 (![] : Fin 0 → Fin S2x32x64.rank)
  shapeCasts_S2x32x64_S4096 : S2x32x64.ShapeCasts S4096
  bcast_S_S2x32 : S_.BroadcastsInDim S2x32 (![] : Fin 0 → Fin S2x32.rank)
  shapeCasts_S2x32_S64 : S2x32.ShapeCasts S64
  bcast_S_S2x32x64x16 : S_.BroadcastsInDim S2x32x64x16 (![] : Fin 0 → Fin S2x32x64x16.rank)
  shapeCasts_S2x32x64x16_S65536 : S2x32x64x16.ShapeCasts S65536
  bcast_S_S2x32x16x64 : S_.BroadcastsInDim S2x32x16x64 (![] : Fin 0 → Fin S2x32x16x64.rank)
  shapeCasts_S2x32x16x64_S65536 : S2x32x16x64.ShapeCasts S65536
  bcast_S_S32x16 : S_.BroadcastsInDim S32x16 (![] : Fin 0 → Fin S32x16.rank)
  shapeCasts_S32x16_S512 : S32x16.ShapeCasts S512
  concatenates_S16777216_S4096_S4096_S64_S65536_S65536_S65536_S65536_S512_S4096_S17052224_d0 : Shape.Concatenates [S16777216, S4096, S4096, S64, S65536, S65536, S65536, S65536, S512, S4096] S17052224 0

variable [Facts]

def fn_part2 {F : FTy → Type} [FloatOps F] (main_v2 : FVec F S2x32x64 .f32) (main_v6 : IVec S16777216 1) (main_v10 : IVec S4096 1) (main_v14 : IVec S4096 1) (main_v18 : IVec S64 1) (main_v22 : IVec S65536 1) (main_v26 : IVec S65536 1) (main_v30 : IVec S65536 1) (main_v34 : IVec S65536 1) (main_v38 : IVec S512 1) : IVec S17052224 1 :=
  let main_cst_8 : FVec F S_ .f32 := constant S_ .f32 0x00000000#32
  let main_v39 : FVec F S2x32x64 .f32 := broadcastInDim S2x32x64 ![] bcast_S_S2x32x64 main_cst_8
  let main_v40 : IVec S2x32x64 1 := cmpf .ogt main_v2 main_v39
  let main_v41 : IVec S4096 1 := shapeCast S4096 main_v40 shapeCasts_S2x32x64_S4096
  let main_v42 : IVec S17052224 1 := concatenate S17052224 0 [⟨S16777216, main_v6⟩, ⟨S4096, main_v10⟩, ⟨S4096, main_v14⟩, ⟨S64, main_v18⟩, ⟨S65536, main_v22⟩, ⟨S65536, main_v26⟩, ⟨S65536, main_v30⟩, ⟨S65536, main_v34⟩, ⟨S512, main_v38⟩, ⟨S4096, main_v41⟩] concatenates_S16777216_S4096_S4096_S64_S65536_S65536_S65536_S65536_S512_S4096_S17052224_d0
  main_v42

def fn_part1 {F : FTy → Type} [FloatOps F] (main_arg5 : FVec F S2x32x64x16 .f32) (main_arg6 : FVec F S2x32x16x64 .f32) (main_arg7 : FVec F S2x32x16x64 .f32) (main_arg8 : FVec F S32x16 .f32) (main_v2 : FVec F S2x32x64 .f32) (main_v6 : IVec S16777216 1) (main_v10 : IVec S4096 1) (main_v14 : IVec S4096 1) (main_v18 : IVec S64 1) (main_v19 : FVec F S2x32x64x16 .f32) : IVec S17052224 1 :=
  let main_cst_3 : FVec F S_ .f32 := constant S_ .f32 0x7F800000#32
  let main_v20 : FVec F S2x32x64x16 .f32 := broadcastInDim S2x32x64x16 ![] bcast_S_S2x32x64x16 main_cst_3
  let main_v21 : IVec S2x32x64x16 1 := cmpf .olt main_v19 main_v20
  let main_v22 : IVec S65536 1 := shapeCast S65536 main_v21 shapeCasts_S2x32x64x16_S65536
  let main_v23 : FVec F S2x32x64x16 .f32 := Host.absf main_arg5
  let main_cst_4 : FVec F S_ .f32 := constant S_ .f32 0x7F800000#32
  let main_v24 : FVec F S2x32x64x16 .f32 := broadcastInDim S2x32x64x16 ![] bcast_S_S2x32x64x16 main_cst_4
  let main_v25 : IVec S2x32x64x16 1 := cmpf .olt main_v23 main_v24
  let main_v26 : IVec S65536 1 := shapeCast S65536 main_v25 shapeCasts_S2x32x64x16_S65536
  let main_v27 : FVec F S2x32x16x64 .f32 := Host.absf main_arg6
  let main_cst_5 : FVec F S_ .f32 := constant S_ .f32 0x7F800000#32
  let main_v28 : FVec F S2x32x16x64 .f32 := broadcastInDim S2x32x16x64 ![] bcast_S_S2x32x16x64 main_cst_5
  let main_v29 : IVec S2x32x16x64 1 := cmpf .olt main_v27 main_v28
  let main_v30 : IVec S65536 1 := shapeCast S65536 main_v29 shapeCasts_S2x32x16x64_S65536
  let main_v31 : FVec F S2x32x16x64 .f32 := Host.absf main_arg7
  let main_cst_6 : FVec F S_ .f32 := constant S_ .f32 0x7F800000#32
  let main_v32 : FVec F S2x32x16x64 .f32 := broadcastInDim S2x32x16x64 ![] bcast_S_S2x32x16x64 main_cst_6
  let main_v33 : IVec S2x32x16x64 1 := cmpf .olt main_v31 main_v32
  let main_v34 : IVec S65536 1 := shapeCast S65536 main_v33 shapeCasts_S2x32x16x64_S65536
  let main_v35 : FVec F S32x16 .f32 := Host.absf main_arg8
  let main_cst_7 : FVec F S_ .f32 := constant S_ .f32 0x7F800000#32
  let main_v36 : FVec F S32x16 .f32 := broadcastInDim S32x16 ![] bcast_S_S32x16 main_cst_7
  let main_v37 : IVec S32x16 1 := cmpf .olt main_v35 main_v36
  let main_v38 : IVec S512 1 := shapeCast S512 main_v37 shapeCasts_S32x16_S512
  fn_part2 (F := F) main_v2 main_v6 main_v10 main_v14 main_v18 main_v22 main_v26 main_v30 main_v34 main_v38

def fn {F : FTy → Type} [FloatOps F] (main_arg0 : FVec F S32768x512 .bf16) (main_arg1 : FVec F S2x32x64 .f32) (main_arg2 : FVec F S2x32x64 .f32) (main_arg3 : FVec F S2x32 .f32) (main_arg4 : FVec F S2x32x64x16 .f32) (main_arg5 : FVec F S2x32x64x16 .f32) (main_arg6 : FVec F S2x32x16x64 .f32) (main_arg7 : FVec F S2x32x16x64 .f32) (main_arg8 : FVec F S32x16 .f32) : IVec S17052224 1 :=
  let main_v0 : FVec F S2x32x64 .f32 := mulf main_arg1 main_arg1
  let main_v1 : FVec F S2x32x64 .f32 := mulf main_arg2 main_arg2
  let main_v2 : FVec F S2x32x64 .f32 := addf main_v0 main_v1
  let main_v3 : FVec F S32768x512 .bf16 := Host.absf main_arg0
  let main_cst : FVec F S_ .bf16 := constant S_ .bf16 0x7F80#16
  let main_v4 : FVec F S32768x512 .bf16 := broadcastInDim S32768x512 ![] bcast_S_S32768x512 main_cst
  let main_v5 : IVec S32768x512 1 := cmpf .olt main_v3 main_v4
  let main_v6 : IVec S16777216 1 := shapeCast S16777216 main_v5 shapeCasts_S32768x512_S16777216
  let main_v7 : FVec F S2x32x64 .f32 := Host.absf main_arg1
  let main_cst_0 : FVec F S_ .f32 := constant S_ .f32 0x7F800000#32
  let main_v8 : FVec F S2x32x64 .f32 := broadcastInDim S2x32x64 ![] bcast_S_S2x32x64 main_cst_0
  let main_v9 : IVec S2x32x64 1 := cmpf .olt main_v7 main_v8
  let main_v10 : IVec S4096 1 := shapeCast S4096 main_v9 shapeCasts_S2x32x64_S4096
  let main_v11 : FVec F S2x32x64 .f32 := Host.absf main_arg2
  let main_cst_1 : FVec F S_ .f32 := constant S_ .f32 0x7F800000#32
  let main_v12 : FVec F S2x32x64 .f32 := broadcastInDim S2x32x64 ![] bcast_S_S2x32x64 main_cst_1
  let main_v13 : IVec S2x32x64 1 := cmpf .olt main_v11 main_v12
  let main_v14 : IVec S4096 1 := shapeCast S4096 main_v13 shapeCasts_S2x32x64_S4096
  let main_v15 : FVec F S2x32 .f32 := Host.absf main_arg3
  let main_cst_2 : FVec F S_ .f32 := constant S_ .f32 0x7F800000#32
  let main_v16 : FVec F S2x32 .f32 := broadcastInDim S2x32 ![] bcast_S_S2x32 main_cst_2
  let main_v17 : IVec S2x32 1 := cmpf .olt main_v15 main_v16
  let main_v18 : IVec S64 1 := shapeCast S64 main_v17 shapeCasts_S2x32_S64
  let main_v19 : FVec F S2x32x64x16 .f32 := Host.absf main_arg4
  fn_part1 (F := F) main_arg5 main_arg6 main_arg7 main_arg8 main_v2 main_v6 main_v10 main_v14 main_v18 main_v19
-- ==== Mlp.lean ====
abbrev S32768x1024 : Shape := ⟨2, ![32768, 1024]⟩
abbrev S2x32768x512 : Shape := ⟨3, ![2, 32768, 512]⟩
abbrev S32768x512 : Shape := ⟨2, ![32768, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S1x512x512 : Shape := ⟨3, ![1, 512, 512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S2x32768x512, .bf16⟩
  | .hbm, ⟨2, _⟩ => ⟨S32768x512, .bf16⟩
  | .hbm, ⟨3, _⟩ => ⟨S512x512, .bf16⟩
  | .hbm, ⟨4, _⟩ => ⟨S512x512, .bf16⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096x1024, .f32⟩
  | .hbm, ⟨14, _⟩ => ⟨S1024, .f32⟩
  | .hbm, ⟨15, _⟩ => ⟨S1x512, .f32⟩
  | .hbm, ⟨16, _⟩ => ⟨S512x512, .bf16⟩
  | .hbm, ⟨17, _⟩ => ⟨S1x512, .f32⟩
  | .hbm, ⟨18, _⟩ => ⟨S1x512, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MlpRefIdeal.lean ====
abbrev S32768x1024 : Shape := ⟨2, ![32768, 1024]⟩
abbrev S2x32768x512 : Shape := ⟨3, ![2, 32768, 512]⟩
abbrev S32768x512 : Shape := ⟨2, ![32768, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x32768x512 : Shape := ⟨3, ![1, 32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S1x1024 : Shape := ⟨2, ![1, 1024]⟩
abbrev S32768x4096 : Shape := ⟨2, ![32768, 4096]⟩

abbrev nBuf : Space → Nat
  | .hbm => 146
  | .vmem => 0
  | .smem => 0
  | _ => 0

abbrev hbmTy0_0 (i : Nat) : BufTy := match i % 128 with
  | 0 => ⟨S32768x1024, .f32⟩
  | 1 => ⟨S2x32768x512, .bf16⟩
  | 2 => ⟨S32768x512, .bf16⟩
  | 3 => ⟨S512x512, .bf16⟩
  | 4 => ⟨S512x512, .bf16⟩
  | 5 => ⟨S512, .f32⟩
  | 6 => ⟨S512x512, .f32⟩
  | 7 => ⟨S512, .f32⟩
  | 8 => ⟨S512, .f32⟩
  | 9 => ⟨S1024x1024, .f32⟩
  | 10 => ⟨S1024, .f32⟩
  | 11 => ⟨S1024, .f32⟩
  | 12 => ⟨S1024x4096, .f32⟩
  | 13 => ⟨S4096x1024, .f32⟩
  | 14 => ⟨S1024, .f32⟩
  | 15 => ⟨S2x32768x512, .f32⟩
  | 16 => ⟨S1x32768x512, .f32⟩
  | 17 => ⟨S32768x512, .f32⟩
  | 18 => ⟨S512x512, .f32⟩
  | 19 => ⟨S32768x512, .f32⟩
  | 20 => ⟨S1x32768x512, .f32⟩
  | 21 => ⟨S32768x512, .f32⟩
  | 22 => ⟨S512x512, .f32⟩
  | 23 => ⟨S32768x512, .f32⟩
  | 24 => ⟨S32768x512, .f32⟩
  | 25 => ⟨S32768x512, .f32⟩
  | 26 => ⟨S_, .f32⟩
  | 27 => ⟨S32768, .f32⟩
  | 28 => ⟨S32768x1, .f32⟩
  | 29 => ⟨S_, .f32⟩
  | 30 => ⟨S32768x1, .f32⟩
  | 31 => ⟨S32768x1, .f32⟩
  | 32 => ⟨S_, .f32⟩
  | 33 => ⟨S32768x1, .f32⟩
  | 34 => ⟨S32768x1, .f32⟩
  | 35 => ⟨S32768x1, .f32⟩
  | 36 => ⟨S32768x512, .f32⟩
  | 37 => ⟨S32768x512, .f32⟩
  | 38 => ⟨S1x512, .f32⟩
  | 39 => ⟨S32768x512, .f32⟩
  | 40 => ⟨S32768x512, .f32⟩
  | 41 => ⟨S32768x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S32768x512, .f32⟩
  | 48 => ⟨S_, .f32⟩
  | 49 => ⟨S32768x512, .f32⟩
  | 50 => ⟨S32768x512, .f32⟩
  | 51 => ⟨S32768x512, .f32⟩
  | 52 => ⟨S_, .f32⟩
  | 53 => ⟨S32768x512, .f32⟩
  | 54 => ⟨S32768x512, .f32⟩
  | 55 => ⟨S_, .f32⟩
  | 56 => ⟨S32768x512, .f32⟩
  | 57 => ⟨S32768x512, .f32⟩
  | 58 => ⟨S32768x512, .f32⟩
  | 59 => ⟨S32768x512, .f32⟩
  | 60 => ⟨S1x512, .f32⟩
  | 61 => ⟨S32768x512, .f32⟩
  | 62 => ⟨S32768x512, .f32⟩
  | 63 => ⟨S32768x512, .f32⟩
  | 64 => ⟨S32768x512, .f32⟩
  | 65 => ⟨S_, .f32⟩
  | 66 => ⟨S32768x512, .f32⟩
  | 67 => ⟨S32768x512, .f32⟩
  | 68 => ⟨S_, .f32⟩
  | 69 => ⟨S32768x512, .f32⟩
  | 70 => ⟨S32768x512, .f32⟩
  | 71 => ⟨S32768x512, .f32⟩
  | 72 => ⟨S32768x512, .f32⟩
  | 73 => ⟨S_, .f32⟩
  | 74 => ⟨S32768, .f32⟩
  | 75 => ⟨S32768x1, .f32⟩
  | 76 => ⟨S_, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S32768x1, .f32⟩
  | 83 => ⟨S32768x512, .f32⟩
  | 84 => ⟨S32768x512, .f32⟩
  | 85 => ⟨S1x512, .f32⟩
  | 86 => ⟨S32768x512, .f32⟩
  | 87 => ⟨S32768x512, .f32⟩
  | 88 => ⟨S32768x1024, .f32⟩
  | 89 => ⟨S32768x1024, .f32⟩
  | 90 => ⟨S32768x1024, .f32⟩
  | 91 => ⟨S_, .f32⟩
  | 92 => ⟨S32768, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S32768x1, .f32⟩
  | 99 => ⟨S32768x1, .f32⟩
  | 100 => ⟨S32768x1, .f32⟩
  | 101 => ⟨S32768x1024, .f32⟩
  | 102 => ⟨S32768x1024, .f32⟩
  | 103 => ⟨S1x1024, .f32⟩
  | 104 => ⟨S32768x1024, .f32⟩
  | 105 => ⟨S32768x1024, .f32⟩
  | 106 => ⟨S32768x1024, .f32⟩
  | 107 => ⟨S32768x1024, .f32⟩
  | 108 => ⟨S_, .f32⟩
  | 109 => ⟨S32768, .f32⟩
  | 110 => ⟨S32768x1, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x1, .f32⟩
  | 118 => ⟨S32768x1024, .f32⟩
  | 119 => ⟨S32768x1024, .f32⟩
  | 120 => ⟨S1x1024, .f32⟩
  | 121 => ⟨S32768x1024, .f32⟩
  | 122 => ⟨S32768x1024, .f32⟩
  | 123 => ⟨S32768x4096, .f32⟩
  | 124 => ⟨S_, .f32⟩
  | 125 => ⟨S32768x4096, .f32⟩
  | 126 => ⟨S32768x4096, .f32⟩
  | 127 => ⟨S32768x4096, .f32⟩
  | _ => ⟨S32768x1024, .f32⟩

abbrev hbmTy0_1 (i : Nat) : BufTy := match i % 128 with
  | 0 => ⟨S32768x1024, .f32⟩
  | 1 => ⟨S32768x1024, .f32⟩
  | 2 => ⟨S_, .f32⟩
  | 3 => ⟨S32768, .f32⟩
  | 4 => ⟨S32768x1, .f32⟩
  | 5 => ⟨S_, .f32⟩
  | 6 => ⟨S32768x1, .f32⟩
  | 7 => ⟨S32768x1, .f32⟩
  | 8 => ⟨S_, .f32⟩
  | 9 => ⟨S32768x1, .f32⟩
  | 10 => ⟨S32768x1, .f32⟩
  | 11 => ⟨S32768x1, .f32⟩
  | 12 => ⟨S32768x1024, .f32⟩
  | 13 => ⟨S32768x1024, .f32⟩
  | 14 => ⟨S1x1024, .f32⟩
  | 15 => ⟨S32768x1024, .f32⟩
  | 16 => ⟨S32768x1024, .f32⟩
  | 17 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call0_cst : Ref sig .tc := ⟨.hbm, 124, rfl⟩
abbrev main_call0_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_17 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_cst_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== Inp.lean ====
abbrev S32768x1024 : Shape := ⟨2, ![32768, 1024]⟩
abbrev S1024 : Shape := ⟨1, ![1024]⟩
abbrev S1024x1024 : Shape := ⟨2, ![1024, 1024]⟩
abbrev S1x1024 : Shape := ⟨2, ![1, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S32768x512, .bf16⟩
  | .hbm, ⟨6, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InpRefIdeal.lean ====
abbrev S32768x1024 : Shape := ⟨2, ![32768, 1024]⟩
abbrev S1024 : Shape := ⟨1, ![1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Ssm.lean ====
abbrev S32768x512 : Shape := ⟨2, ![32768, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S32x16 : Shape := ⟨2, ![32, 16]⟩
abbrev S1 : Shape := ⟨1, ![1]⟩
abbrev S17 : Shape := ⟨1, ![17]⟩
abbrev S16x16 : Shape := ⟨2, ![16, 16]⟩
abbrev S8 : Shape := ⟨1, ![8]⟩
abbrev S2x32x1 : Shape := ⟨3, ![2, 32, 1]⟩
abbrev S1x1x1x1 : Shape := ⟨4, ![1, 1, 1, 1]⟩
abbrev S1x2x32x64 : Shape := ⟨4, ![1, 2, 32, 64]⟩
abbrev S_ : Shape := ⟨0, ![]⟩
abbrev S2x32x64x1 : Shape := ⟨4, ![2, 32, 64, 1]⟩
abbrev S17x1x1x1 : Shape := ⟨4, ![17, 1, 1, 1]⟩
abbrev S17x2x32x64 : Shape := ⟨4, ![17, 2, 32, 64]⟩
abbrev S1x2x32x16x64 : Shape := ⟨5, ![1, 2, 32, 16, 64]⟩
abbrev S17x2x32x1x64 : Shape := ⟨5, ![17, 2, 32, 1, 64]⟩
abbrev S17x2x32x16x64 : Shape := ⟨5, ![17, 2, 32, 16, 64]⟩
abbrev S2x32x16x17x16 : Shape := ⟨5, ![2, 32, 16, 17, 16]⟩
abbrev S17x2x32x16x16 : Shape := ⟨5, ![17, 2, 32, 16, 16]⟩
abbrev S1x1x32x16x16 : Shape := ⟨5, ![1, 1, 32, 16, 16]⟩
abbrev S32x16x16 : Shape := ⟨3, ![32, 16, 16]⟩
abbrev S32x16x1 : Shape := ⟨3, ![32, 16, 1]⟩
abbrev S1x16x16 : Shape := ⟨3, ![1, 16, 16]⟩
abbrev S15x1x32x16x16 : Shape := ⟨5, ![15, 1, 32, 16, 16]⟩
abbrev S15x32x16x16 : Shape := ⟨4, ![15, 32, 16, 16]⟩
abbrev S1x32x16x16 : Shape := ⟨4, ![1, 32, 16, 16]⟩
abbrev S31x32x16x16 : Shape := ⟨4, ![31, 32, 16, 16]⟩
abbrev S16x16x1 : Shape := ⟨3, ![16, 16, 1]⟩
abbrev S16x16x32x16x16 : Shape := ⟨5, ![16, 16, 32, 16, 16]⟩
abbrev S32x16x16x16x16 : Shape := ⟨5, ![32, 16, 16, 16, 16]⟩
abbrev S32x256x256 : Shape := ⟨3, ![32, 256, 256]⟩
abbrev S16x1x32x64 : Shape := ⟨4, ![16, 1, 32, 64]⟩
abbrev S16x32x64 : Shape := ⟨3, ![16, 32, 64]⟩
abbrev S16x2x32x64 : Shape := ⟨4, ![16, 2, 32, 64]⟩
abbrev S16x2x32x64x1 : Shape := ⟨5, ![16, 2, 32, 64, 1]⟩
abbrev S1x2x32x64x16 : Shape := ⟨5, ![1, 2, 32, 64, 16]⟩
abbrev S16x2x32x64x16 : Shape := ⟨5, ![16, 2, 32, 64, 16]⟩
abbrev S16x2x1x32x64x16 : Shape := ⟨6, ![16, 2, 1, 32, 64, 16]⟩
abbrev S16x2x2x32x64x16 : Shape := ⟨6, ![16, 2, 2, 32, 64, 16]⟩
abbrev S32x16x16x2x2x64 : Shape := ⟨6, ![32, 16, 16, 2, 2, 64]⟩
abbrev S16x2x32x1x64 : Shape := ⟨5, ![16, 2, 32, 1, 64]⟩
abbrev S16x2x32x16x64 : Shape := ⟨5, ![16, 2, 32, 16, 64]⟩
abbrev S16x2x1x32x16x64 : Shape := ⟨6, ![16, 2, 1, 32, 16, 64]⟩
abbrev S16x2x2x32x16x64 : Shape := ⟨6, ![16, 2, 2, 32, 16, 64]⟩
abbrev S32x2x2x64x16x16 : Shape := ⟨6, ![32, 2, 2, 64, 16, 16]⟩
abbrev S8x1x1x1 : Shape := ⟨4, ![8, 1, 1, 1]⟩
abbrev S8x2x32x64 : Shape := ⟨4, ![8, 2, 32, 64]⟩
abbrev S2x32x128 : Shape := ⟨3, ![2, 32, 128]⟩
abbrev S2x32x1x128 : Shape := ⟨4, ![2, 32, 1, 128]⟩
abbrev S2x32x8x128 : Shape := ⟨4, ![2, 32, 8, 128]⟩
abbrev S8x2x32x128 : Shape := ⟨4, ![8, 2, 32, 128]⟩
abbrev S1x32x8x128 : Shape := ⟨4, ![1, 32, 8, 128]⟩
abbrev S32x8x128 : Shape := ⟨3, ![32, 8, 128]⟩
abbrev S2x32x1x8x128 : Shape := ⟨5, ![2, 32, 1, 8, 128]⟩
abbrev S2x32x8x8x128 : Shape := ⟨5, ![2, 32, 8, 8, 128]⟩
abbrev S32x2x8x8x128 : Shape := ⟨5, ![32, 2, 8, 8, 128]⟩
abbrev S2048x16x32x16 : Shape := ⟨4, ![2048, 16, 32, 16]⟩
abbrev S32x2048x16x16 : Shape := ⟨4, ![32, 2048, 16, 16]⟩
abbrev S32x2048x256 : Shape := ⟨3, ![32, 2048, 256]⟩
abbrev S1x2048x256 : Shape := ⟨3, ![1, 2048, 256]⟩
abbrev S1x256x256 : Shape := ⟨3, ![1, 256, 256]⟩
abbrev S1x2x8x8x128 : Shape := ⟨5, ![1, 2, 8, 8, 128]⟩
abbrev S2048x256 : Shape := ⟨2, ![2048, 256]⟩
abbrev S256x256 : Shape := ⟨2, ![256, 256]⟩
abbrev S8x128 : Shape := ⟨2, ![8, 128]⟩
abbrev S1x1x1x8x128 : Shape := ⟨5, ![1, 1, 1, 8, 128]⟩
abbrev S1x128 : Shape := ⟨2, ![1, 128]⟩

abbrev nBuf : Space → Nat
  | .hbm => 322
  | .vmem => 14
  | .smem => 0
  | _ => 0

abbrev hbmTy0_0 (i : Nat) : BufTy := match i % 128 with
  | 0 => ⟨S32768x512, .bf16⟩
  | 1 => ⟨S2x32x64, .f32⟩
  | 2 => ⟨S2x32x64, .f32⟩
  | 3 => ⟨S2x32, .f32⟩
  | 4 => ⟨S2x32x64x16, .f32⟩
  | 5 => ⟨S2x32x64x16, .f32⟩
  | 6 => ⟨S2x32x16x64, .f32⟩
  | 7 => ⟨S2x32x16x64, .f32⟩
  | 8 => ⟨S32x16, .f32⟩
  | 9 => ⟨S1, .f32⟩
  | 10 => ⟨S17, .f32⟩
  | 11 => ⟨S16x16, .i32⟩
  | 12 => ⟨S16x16, .i1⟩
  | 13 => ⟨S8, .f32⟩
  | 14 => ⟨S2x32, .f32⟩
  | 15 => ⟨S2x32x1, .f32⟩
  | 16 => ⟨S2x32x64, .f32⟩
  | 17 => ⟨S2x32x64, .f32⟩
  | 18 => ⟨S2x32x64, .f32⟩
  | 19 => ⟨S2x32x64, .f32⟩
  | 20 => ⟨S1x1x1x1, .f32⟩
  | 21 => ⟨S1x2x32x64, .f32⟩
  | 22 => ⟨S1x2x32x64, .f32⟩
  | 23 => ⟨S1x2x32x64, .f32⟩
  | 24 => ⟨S1x2x32x64, .f32⟩
  | 25 => ⟨S1x2x32x64, .f32⟩
  | 26 => ⟨S1x2x32x64, .f32⟩
  | 27 => ⟨S1x2x32x64, .f32⟩
  | 28 => ⟨S1x2x32x64, .f32⟩
  | 29 => ⟨S1x2x32x64, .f32⟩
  | 30 => ⟨S1x2x32x64, .f32⟩
  | 31 => ⟨S1x2x32x64, .f32⟩
  | 32 => ⟨S1x2x32x64, .f32⟩
  | 33 => ⟨S1x2x32x64, .f32⟩
  | 34 => ⟨S1x2x32x64, .f32⟩
  | 35 => ⟨S2x32x64, .f32⟩
  | 36 => ⟨S2x32x64, .f32⟩
  | 37 => ⟨S2x32x64, .f32⟩
  | 38 => ⟨S2x32x64, .f32⟩
  | 39 => ⟨S2x32x64, .f32⟩
  | 40 => ⟨S_, .f32⟩
  | 41 => ⟨S2x32x64, .f32⟩
  | 42 => ⟨S2x32x64, .f32⟩
  | 43 => ⟨S2x32x64, .f32⟩
  | 44 => ⟨S2x32x64, .f32⟩
  | 45 => ⟨S2x32x64, .f32⟩
  | 46 => ⟨S2x32x64, .f32⟩
  | 47 => ⟨S2x32x64, .f32⟩
  | 48 => ⟨S_, .f32⟩
  | 49 => ⟨S2x32x64, .f32⟩
  | 50 => ⟨S2x32x64, .f32⟩
  | 51 => ⟨S2x32x64, .f32⟩
  | 52 => ⟨S2x32x64, .f32⟩
  | 53 => ⟨S2x32x64, .f32⟩
  | 54 => ⟨S2x32x64x1, .f32⟩
  | 55 => ⟨S2x32x64x16, .f32⟩
  | 56 => ⟨S2x32x64x16, .f32⟩
  | 57 => ⟨S2x32x64x1, .f32⟩
  | 58 => ⟨S2x32x64x16, .f32⟩
  | 59 => ⟨S2x32x64x16, .f32⟩
  | 60 => ⟨S2x32x64x16, .f32⟩
  | 61 => ⟨S2x32x64x1, .f32⟩
  | 62 => ⟨S2x32x64x16, .f32⟩
  | 63 => ⟨S2x32x64x16, .f32⟩
  | 64 => ⟨S2x32x64x1, .f32⟩
  | 65 => ⟨S2x32x64x16, .f32⟩
  | 66 => ⟨S2x32x64x16, .f32⟩
  | 67 => ⟨S2x32x64x16, .f32⟩
  | 68 => ⟨S17x1x1x1, .f32⟩
  | 69 => ⟨S1x2x32x64, .f32⟩
  | 70 => ⟨S17x2x32x64, .f32⟩
  | 71 => ⟨S17x2x32x64, .f32⟩
  | 72 => ⟨S17x2x32x64, .f32⟩
  | 73 => ⟨S17x2x32x64, .f32⟩
  | 74 => ⟨S1x2x32x64, .f32⟩
  | 75 => ⟨S17x2x32x64, .f32⟩
  | 76 => ⟨S17x2x32x64, .f32⟩
  | 77 => ⟨S17x2x32x64, .f32⟩
  | 78 => ⟨S17x2x32x64, .f32⟩
  | 79 => ⟨S17x2x32x64, .f32⟩
  | 80 => ⟨S1x2x32x64, .f32⟩
  | 81 => ⟨S17x2x32x64, .f32⟩
  | 82 => ⟨S17x2x32x64, .f32⟩
  | 83 => ⟨S17x2x32x64, .f32⟩
  | 84 => ⟨S17x2x32x64, .f32⟩
  | 85 => ⟨S17x2x32x64, .f32⟩
  | 86 => ⟨S1x2x32x16x64, .f32⟩
  | 87 => ⟨S17x2x32x1x64, .f32⟩
  | 88 => ⟨S17x2x32x16x64, .f32⟩
  | 89 => ⟨S17x2x32x16x64, .f32⟩
  | 90 => ⟨S17x2x32x16x64, .f32⟩
  | 91 => ⟨S1x2x32x16x64, .f32⟩
  | 92 => ⟨S17x2x32x1x64, .f32⟩
  | 93 => ⟨S17x2x32x16x64, .f32⟩
  | 94 => ⟨S17x2x32x16x64, .f32⟩
  | 95 => ⟨S17x2x32x16x64, .f32⟩
  | 96 => ⟨S17x2x32x16x64, .f32⟩
  | 97 => ⟨S1x2x32x16x64, .f32⟩
  | 98 => ⟨S17x2x32x1x64, .f32⟩
  | 99 => ⟨S17x2x32x16x64, .f32⟩
  | 100 => ⟨S17x2x32x16x64, .f32⟩
  | 101 => ⟨S17x2x32x16x64, .f32⟩
  | 102 => ⟨S1x2x32x16x64, .f32⟩
  | 103 => ⟨S17x2x32x1x64, .f32⟩
  | 104 => ⟨S17x2x32x16x64, .f32⟩
  | 105 => ⟨S17x2x32x16x64, .f32⟩
  | 106 => ⟨S17x2x32x16x64, .f32⟩
  | 107 => ⟨S17x2x32x16x64, .f32⟩
  | 108 => ⟨S2x32x16x17x16, .f32⟩
  | 109 => ⟨S17x2x32x16x16, .f32⟩
  | 110 => ⟨S2x32x16x17x16, .f32⟩
  | 111 => ⟨S17x2x32x16x16, .f32⟩
  | 112 => ⟨S17x2x32x16x16, .f32⟩
  | 113 => ⟨S16x16, .i32⟩
  | 114 => ⟨S16x16, .i32⟩
  | 115 => ⟨S_, .i32⟩
  | 116 => ⟨S16x16, .i32⟩
  | 117 => ⟨S16x16, .i32⟩
  | 118 => ⟨S16x16, .i1⟩
  | 119 => ⟨S16x16, .f32⟩
  | 120 => ⟨S1x1x32x16x16, .f32⟩
  | 121 => ⟨S32x16x16, .f32⟩
  | 122 => ⟨S1x1x32x16x16, .f32⟩
  | 123 => ⟨S32x16x16, .f32⟩
  | 124 => ⟨S32x16x16, .f32⟩
  | 125 => ⟨S32x16x1, .f32⟩
  | 126 => ⟨S1x16x16, .f32⟩
  | 127 => ⟨S32x16x16, .f32⟩
  | _ => ⟨S32768x512, .bf16⟩

abbrev hbmTy0_1 (i : Nat) : BufTy := match i % 128 with
  | 0 => ⟨S32x16x16, .f32⟩
  | 1 => ⟨S32x16x16, .f32⟩
  | 2 => ⟨S32x16x16, .f32⟩
  | 3 => ⟨S15x1x32x16x16, .f32⟩
  | 4 => ⟨S15x32x16x16, .f32⟩
  | 5 => ⟨S15x32x16x16, .f32⟩
  | 6 => ⟨S1x32x16x16, .f32⟩
  | 7 => ⟨S15x1x32x16x16, .f32⟩
  | 8 => ⟨S15x32x16x16, .f32⟩
  | 9 => ⟨S31x32x16x16, .f32⟩
  | 10 => ⟨S_, .i32⟩
  | 11 => ⟨S16x16, .i32⟩
  | 12 => ⟨S16x16, .i32⟩
  | 13 => ⟨S16x16, .i32⟩
  | 14 => ⟨S16x16x1, .i32⟩
  | 15 => ⟨S16x16x32x16x16, .f32⟩
  | 16 => ⟨S32x16x16x16x16, .f32⟩
  | 17 => ⟨S32x256x256, .f32⟩
  | 18 => ⟨S16x1x32x64, .f32⟩
  | 19 => ⟨S16x32x64, .f32⟩
  | 20 => ⟨S16x32x64, .f32⟩
  | 21 => ⟨S16x1x32x64, .f32⟩
  | 22 => ⟨S16x32x64, .f32⟩
  | 23 => ⟨S16x1x32x64, .f32⟩
  | 24 => ⟨S16x1x32x64, .f32⟩
  | 25 => ⟨S16x2x32x64, .f32⟩
  | 26 => ⟨S16x1x32x64, .f32⟩
  | 27 => ⟨S16x32x64, .f32⟩
  | 28 => ⟨S16x32x64, .f32⟩
  | 29 => ⟨S16x1x32x64, .f32⟩
  | 30 => ⟨S16x32x64, .f32⟩
  | 31 => ⟨S16x1x32x64, .f32⟩
  | 32 => ⟨S16x1x32x64, .f32⟩
  | 33 => ⟨S16x2x32x64, .f32⟩
  | 34 => ⟨S16x2x32x64x1, .f32⟩
  | 35 => ⟨S1x2x32x64x16, .f32⟩
  | 36 => ⟨S16x2x32x64x16, .f32⟩
  | 37 => ⟨S16x2x32x64x16, .f32⟩
  | 38 => ⟨S16x2x32x64x16, .f32⟩
  | 39 => ⟨S16x2x32x64x1, .f32⟩
  | 40 => ⟨S1x2x32x64x16, .f32⟩
  | 41 => ⟨S16x2x32x64x16, .f32⟩
  | 42 => ⟨S16x2x32x64x16, .f32⟩
  | 43 => ⟨S16x2x32x64x16, .f32⟩
  | 44 => ⟨S16x2x32x64x16, .f32⟩
  | 45 => ⟨S16x2x32x64x1, .f32⟩
  | 46 => ⟨S1x2x32x64x16, .f32⟩
  | 47 => ⟨S16x2x32x64x16, .f32⟩
  | 48 => ⟨S16x2x32x64x16, .f32⟩
  | 49 => ⟨S16x2x32x64x16, .f32⟩
  | 50 => ⟨S16x2x32x64x1, .f32⟩
  | 51 => ⟨S1x2x32x64x16, .f32⟩
  | 52 => ⟨S16x2x32x64x16, .f32⟩
  | 53 => ⟨S16x2x32x64x16, .f32⟩
  | 54 => ⟨S16x2x32x64x16, .f32⟩
  | 55 => ⟨S16x2x32x64x16, .f32⟩
  | 56 => ⟨S16x2x1x32x64x16, .f32⟩
  | 57 => ⟨S16x2x1x32x64x16, .f32⟩
  | 58 => ⟨S16x2x2x32x64x16, .f32⟩
  | 59 => ⟨S32x16x16x2x2x64, .f32⟩
  | 60 => ⟨S32x256x256, .f32⟩
  | 61 => ⟨S16x1x32x64, .f32⟩
  | 62 => ⟨S16x32x64, .f32⟩
  | 63 => ⟨S16x1x32x64, .f32⟩
  | 64 => ⟨S16x32x64, .f32⟩
  | 65 => ⟨S16x32x64, .f32⟩
  | 66 => ⟨S16x1x32x64, .f32⟩
  | 67 => ⟨S16x1x32x64, .f32⟩
  | 68 => ⟨S16x2x32x64, .f32⟩
  | 69 => ⟨S16x1x32x64, .f32⟩
  | 70 => ⟨S16x32x64, .f32⟩
  | 71 => ⟨S16x1x32x64, .f32⟩
  | 72 => ⟨S16x32x64, .f32⟩
  | 73 => ⟨S16x32x64, .f32⟩
  | 74 => ⟨S16x1x32x64, .f32⟩
  | 75 => ⟨S16x1x32x64, .f32⟩
  | 76 => ⟨S16x2x32x64, .f32⟩
  | 77 => ⟨S1x2x32x16x64, .f32⟩
  | 78 => ⟨S16x2x32x1x64, .f32⟩
  | 79 => ⟨S16x2x32x16x64, .f32⟩
  | 80 => ⟨S16x2x32x16x64, .f32⟩
  | 81 => ⟨S16x2x32x16x64, .f32⟩
  | 82 => ⟨S1x2x32x16x64, .f32⟩
  | 83 => ⟨S16x2x32x1x64, .f32⟩
  | 84 => ⟨S16x2x32x16x64, .f32⟩
  | 85 => ⟨S16x2x32x16x64, .f32⟩
  | 86 => ⟨S16x2x32x16x64, .f32⟩
  | 87 => ⟨S16x2x32x16x64, .f32⟩
  | 88 => ⟨S1x2x32x16x64, .f32⟩
  | 89 => ⟨S16x2x32x1x64, .f32⟩
  | 90 => ⟨S16x2x32x16x64, .f32⟩
  | 91 => ⟨S16x2x32x16x64, .f32⟩
  | 92 => ⟨S16x2x32x16x64, .f32⟩
  | 93 => ⟨S1x2x32x16x64, .f32⟩
  | 94 => ⟨S16x2x32x1x64, .f32⟩
  | 95 => ⟨S16x2x32x16x64, .f32⟩
  | 96 => ⟨S16x2x32x16x64, .f32⟩
  | 97 => ⟨S16x2x32x16x64, .f32⟩
  | 98 => ⟨S16x2x32x16x64, .f32⟩
  | 99 => ⟨S16x2x32x16x64, .f32⟩
  | 100 => ⟨S16x2x1x32x16x64, .f32⟩
  | 101 => ⟨S16x2x1x32x16x64, .f32⟩
  | 102 => ⟨S16x2x2x32x16x64, .f32⟩
  | 103 => ⟨S32x2x2x64x16x16, .f32⟩
  | 104 => ⟨S32x256x256, .f32⟩
  | 105 => ⟨S8x1x1x1, .f32⟩
  | 106 => ⟨S1x2x32x64, .f32⟩
  | 107 => ⟨S8x2x32x64, .f32⟩
  | 108 => ⟨S8x2x32x64, .f32⟩
  | 109 => ⟨S8x2x32x64, .f32⟩
  | 110 => ⟨S8x2x32x64, .f32⟩
  | 111 => ⟨S1x2x32x64, .f32⟩
  | 112 => ⟨S8x2x32x64, .f32⟩
  | 113 => ⟨S8x2x32x64, .f32⟩
  | 114 => ⟨S8x2x32x64, .f32⟩
  | 115 => ⟨S8x2x32x64, .f32⟩
  | 116 => ⟨S8x2x32x64, .f32⟩
  | 117 => ⟨S1x2x32x64, .f32⟩
  | 118 => ⟨S8x2x32x64, .f32⟩
  | 119 => ⟨S8x2x32x64, .f32⟩
  | 120 => ⟨S8x2x32x64, .f32⟩
  | 121 => ⟨S8x2x32x64, .f32⟩
  | 122 => ⟨S8x2x32x64, .f32⟩
  | 123 => ⟨S1x2x32x64, .f32⟩
  | 124 => ⟨S2x32x64, .f32⟩
  | 125 => ⟨S1x2x32x64, .f32⟩
  | 126 => ⟨S2x32x64, .f32⟩
  | 127 => ⟨S2x32x128, .f32⟩
  | _ => ⟨S32768x512, .bf16⟩

abbrev hbmTy0_2 (i : Nat) : BufTy := match i % 128 with
  | 0 => ⟨S2x32x64, .f32⟩
  | 1 => ⟨S2x32x128, .f32⟩
  | 2 => ⟨S2x32x1x128, .f32⟩
  | 3 => ⟨S2x32x8x128, .f32⟩
  | 4 => ⟨S2x32x1x128, .f32⟩
  | 5 => ⟨S2x32x8x128, .f32⟩
  | 6 => ⟨S1x2x32x64, .f32⟩
  | 7 => ⟨S2x32x64, .f32⟩
  | 8 => ⟨S1x2x32x64, .f32⟩
  | 9 => ⟨S2x32x64, .f32⟩
  | 10 => ⟨S2x32x128, .f32⟩
  | 11 => ⟨S2x32x64, .f32⟩
  | 12 => ⟨S2x32x128, .f32⟩
  | 13 => ⟨S2x32x1x128, .f32⟩
  | 14 => ⟨S2x32x8x128, .f32⟩
  | 15 => ⟨S2x32x1x128, .f32⟩
  | 16 => ⟨S2x32x8x128, .f32⟩
  | 17 => ⟨S1x2x32x64, .f32⟩
  | 18 => ⟨S2x32x64, .f32⟩
  | 19 => ⟨S1x2x32x64, .f32⟩
  | 20 => ⟨S2x32x64, .f32⟩
  | 21 => ⟨S2x32x128, .f32⟩
  | 22 => ⟨S2x32x64, .f32⟩
  | 23 => ⟨S2x32x128, .f32⟩
  | 24 => ⟨S2x32x1x128, .f32⟩
  | 25 => ⟨S2x32x8x128, .f32⟩
  | 26 => ⟨S2x32x1x128, .f32⟩
  | 27 => ⟨S2x32x8x128, .f32⟩
  | 28 => ⟨S8x2x32x128, .f32⟩
  | 29 => ⟨S8x2x32x64, .f32⟩
  | 30 => ⟨S8x2x32x128, .f32⟩
  | 31 => ⟨S2x32x8x128, .f32⟩
  | 32 => ⟨S2x32x8x128, .f32⟩
  | 33 => ⟨S1x32x8x128, .f32⟩
  | 34 => ⟨S32x8x128, .f32⟩
  | 35 => ⟨S1x32x8x128, .f32⟩
  | 36 => ⟨S32x8x128, .f32⟩
  | 37 => ⟨S32x8x128, .f32⟩
  | 38 => ⟨S1x32x8x128, .f32⟩
  | 39 => ⟨S1x32x8x128, .f32⟩
  | 40 => ⟨S2x32x8x128, .f32⟩
  | 41 => ⟨S1x32x8x128, .f32⟩
  | 42 => ⟨S32x8x128, .f32⟩
  | 43 => ⟨S1x32x8x128, .f32⟩
  | 44 => ⟨S32x8x128, .f32⟩
  | 45 => ⟨S32x8x128, .f32⟩
  | 46 => ⟨S1x32x8x128, .f32⟩
  | 47 => ⟨S1x32x8x128, .f32⟩
  | 48 => ⟨S2x32x8x128, .f32⟩
  | 49 => ⟨S2x32x1x8x128, .f32⟩
  | 50 => ⟨S2x32x1x8x128, .f32⟩
  | 51 => ⟨S2x32x1x8x128, .f32⟩
  | 52 => ⟨S2x32x1x8x128, .f32⟩
  | 53 => ⟨S2x32x1x8x128, .f32⟩
  | 54 => ⟨S2x32x1x8x128, .f32⟩
  | 55 => ⟨S2x32x1x8x128, .f32⟩
  | 56 => ⟨S2x32x1x8x128, .f32⟩
  | 57 => ⟨S2x32x8x8x128, .f32⟩
  | 58 => ⟨S32x2x8x8x128, .f32⟩
  | 59 => ⟨S32x256x256, .bf16⟩
  | 60 => ⟨S32x256x256, .bf16⟩
  | 61 => ⟨S32x256x256, .bf16⟩
  | 62 => ⟨S2048x16x32x16, .bf16⟩
  | 63 => ⟨S32x2048x16x16, .bf16⟩
  | 64 => ⟨S32x2048x256, .bf16⟩
  | 65 => ⟨S32x2048x256, .bf16⟩
  | _ => ⟨S32768x512, .bf16⟩

abbrev hbmTy (i : Nat) : BufTy := match i / 128 with
  | 0 => hbmTy0_0 i
  | 1 => hbmTy0_1 i
  | 2 => hbmTy0_2 i
  | _ => ⟨S32768x512, .bf16⟩

abbrev bufTy : (tb : Table) → Fin (tcTables nBuf tb) → BufTy
  | .hbm, ⟨i, _⟩ => hbmTy i
  | .local _ .vmem, ⟨0, _⟩ => ⟨S1x2048x256, .bf16⟩
  | .local _ .vmem, ⟨1, _⟩ => ⟨S1x2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x2x8x8x128, .f32⟩
  | .local _ .vmem, ⟨9, _⟩ => ⟨S1x2x8x8x128, .f32⟩
  | .local _ .vmem, ⟨10, _⟩ => ⟨S1x2048x256, .bf16⟩
  | .local _ .vmem, ⟨11, _⟩ => ⟨S1x2048x256, .bf16⟩
  | .local _ .vmem, ⟨12, _⟩ => ⟨S2048x256, .f32⟩
  | .local _ .vmem, ⟨13, _⟩ => ⟨S2048x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_c : Ref sig .tc := ⟨.hbm, 11, rfl⟩
abbrev main_c_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_c_5 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_c_6 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩
abbrev main_v276 : Ref sig .tc := ⟨.hbm, 294, rfl⟩
abbrev main_v277 : Ref sig .tc := ⟨.hbm, 295, rfl⟩
abbrev main_v278 : Ref sig .tc := ⟨.hbm, 296, rfl⟩
abbrev main_v279 : Ref sig .tc := ⟨.hbm, 297, rfl⟩
abbrev main_v280 : Ref sig .tc := ⟨.hbm, 298, rfl⟩
abbrev main_v281 : Ref sig .tc := ⟨.hbm, 299, rfl⟩
abbrev main_v282 : Ref sig .tc := ⟨.hbm, 300, rfl⟩
abbrev main_v283 : Ref sig .tc := ⟨.hbm, 301, rfl⟩
abbrev main_v284 : Ref sig .tc := ⟨.hbm, 302, rfl⟩
abbrev main_v285 : Ref sig .tc := ⟨.hbm, 303, rfl⟩
abbrev main_v286 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_v291 : Ref sig .tc := ⟨.hbm, 309, rfl⟩
abbrev main_v292 : Ref sig .tc := ⟨.hbm, 310, rfl⟩
abbrev main_v293 : Ref sig .tc := ⟨.hbm, 311, rfl⟩
abbrev main_v294 : Ref sig .tc := ⟨.hbm, 312, rfl⟩
abbrev main_v295 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v42 : BitVec 32 := Scalar.addi c0_i32 c64_i32
  let c1_i32 : BitVec 32 := 1#32
  ⟨c0_i32, v42, c1_i32⟩
def k0_mult1 (k0_t1 : Fin k0_t1_loop.trips) : BitVec 32 :=
  let c0_i32_95 : BitVec 32 := 0#32
  let c0_i32 : BitVec 32 := 0#32
  let c1_i32 : BitVec 32 := 1#32
  let arg9 : BitVec 32 := Scf.iv c0_i32 c1_i32 k0_t1
  let c8_i32 : BitVec 32 := 8#32
  let v57 : BitVec 32 := Scalar.muli arg9 c8_i32
  let v58 : BitVec 32 := Scalar.addi c0_i32_95 v57
  v58
def k0_off1 (k0_t1 : Fin k0_t1_loop.trips) (c0_i32_95 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v57 : BitVec 32 := Scalar.muli arg9 c8_i32
  let v58 : BitVec 32 := Scalar.addi c0_i32_95 v57
  let v59 : BitVec 32 := v58
  let v60 : Index := Scalar.indexCast v59
  let c0_96 : Index := 0#32
  ![v60.toNat, 0]
def k0_mult2 (k0_t1 : Fin k0_t1_loop.trips) : BitVec 32 :=
  let c0_i32_112 : BitVec 32 := 0#32
  let c63_i32 : BitVec 32 := 63#32
  let c0_i32 : BitVec 32 := 0#32
  let c1_i32 : BitVec 32 := 1#32
  let arg9 : BitVec 32 := Scf.iv c0_i32 c1_i32 k0_t1
  let v108 : BitVec 32 := Scalar.subi c63_i32 arg9
  let c8_i32_111 : BitVec 32 := 8#32
  let v109 : BitVec 32 := Scalar.muli v108 c8_i32_111
  let v110 : BitVec 32 := Scalar.addi c0_i32_112 v109
  v110
def k0_off2 (k0_t1 : Fin k0_t1_loop.trips) (c0_i32_112 : BitVec 32) : Fin 2 → Nat :=
  let c63_i32 : BitVec 32 := 63#32
  let c0_i32 : BitVec 32 := 0#32
  let c1_i32 : BitVec 32 := 1#32
  let arg9 : BitVec 32 := Scf.iv c0_i32 c1_i32 k0_t1
  let v108 : BitVec 32 := Scalar.subi c63_i32 arg9
  let c8_i32_111 : BitVec 32 := 8#32
  let v109 : BitVec 32 := Scalar.muli v108 c8_i32_111
  let v110 : BitVec 32 := Scalar.addi c0_i32_112 v109
  let v111 : BitVec 32 := v110
  let v112 : Index := Scalar.indexCast v111
  let c128 : Index := 128#32
  ![v112.toNat, 128]
def k0_mult3 (k0_t1 : Fin k0_t1_loop.trips) : BitVec 32 :=
  let c512_i32 : BitVec 32 := 512#32
  let c0_i32 : BitVec 32 := 0#32
  let c1_i32 : BitVec 32 := 1#32
  let arg9 : BitVec 32 := Scf.iv c0_i32 c1_i32 k0_t1
  let c8_i32_125 : BitVec 32 := 8#32
  let v160 : BitVec 32 := Scalar.muli arg9 c8_i32_125
  let v161 : BitVec 32 := Scalar.addi c512_i32 v160
  v161
def k0_mult4 (k0_t1 : Fin k0_t1_loop.trips) : BitVec 32 :=
  let c512_i32_145 : BitVec 32 := 512#32
  let c63_i32_143 : BitVec 32 := 63#32
  let c0_i32 : BitVec 32 := 0#32
  let c1_i32 : BitVec 32 := 1#32
  let arg9 : BitVec 32 := Scf.iv c0_i32 c1_i32 k0_t1
  let v211 : BitVec 32 := Scalar.subi c63_i32_143 arg9
  let c8_i32_144 : BitVec 32 := 8#32
  let v212 : BitVec 32 := Scalar.muli v211 c8_i32_144
  let v213 : BitVec 32 := Scalar.addi c512_i32_145 v212
  v213
def k0_mult5 (k0_t1 : Fin k0_t1_loop.trips) : BitVec 32 :=
  let c1024_i32 : BitVec 32 := 1024#32
  let c0_i32 : BitVec 32 := 0#32
  let c1_i32 : BitVec 32 := 1#32
  let arg9 : BitVec 32 := Scf.iv c0_i32 c1_i32 k0_t1
  let c8_i32_163 : BitVec 32 := 8#32
  let v263 : BitVec 32 := Scalar.muli arg9 c8_i32_163
  let v264 : BitVec 32 := Scalar.addi c1024_i32 v263
  v264
def k0_mult6 (k0_t1 : Fin k0_t1_loop.trips) : BitVec 32 :=
  let c1024_i32_183 : BitVec 32 := 1024#32
  let c63_i32_181 : BitVec 32 := 63#32
  let c0_i32 : BitVec 32 := 0#32
  let c1_i32 : BitVec 32 := 1#32
  let arg9 : BitVec 32 := Scf.iv c0_i32 c1_i32 k0_t1
  let v314 : BitVec 32 := Scalar.subi c63_i32_181 arg9
  let c8_i32_182 : BitVec 32 := 8#32
  let v315 : BitVec 32 := Scalar.muli v314 c8_i32_182
  let v316 : BitVec 32 := Scalar.addi c1024_i32_183 v315
  v316
def k0_mult7 (k0_t1 : Fin k0_t1_loop.trips) : BitVec 32 :=
  let c1536_i32 : BitVec 32 := 1536#32
  let c0_i32 : BitVec 32 := 0#32
  let c1_i32 : BitVec 32 := 1#32
  let arg9 : BitVec 32 := Scf.iv c0_i32 c1_i32 k0_t1
  let c8_i32_201 : BitVec 32 := 8#32
  let v366 : BitVec 32 := Scalar.muli arg9 c8_i32_201
  let v367 : BitVec 32 := Scalar.addi c1536_i32 v366
  v367
def k0_mult8 (k0_t1 : Fin k0_t1_loop.trips) : BitVec 32 :=
  let c1536_i32_221 : BitVec 32 := 1536#32
  let c63_i32_219 : BitVec 32 := 63#32
  let c0_i32 : BitVec 32 := 0#32
  let c1_i32 : BitVec 32 := 1#32
  let arg9 : BitVec 32 := Scf.iv c0_i32 c1_i32 k0_t1
  let v417 : BitVec 32 := Scalar.subi c63_i32_219 arg9
  let c8_i32_220 : BitVec 32 := 8#32
  let v418 : BitVec 32 := Scalar.muli v417 c8_i32_220
  let v419 : BitVec 32 := Scalar.addi c1536_i32_221 v418
  v419
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SsmRefIdeal.lean ====
abbrev S32768x512 : Shape := ⟨2, ![32768, 512]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S32x16 : Shape := ⟨2, ![32, 16]⟩
abbrev S4x8192x32x16 : Shape := ⟨4, ![4, 8192, 32, 16]⟩
abbrev S2x32x1 : Shape := ⟨3, ![2, 32, 1]⟩
abbrev S_ : Shape := ⟨0, ![]⟩
abbrev S2x32x64x1 : Shape := ⟨4, ![2, 32, 64, 1]⟩
abbrev S32x2x64x4x8192 : Shape := ⟨5, ![32, 2, 64, 4, 8192]⟩
abbrev S8192x2x4x32x64 : Shape := ⟨5, ![8192, 2, 4, 32, 64]⟩
abbrev S2x1x32x64 : Shape := ⟨4, ![2, 1, 32, 64]⟩
abbrev S2x4x32x64 : Shape := ⟨4, ![2, 4, 32, 64]⟩
abbrev S8192x1x4x32x64 : Shape := ⟨5, ![8192, 1, 4, 32, 64]⟩
abbrev S8192x4x32x64 : Shape := ⟨4, ![8192, 4, 32, 64]⟩
abbrev S1x2x4x32x64 : Shape := ⟨5, ![1, 2, 4, 32, 64]⟩
abbrev S32x16x8192x4 : Shape := ⟨4, ![32, 16, 8192, 4]⟩
abbrev S1x1x32x16 : Shape := ⟨4, ![1, 1, 32, 16]⟩
abbrev S2048x16x32x16 : Shape := ⟨4, ![2048, 16, 32, 16]⟩
abbrev S32x2048x16x16 : Shape := ⟨4, ![32, 2048, 16, 16]⟩
abbrev S32x2048x256 : Shape := ⟨3, ![32, 2048, 256]⟩

abbrev nBuf : Space → Nat
  | .hbm => 164
  | .vmem => 0
  | .smem => 0
  | _ => 0

abbrev hbmTy0_0 (i : Nat) : BufTy := match i % 128 with
  | 0 => ⟨S32768x512, .bf16⟩
  | 1 => ⟨S2x32x64, .f32⟩
  | 2 => ⟨S2x32x64, .f32⟩
  | 3 => ⟨S2x32, .f32⟩
  | 4 => ⟨S2x32x64x16, .f32⟩
  | 5 => ⟨S2x32x64x16, .f32⟩
  | 6 => ⟨S2x32x16x64, .f32⟩
  | 7 => ⟨S2x32x16x64, .f32⟩
  | 8 => ⟨S32x16, .f32⟩
  | 9 => ⟨S32768x512, .f32⟩
  | 10 => ⟨S4x8192x32x16, .f32⟩
  | 11 => ⟨S2x32, .f32⟩
  | 12 => ⟨S2x32x1, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S_, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S2x32x64, .f32⟩
  | 34 => ⟨S2x32x64, .f32⟩
  | 35 => ⟨S_, .f32⟩
  | 36 => ⟨S2x32x64, .f32⟩
  | 37 => ⟨S2x32x64, .f32⟩
  | 38 => ⟨S2x32x64, .f32⟩
  | 39 => ⟨S2x32x64, .f32⟩
  | 40 => ⟨S2x32x64, .f32⟩
  | 41 => ⟨S2x32x64x1, .f32⟩
  | 42 => ⟨S2x32x64x16, .f32⟩
  | 43 => ⟨S2x32x64x16, .f32⟩
  | 44 => ⟨S2x32x64x1, .f32⟩
  | 45 => ⟨S2x32x64x16, .f32⟩
  | 46 => ⟨S2x32x64x16, .f32⟩
  | 47 => ⟨S2x32x64x16, .f32⟩
  | 48 => ⟨S2x32x64x1, .f32⟩
  | 49 => ⟨S2x32x64x16, .f32⟩
  | 50 => ⟨S2x32x64x16, .f32⟩
  | 51 => ⟨S2x32x64x1, .f32⟩
  | 52 => ⟨S2x32x64x16, .f32⟩
  | 53 => ⟨S2x32x64x16, .f32⟩
  | 54 => ⟨S2x32x64x16, .f32⟩
  | 55 => ⟨S32x2x64x4x8192, .f32⟩
  | 56 => ⟨S8192x2x4x32x64, .f32⟩
  | 57 => ⟨S32x2x64x4x8192, .f32⟩
  | 58 => ⟨S8192x2x4x32x64, .f32⟩
  | 59 => ⟨S2x1x32x64, .f32⟩
  | 60 => ⟨S2x1x32x64, .f32⟩
  | 61 => ⟨S_, .f32⟩
  | 62 => ⟨S2x4x32x64, .f32⟩
  | 63 => ⟨S8192x1x4x32x64, .f32⟩
  | 64 => ⟨S8192x4x32x64, .f32⟩
  | 65 => ⟨S8192x1x4x32x64, .f32⟩
  | 66 => ⟨S8192x1x4x32x64, .f32⟩
  | 67 => ⟨S8192x4x32x64, .f32⟩
  | 68 => ⟨S8192x1x4x32x64, .f32⟩
  | 69 => ⟨S8192x1x4x32x64, .f32⟩
  | 70 => ⟨S8192x2x4x32x64, .f32⟩
  | 71 => ⟨S8192x1x4x32x64, .f32⟩
  | 72 => ⟨S8192x4x32x64, .f32⟩
  | 73 => ⟨S8192x1x4x32x64, .f32⟩
  | 74 => ⟨S8192x1x4x32x64, .f32⟩
  | 75 => ⟨S8192x4x32x64, .f32⟩
  | 76 => ⟨S8192x1x4x32x64, .f32⟩
  | 77 => ⟨S8192x1x4x32x64, .f32⟩
  | 78 => ⟨S8192x2x4x32x64, .f32⟩
  | 79 => ⟨S_, .f32⟩
  | 80 => ⟨S8192x2x4x32x64, .f32⟩
  | 81 => ⟨S_, .f32⟩
  | 82 => ⟨S8192x2x4x32x64, .f32⟩
  | 83 => ⟨S_, .i32⟩
  | 84 => ⟨S8192x2x4x32x64, .f32⟩
  | 85 => ⟨S8192x2x4x32x64, .f32⟩
  | 86 => ⟨S2x1x32x64, .f32⟩
  | 87 => ⟨S2x1x32x64, .f32⟩
  | 88 => ⟨S_, .i32⟩
  | 89 => ⟨S2x4x32x64, .f32⟩
  | 90 => ⟨S2x4x32x64, .f32⟩
  | 91 => ⟨S8192x2x4x32x64, .f32⟩
  | 92 => ⟨S8192x2x4x32x64, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x2x4x32x64, .f32⟩
  | 100 => ⟨S2x4x32x64, .f32⟩
  | 101 => ⟨S_, .i32⟩
  | 102 => ⟨S_, .i32⟩
  | 103 => ⟨S_, .i32⟩
  | 104 => ⟨S_, .i32⟩
  | 105 => ⟨S1x2x4x32x64, .f32⟩
  | 106 => ⟨S2x4x32x64, .f32⟩
  | 107 => ⟨S2x4x32x64, .f32⟩
  | 108 => ⟨S2x4x32x64, .f32⟩
  | 109 => ⟨S2x4x32x64, .f32⟩
  | 110 => ⟨S2x4x32x64, .f32⟩
  | 111 => ⟨S2x4x32x64, .f32⟩
  | 112 => ⟨S2x4x32x64, .f32⟩
  | 113 => ⟨S2x4x32x64, .f32⟩
  | 114 => ⟨S2x4x32x64, .f32⟩
  | 115 => ⟨S2x4x32x64, .f32⟩
  | 116 => ⟨S2x4x32x64, .f32⟩
  | 117 => ⟨S2x4x32x64, .f32⟩
  | 118 => ⟨S2x4x32x64, .f32⟩
  | 119 => ⟨S1x2x4x32x64, .f32⟩
  | 120 => ⟨S_, .i32⟩
  | 121 => ⟨S_, .i32⟩
  | 122 => ⟨S_, .i32⟩
  | 123 => ⟨S_, .i32⟩
  | 124 => ⟨S8192x2x4x32x64, .f32⟩
  | 125 => ⟨S1x2x4x32x64, .f32⟩
  | 126 => ⟨S_, .i32⟩
  | 127 => ⟨S_, .i32⟩
  | _ => ⟨S32768x512, .bf16⟩

abbrev hbmTy0_1 (i : Nat) : BufTy := match i % 128 with
  | 0 => ⟨S_, .i32⟩
  | 1 => ⟨S_, .i32⟩
  | 2 => ⟨S8192x2x4x32x64, .f32⟩
  | 3 => ⟨S_, .i32⟩
  | 4 => ⟨S_, .i32⟩
  | 5 => ⟨S8192x1x4x32x64, .f32⟩
  | 6 => ⟨S8192x4x32x64, .f32⟩
  | 7 => ⟨S8192x1x4x32x64, .f32⟩
  | 8 => ⟨S8192x1x4x32x64, .f32⟩
  | 9 => ⟨S8192x4x32x64, .f32⟩
  | 10 => ⟨S8192x1x4x32x64, .f32⟩
  | 11 => ⟨S8192x1x4x32x64, .f32⟩
  | 12 => ⟨S8192x2x4x32x64, .f32⟩
  | 13 => ⟨S32x16x8192x4, .f32⟩
  | 14 => ⟨S4x8192x32x16, .f32⟩
  | 15 => ⟨S8192x1x4x32x64, .f32⟩
  | 16 => ⟨S8192x4x32x64, .f32⟩
  | 17 => ⟨S8192x1x4x32x64, .f32⟩
  | 18 => ⟨S8192x1x4x32x64, .f32⟩
  | 19 => ⟨S8192x4x32x64, .f32⟩
  | 20 => ⟨S8192x1x4x32x64, .f32⟩
  | 21 => ⟨S8192x1x4x32x64, .f32⟩
  | 22 => ⟨S8192x2x4x32x64, .f32⟩
  | 23 => ⟨S32x16x8192x4, .f32⟩
  | 24 => ⟨S4x8192x32x16, .f32⟩
  | 25 => ⟨S4x8192x32x16, .f32⟩
  | 26 => ⟨S32768x512, .f32⟩
  | 27 => ⟨S4x8192x32x16, .f32⟩
  | 28 => ⟨S1x1x32x16, .f32⟩
  | 29 => ⟨S4x8192x32x16, .f32⟩
  | 30 => ⟨S4x8192x32x16, .f32⟩
  | 31 => ⟨S4x8192x32x16, .f32⟩
  | 32 => ⟨S2048x16x32x16, .f32⟩
  | 33 => ⟨S32x2048x16x16, .f32⟩
  | 34 => ⟨S32x2048x256, .f32⟩
  | 35 => ⟨S32x2048x256, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_2 : Ref sig .tc := ⟨.hbm, 79, rfl⟩
abbrev main_v67 : Ref sig .tc := ⟨.hbm, 80, rfl⟩
abbrev main_cst_3 : Ref sig .tc := ⟨.hbm, 81, rfl⟩
abbrev main_v68 : Ref sig .tc := ⟨.hbm, 82, rfl⟩
abbrev main_c : Ref sig .tc := ⟨.hbm, 83, rfl⟩
abbrev main_v69_0 : Ref sig .tc := ⟨.hbm, 84, rfl⟩
abbrev main_v69_1 : Ref sig .tc := ⟨.hbm, 85, rfl⟩
abbrev main_v69_2 : Ref sig .tc := ⟨.hbm, 86, rfl⟩
abbrev main_v69_3 : Ref sig .tc := ⟨.hbm, 87, rfl⟩
abbrev main_v69_4 : Ref sig .tc := ⟨.hbm, 88, rfl⟩
abbrev main_v69_5 : Ref sig .tc := ⟨.hbm, 89, rfl⟩
abbrev main_v69_6 : Ref sig .tc := ⟨.hbm, 90, rfl⟩
abbrev main_v69_7 : Ref sig .tc := ⟨.hbm, 91, rfl⟩
abbrev main_v69_8 : Ref sig .tc := ⟨.hbm, 92, rfl⟩
abbrev main_while0c_c_12 : Ref sig .tc := ⟨.hbm, 93, rfl⟩
abbrev main_while0c_v101 : Ref sig .tc := ⟨.hbm, 94, rfl⟩
abbrev main_while0b_call0_c : Ref sig .tc := ⟨.hbm, 95, rfl⟩
abbrev main_while0b_call0_c_0 : Ref sig .tc := ⟨.hbm, 96, rfl⟩
abbrev main_while0b_call0_c_1 : Ref sig .tc := ⟨.hbm, 97, rfl⟩
abbrev main_while0b_call0_c_2 : Ref sig .tc := ⟨.hbm, 98, rfl⟩
abbrev main_while0b_call0_v0 : Ref sig .tc := ⟨.hbm, 99, rfl⟩
abbrev main_while0b_v101 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v102 : Ref sig .tc := ⟨.hbm, 106, rfl⟩
abbrev main_while0b_v103 : Ref sig .tc := ⟨.hbm, 107, rfl⟩
abbrev main_while0b_v104 : Ref sig .tc := ⟨.hbm, 108, rfl⟩
abbrev main_while0b_v105 : Ref sig .tc := ⟨.hbm, 109, rfl⟩
abbrev main_while0b_v106 : Ref sig .tc := ⟨.hbm, 110, rfl⟩
abbrev main_while0b_v107 : Ref sig .tc := ⟨.hbm, 111, rfl⟩
abbrev main_while0b_v108 : Ref sig .tc := ⟨.hbm, 112, rfl⟩
abbrev main_while0b_v109 : Ref sig .tc := ⟨.hbm, 113, rfl⟩
abbrev main_while0b_v110 : Ref sig .tc := ⟨.hbm, 114, rfl⟩
abbrev main_while0b_v111 : Ref sig .tc := ⟨.hbm, 115, rfl⟩
abbrev main_while0b_v112 : Ref sig .tc := ⟨.hbm, 116, rfl⟩
abbrev main_while0b_v113 : Ref sig .tc := ⟨.hbm, 117, rfl⟩
abbrev main_while0b_v114 : Ref sig .tc := ⟨.hbm, 118, rfl⟩
abbrev main_while0b_call2_v0 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_c_1 : Ref sig .tc := ⟨.hbm, 122, rfl⟩
abbrev main_while0b_call2_c_2 : Ref sig .tc := ⟨.hbm, 123, rfl⟩
abbrev main_while0b_v115 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_call3_c_1 : Ref sig .tc := ⟨.hbm, 128, rfl⟩
abbrev main_while0b_call3_c_2 : Ref sig .tc := ⟨.hbm, 129, rfl⟩
abbrev main_while0b_v116 : Ref sig .tc := ⟨.hbm, 130, rfl⟩
abbrev main_while0b_c_12 : Ref sig .tc := ⟨.hbm, 131, rfl⟩
abbrev main_while0b_v117 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩

abbrev nD : Nat := 1
abbrev τ : Topo := Topo.v7x

variable {F : FTy → Type} [FloatOps F]

abbrev main_while0_count : Scf.Loop 32 := ⟨0#32, 8192#32, 1#32⟩
-- ==== Fft.lean ====
abbrev S32768x512 : Shape := ⟨2, ![32768, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x1x64 : Shape := ⟨3, ![64, 1, 64]⟩
abbrev S64x2x64 : Shape := ⟨3, ![64, 2, 64]⟩
abbrev S128x64 : Shape := ⟨2, ![128, 64]⟩
abbrev S128 : Shape := ⟨1, ![128]⟩
abbrev S64x1x1 : Shape := ⟨3, ![64, 1, 1]⟩
abbrev S1x128x1 : Shape := ⟨3, ![1, 128, 1]⟩
abbrev S64x128x1 : Shape := ⟨3, ![64, 128, 1]⟩
abbrev S1x1x128 : Shape := ⟨3, ![1, 1, 128]⟩
abbrev S64x128x128 : Shape := ⟨3, ![64, 128, 128]⟩
abbrev S64x128x256 : Shape := ⟨3, ![64, 128, 256]⟩
abbrev S64x256x256 : Shape := ⟨3, ![64, 256, 256]⟩
abbrev S4x64x65536 : Shape := ⟨3, ![4, 64, 65536]⟩
abbrev S4x128x65536 : Shape := ⟨3, ![4, 128, 65536]⟩
abbrev S1x64x8192 : Shape := ⟨3, ![1, 64, 8192]⟩
abbrev S1x128x8192 : Shape := ⟨3, ![1, 128, 8192]⟩
abbrev S64x8192 : Shape := ⟨2, ![64, 8192]⟩
abbrev S128x8192 : Shape := ⟨2, ![128, 8192]⟩
abbrev S4x64x256x512 : Shape := ⟨4, ![4, 64, 256, 512]⟩
abbrev S4x256x256 : Shape := ⟨3, ![4, 256, 256]⟩
abbrev S1x4x256x512 : Shape := ⟨4, ![1, 4, 256, 512]⟩
abbrev S1x256x256 : Shape := ⟨3, ![1, 256, 256]⟩
abbrev S256x256 : Shape := ⟨2, ![256, 256]⟩
abbrev S1x1x256x512 : Shape := ⟨4, ![1, 1, 256, 512]⟩
abbrev S256x512 : Shape := ⟨2, ![256, 512]⟩
abbrev S4x64x2x128x512 : Shape := ⟨5, ![4, 64, 2, 128, 512]⟩
abbrev S2x4x128x64x512 : Shape := ⟨5, ![2, 4, 128, 64, 512]⟩
abbrev S2x32768x512 : Shape := ⟨3, ![2, 32768, 512]⟩

abbrev nBuf : Space → Nat
  | .hbm => 69
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S64, .i32⟩
  | .hbm, ⟨2, _⟩ => ⟨S64x1, .i32⟩
  | .hbm, ⟨3, _⟩ => ⟨S1x64, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x1x64, .f32⟩
  | .hbm, ⟨24, _⟩ => ⟨S64x1x64, .f32⟩
  | .hbm, ⟨25, _⟩ => ⟨S64x2x64, .f32⟩
  | .hbm, ⟨26, _⟩ => ⟨S128x64, .f32⟩
  | .hbm, ⟨27, _⟩ => ⟨S128, .i32⟩
  | .hbm, ⟨28, _⟩ => ⟨S64x1x1, .i32⟩
  | .hbm, ⟨29, _⟩ => ⟨S1x128x1, .i32⟩
  | .hbm, ⟨30, _⟩ => ⟨S_, .i32⟩
  | .hbm, ⟨31, _⟩ => ⟨S1x128x1, .i32⟩
  | .hbm, ⟨32, _⟩ => ⟨S1x128x1, .i32⟩
  | .hbm, ⟨33, _⟩ => ⟨S64x128x1, .i32⟩
  | .hbm, ⟨34, _⟩ => ⟨S64x128x1, .i32⟩
  | .hbm, ⟨35, _⟩ => ⟨S64x128x1, .i32⟩
  | .hbm, ⟨36, _⟩ => ⟨S1x1x128, .i32⟩
  | .hbm, ⟨37, _⟩ => ⟨S64x128x128, .i32⟩
  | .hbm, ⟨38, _⟩ => ⟨S64x128x128, .i32⟩
  | .hbm, ⟨39, _⟩ => ⟨S64x128x128, .i32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S64x128x128, .i32⟩
  | .hbm, ⟨46, _⟩ => ⟨S64x128x128, .i32⟩
  | .hbm, ⟨47, _⟩ => ⟨S64x128x128, .f32⟩
  | .hbm, ⟨48, _⟩ => ⟨S_, .f32⟩
  | .hbm, ⟨49, _⟩ => ⟨S64x128x128, .f32⟩
  | .hbm, ⟨50, _⟩ => ⟨S64x128x128, .f32⟩
  | .hbm, ⟨51, _⟩ => ⟨S64x128x128, .f32⟩
  | .hbm, ⟨52, _⟩ => ⟨S64x128x128, .f32⟩
  | .hbm, ⟨53, _⟩ => ⟨S64x128x128, .f32⟩
  | .hbm, ⟨54, _⟩ => ⟨S64x128x128, .f32⟩
  | .hbm, ⟨55, _⟩ => ⟨S64x128x128, .f32⟩
  | .hbm, ⟨56, _⟩ => ⟨S64x128x128, .f32⟩
  | .hbm, ⟨57, _⟩ => ⟨S64x128x256, .f32⟩
  | .hbm, ⟨58, _⟩ => ⟨S64x128x256, .f32⟩
  | .hbm, ⟨59, _⟩ => ⟨S64x256x256, .f32⟩
  | .hbm, ⟨60, _⟩ => ⟨S128x64, .bf16⟩
  | .hbm, ⟨61, _⟩ => ⟨S64x256x256, .bf16⟩
  | .hbm, ⟨62, _⟩ => ⟨S4x64x65536, .bf16⟩
  | .hbm, ⟨63, _⟩ => ⟨S4x128x65536, .bf16⟩
  | .hbm, ⟨64, _⟩ => ⟨S4x64x256x512, .bf16⟩
  | .hbm, ⟨65, _⟩ => ⟨S4x64x256x512, .bf16⟩
  | .hbm, ⟨66, _⟩ => ⟨S4x64x2x128x512, .bf16⟩
  | .hbm, ⟨67, _⟩ => ⟨S2x4x128x64x512, .bf16⟩
  | .hbm, ⟨68, _⟩ => ⟨S2x32768x512, .bf16⟩
  | .local _ .vmem, ⟨0, _⟩ => ⟨S128x64, .bf16⟩
  | .local _ .vmem, ⟨1, _⟩ => ⟨S1x64x8192, .bf16⟩
  | .local _ .vmem, ⟨2, _⟩ => ⟨S1x64x8192, .bf16⟩
  | .local _ .vmem, ⟨3, _⟩ => ⟨S1x128x8192, .bf16⟩
  | .local _ .vmem, ⟨4, _⟩ => ⟨S1x128x8192, .bf16⟩
  | .local _ .vmem, ⟨5, _⟩ => ⟨S4x256x256, .bf16⟩
  | .local _ .vmem, ⟨6, _⟩ => ⟨S4x256x256, .bf16⟩
  | .local _ .vmem, ⟨7, _⟩ => ⟨S1x4x256x512, .bf16⟩
  | .local _ .vmem, ⟨8, _⟩ => ⟨S1x4x256x512, .bf16⟩
  | .local _ .vmem, ⟨9, _⟩ => ⟨S1x4x256x512, .bf16⟩
  | .local _ .vmem, ⟨10, _⟩ => ⟨S1x4x256x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_c_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S4x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== FftRefIdeal.lean ====
abbrev S32768x512 : Shape := ⟨2, ![32768, 512]⟩
abbrev S4x8192x512 : Shape := ⟨3, ![4, 8192, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x512x8192 : Shape := ⟨3, ![4, 512, 8192]⟩
abbrev S1x4x8192x512 : Shape := ⟨4, ![1, 4, 8192, 512]⟩
abbrev S2x4x8192x512 : Shape := ⟨4, ![2, 4, 8192, 512]⟩
abbrev S2x32768x512 : Shape := ⟨3, ![2, 32768, 512]⟩

abbrev nBuf : Space → Nat
  | .hbm => 34
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S4x8192x512, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S4x512x8192, .f32⟩
  | .hbm, ⟨24, _⟩ => ⟨S4x8192x512, .f32⟩
  | .hbm, ⟨25, _⟩ => ⟨S8192x8192, .f32⟩
  | .hbm, ⟨26, _⟩ => ⟨S8192x8192, .f32⟩
  | .hbm, ⟨27, _⟩ => ⟨S4x512x8192, .f32⟩
  | .hbm, ⟨28, _⟩ => ⟨S4x8192x512, .f32⟩
  | .hbm, ⟨29, _⟩ => ⟨S1x4x8192x512, .f32⟩
  | .hbm, ⟨30, _⟩ => ⟨S1x4x8192x512, .f32⟩
  | .hbm, ⟨31, _⟩ => ⟨S2x4x8192x512, .f32⟩
  | .hbm, ⟨32, _⟩ => ⟨S2x32768x512, .f32⟩
  | .hbm, ⟨33, _⟩ => ⟨S2x32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.LayerRow.lean ====
/- THE MATHEMATICS OF ONE TOKEN. Every function here takes the token's rows and the layer's weights as plain functions into
   the extended reals and says what one part of the layer computes for that token: the root-mean-square norm, the Fourier
   branch's head map, the gelu and its gated linear unit, the projection of the two branches, the feed-forward block. -/
module

public import Idealize.ShloMosaic.Lib.Pipeline.ValueKit
public import Idealize.ShloMosaic.Lib.Pointwise

@[expose] public section

noncomputable section

namespace Cert.LayerRow

open Idealize.ShloMosaic

/-- A row of `n` extended reals. -/
abbrev Row (n : ℕ) : Type := Fin n → EReal

/-- The root-mean-square norm of the row `v` with gain `g`: `v` times the reciprocal root of its mean square plus the
    small constant, times the gain. `n` is the row's length as a number. -/
def rms {k : ℕ} (n : EReal) (v g : Row k) (j : Fin k) : EReal :=
  v j * Ideal.rsqrt (Ideal.div (∑ l, v l * v l) n + Ideal.ofBits .f32 0x358637BD#32) * g j

/-- The Fourier branch of one token: its real and imaginary parts through their head maps, added. -/
def fourier (a b : Row 512) (p q : Fin 512 → Row 512) (j : Fin 512) : EReal :=
  (∑ k, a k * p k j) + ∑ k, b k * q k j

/-- The gelu (hyperbolic tangent form) of one number. -/
def gelu (s : EReal) : EReal :=
  s * (Ideal.ofBits .f32 0x3F000000#32 *
    (1 + Ideal.tanh (Ideal.ofBits .f32 0x3F4C422A#32 * (s + Ideal.ofBits .f32 0x3D372713#32 * (s * s * s)))))

/-- The gated linear unit of the recurrent branch: the gelu of each entry times the logistic of the gelu row's product with
    the gate's matrix, plus its bias. -/
def glu (s : Row 512) (w : Fin 512 → Row 512) (b : Row 512) (j : Fin 512) : EReal :=
  gelu (s j) * Ideal.div 1 (1 + Ideal.exp (-((∑ k, gelu (s k) * w k j) + b j)))

/-- The two branches side by side through the output projection: the first 512 rows of the matrix take the Fourier branch,
    the last 512 the recurrent one. -/
def project (f g : Row 512) (w : Fin 1024 → Row 1024) (j : Fin 1024) : EReal :=
  (∑ k : Fin 512, f k * w ⟨k, by omega⟩ j) + ∑ k : Fin 512, g k * w ⟨512 + k, by omega⟩ j

/-- One hidden unit of the feed-forward block: the square of the positive part of the row's product with its column. -/
def hidden (h : Row 1024) (w : Fin 1024 → Row 4096) (k : Fin 4096) : EReal :=
  max (∑ l, h l * w l k) 0 * max (∑ l, h l * w l k) 0

/-- The feed-forward block: the hidden units through the second matrix. -/
def ff (h : Row 1024) (w1 : Fin 1024 → Row 4096) (w2 : Fin 4096 → Row 1024) (j : Fin 1024) : EReal :=
  ∑ k, hidden h w1 k * w2 k j

/-- The feed-forward block in four parts of 1024 hidden units each, added up in order from zero: the same number, since a
    sum over 4096 units is the sum of its four parts. -/
theorem ff_tiles (h : Row 1024) (w1 : Fin 1024 → Row 4096) (w2 : Fin 4096 → Row 1024) (j : Fin 1024) :
    ff h w1 w2 j = (((0 + ∑ k : Fin 1024, hidden h w1 ⟨k, by omega⟩ * w2 ⟨k, by omega⟩ j)
      + ∑ k : Fin 1024, hidden h w1 ⟨1024 + k, by omega⟩ * w2 ⟨1024 + k, by omega⟩ j)
      + ∑ k : Fin 1024, hidden h w1 ⟨2048 + k, by omega⟩ * w2 ⟨2048 + k, by omega⟩ j)
      + ∑ k : Fin 1024, hidden h w1 ⟨3072 + k, by omega⟩ * w2 ⟨3072 + k, by omega⟩ j := by
  have e := Fin.sum_univ_tiles 4 1024 (N := 4096) rfl fun k : Fin 4096 => hidden h w1 k * w2 k j
  rw [ff, e, Fin.sum_univ_four, zero_add]
  simp only [Fin.val_zero, Fin.val_one, Fin.val_two, zero_mul, one_mul, zero_add, Nat.reduceMul]
  rfl

/-- One token after the mixing half of the layer: the input plus the normed projection of its two normed branches. -/
def mixed (x : Row 1024) (a b : Row 512) (s : Row 512) (p q : Fin 512 → Row 512) (fg : Row 512) (gw : Fin 512 → Row 512)
    (gb sg : Row 512) (o : Fin 1024 → Row 1024) (mg : Row 1024) (j : Fin 1024) : EReal :=
  x j + rms (Ideal.ofBits .f32 0x44800000#32)
    (project (rms (Ideal.ofBits .f32 0x44000000#32) (fourier a b p q) fg)
      (rms (Ideal.ofBits .f32 0x44000000#32) (glu s gw gb) sg) o) mg j

/-- One token through the feed-forward half: the row plus the normed feed-forward block of its norm. -/
def fed (x : Row 1024) (hg : Row 1024) (w1 : Fin 1024 → Row 4096) (w2 : Fin 4096 → Row 1024) (eg : Row 1024)
    (j : Fin 1024) : EReal :=
  x j + rms (Ideal.ofBits .f32 0x44800000#32) (ff (rms (Ideal.ofBits .f32 0x44800000#32) x hg) w1 w2) eg j

end Cert.LayerRow

end
-- ==== Proof.MlpBlock.lean ====
/- WHAT ONE GRID POINT COMPUTES. The kernel's payloads over one block of 512 tokens, read at token `r` of the block: each is
   the function of `LayerRow` of that token's rows. -/
module

public import proofs.«01_k».proof.Proof.LayerRow
public import proofs.«01_k».proof.Proof.Gen.MlpIdeal.Skeleton

@[expose] public section

set_option maxRecDepth 16384

noncomputable section

namespace Cert.MlpIdeal.Block

open Cert.MlpIdeal Cert.MlpIdeal.Gen Idealize.ShloMosaic Idealize.ShloMosaic.TcCoe Idealize.SL.Sem

/-- The block's Fourier branch, normed. -/
theorem fourier_at (a b : FVec Ideal S1x512x512 .bf16) (p q : FVec Ideal S512x512 .bf16) (g : FVec Ideal S1x512 .f32)
    (r j : Fin 512) : k0_pay2 (F := Ideal) a p b q g (ix2 r j) =
    LayerRow.rms (Ideal.ofBits .f32 0x44000000#32) (LayerRow.fourier (fun k => a (ix3 0 r k)) (fun k => b (ix3 0 r k)) (fun k l => p (ix2 k l)) (fun k l => q (ix2 k l))) (fun k => g (ix2 0 k)) j := by
  pointwise [k0_pay2, LayerRow.rms, LayerRow.fourier]

/-- The gelu of a number, its cube taken from the other side. -/
theorem gelu_eq (s : EReal) : s * (Ideal.ofBits .f32 0x3F000000#32 *
    (1 + Ideal.tanh (Ideal.ofBits .f32 0x3F4C422A#32 * (s + Ideal.ofBits .f32 0x3D372713#32 * (s * (s * s)))))) = LayerRow.gelu s := by
  rw [LayerRow.gelu, mul_assoc s s s]

/-- The logistic function, spelt as the quotient. -/
theorem logistic_eq (s : EReal) : Ideal.logistic s = Ideal.div 1 (1 + Ideal.exp (-s)) := rfl

/-- The two branches' product with the output projection. -/
theorem project_at (f : FVec Ideal S512x512 .f32) (s : FVec Ideal S512x512 .bf16) (w : FVec Ideal S512x512 .bf16)
    (b g : FVec Ideal S1x512 .f32) (o : FVec Ideal S1024x1024 .bf16) (r : Fin 512) (j : Fin 1024) :
    k0_pay6 f (k0_pay3 s) (k0_pay4 s) k0_pay5 w b g o (ix2 r j) =
    LayerRow.project (fun k => f (ix2 r k))
      (LayerRow.rms (Ideal.ofBits .f32 0x44000000#32) (LayerRow.glu (fun k => s (ix2 r k)) (fun k l => w (ix2 k l)) (fun k => b (ix2 0 k))) (fun k => g (ix2 0 k)))
      (fun k l => o (ix2 k l)) j := by
  pointwise [k0_pay6, k0_pay3, k0_pay4, k0_pay5, LayerRow.rms, LayerRow.glu, LayerRow.project, gelu_eq, logistic_eq]

/-- The mean square of the projection's row. -/
theorem mean_at (f : FVec Ideal S512x512 .f32) (s : FVec Ideal S512x512 .bf16) (w : FVec Ideal S512x512 .bf16)
    (b g : FVec Ideal S1x512 .f32) (o : FVec Ideal S1024x1024 .bf16) (r : Fin 512) (z : Fin 1) :
    k0_pay8 f (k0_pay3 s) (k0_pay4 s) k0_pay5 w b g o (ix2 r z) =
    Ideal.div (∑ l : Fin 1024, k0_pay6 f (k0_pay3 s) (k0_pay4 s) k0_pay5 w b g o (ix2 r l) * k0_pay6 f (k0_pay3 s) (k0_pay4 s) k0_pay5 w b g o (ix2 r l))
     (Ideal.ofBits .f32 0x44800000#32) := by
  pointwise [k0_pay8]

/-- The block after the mixing half: the input plus the normed projection, whose array is `p` and whose mean squares are `q`. -/
theorem mixed_at (x p : FVec Ideal S512x1024 .f32) (g : FVec Ideal S1x1024 .f32) (q : FVec Ideal S512x1 .f32) (r : Fin 512)
    (hq : q (ix2 r 0) = Ideal.div (∑ l : Fin 1024, p (ix2 r l) * p (ix2 r l)) (Ideal.ofBits .f32 0x44800000#32)) (j : Fin 1024) :
    k0_pay9 (F := Ideal) x p (k0_pay7 g) q (Scalar.ofBits .f32 0x358637BD#32) (ix2 r j) =
      x (ix2 r j) + LayerRow.rms (Ideal.ofBits .f32 0x44800000#32) (fun l => p (ix2 r l)) (fun l => g (ix2 0 l)) j := by
  pointwise [k0_pay9, k0_pay7, LayerRow.rms, hq]

/-- The feed-forward block's input: the norm of the block after the mixing half. -/
theorem normed_at (x p : FVec Ideal S512x1024 .f32) (g : FVec Ideal S1x1024 .f32) (q : FVec Ideal S512x1 .f32) (e : Ideal .f32)
    (h : FVec Ideal S1x1024 .f32) (r : Fin 512) (j : Fin 1024) :
    k0_pay10 (F := Ideal) x p g q e h (ix2 r j) =
      LayerRow.rms (Ideal.ofBits .f32 0x44800000#32) (fun l => k0_pay9 (F := Ideal) x p g q e (ix2 r l)) (fun l => h (ix2 0 l)) j := by
  pointwise [k0_pay10, LayerRow.rms]

/-- The first quarter of the feed-forward block, added to zero. -/
theorem first_at (x p : FVec Ideal S512x1024 .f32) (g : FVec Ideal S1x1024 .f32) (q : FVec Ideal S512x1 .f32) (e : Ideal .f32)
    (h : FVec Ideal S1x1024 .f32) (u v : FVec Ideal S1024x1024 .bf16) (r : Fin 512) (j : Fin 1024) :
    k0_pay11 (F := Ideal) x p g q e h u v (ix2 r j) =
      0 + ∑ k : Fin 1024, (max (∑ l : Fin 1024, k0_pay10 (F := Ideal) x p g q e h (ix2 r l) * u (ix2 l k)) 0
        * max (∑ l : Fin 1024, k0_pay10 (F := Ideal) x p g q e h (ix2 r l) * u (ix2 l k)) 0) * v (ix2 k j) := by
  pointwise [k0_pay11]

/-- The hidden units of the second quarter. -/
theorem second_at (x p : FVec Ideal S512x1024 .f32) (g : FVec Ideal S1x1024 .f32) (q : FVec Ideal S512x1 .f32) (e : Ideal .f32)
    (h : FVec Ideal S1x1024 .f32) (u : FVec Ideal S1024x1024 .bf16) (r : Fin 512) (k : Fin 1024) :
    k0_pay12 (F := Ideal) x p g q e h u (ix2 r k) =
      max (∑ l : Fin 1024, k0_pay10 (F := Ideal) x p g q e h (ix2 r l) * u (ix2 l k)) 0
        * max (∑ l : Fin 1024, k0_pay10 (F := Ideal) x p g q e h (ix2 r l) * u (ix2 l k)) 0 := by
  pointwise [k0_pay12]

/-- What is stored: the block after the mixing half plus the normed output of the feed-forward block, whose row is `f`. -/
theorem stored_at (x1 : FVec Ideal S512x1024 .f32) (n : FVec Ideal S512x1024 .bf16) (a : FVec Ideal S512x1024 .f32)
    (b : FVec Ideal S512x1024 .bf16) (v2 u3 v3 u4 v4 : FVec Ideal S1024x1024 .bf16) (g : FVec Ideal S1x1024 .f32) (r : Fin 512)
    (f : LayerRow.Row 1024)
    (hf : ∀ j : Fin 1024, ((a (ix2 r j) + ∑ k : Fin 1024, b (ix2 r k) * v2 (ix2 k j))
      + ∑ k : Fin 1024, (max (∑ l : Fin 1024, n (ix2 r l) * u3 (ix2 l k)) 0 * max (∑ l : Fin 1024, n (ix2 r l) * u3 (ix2 l k)) 0) * v3 (ix2 k j))
      + ∑ k : Fin 1024, (max (∑ l : Fin 1024, n (ix2 r l) * u4 (ix2 l k)) 0 * max (∑ l : Fin 1024, n (ix2 r l) * u4 (ix2 l k)) 0) * v4 (ix2 k j) = f j)
    (j : Fin 1024) :
    k0_pay1 (F := Ideal) x1 (k0_pay13 n a b v2 u3 v3 u4 v4) (k0_pay14 g) (ix2 r j) =
      x1 (ix2 r j) + LayerRow.rms (Ideal.ofBits .f32 0x44800000#32) f (fun l => g (ix2 0 l)) j := by
  pointwise [k0_pay1, k0_pay13, k0_pay14, LayerRow.rms, hf]

end Cert.MlpIdeal.Block

end
-- ==== Proof.MlpRefRows.lean ====
/- WHAT THE REFERENCE COMPUTES, ROW BY ROW. Each of the reference's intermediate arrays, read at token `r`, is the function
   of `LayerRow` of that token's rows. -/
module

public import proofs.«01_k».proof.Proof.LayerRow
public import proofs.«01_k».proof.Proof.Gen.MlpRefIdeal.Run

@[expose] public section

set_option maxRecDepth 16384

noncomputable section

namespace Cert.MlpRefIdeal.Rows

open Cert.MlpRefIdeal Cert.MlpRefIdeal.Gen Cert.MlpRefIdeal.Value Idealize.ShloMosaic Idealize.ShloMosaic.TcCoe Idealize.SL.Sem

variable (V : Valuation τ sig (Elt Ideal))

/-- The argument arrays of the reference, as functions of an index. -/
abbrev aX : S32768x1024.Idx → EReal := V (Proc.devRef .tc main_arg0)
abbrev aZ : S2x32768x512.Idx → EReal := V (Proc.devRef .tc main_arg1)
abbrev aS : S32768x512.Idx → EReal := V (Proc.devRef .tc main_arg2)
abbrev aP : S512x512.Idx → EReal := V (Proc.devRef .tc main_arg3)
abbrev aQ : S512x512.Idx → EReal := V (Proc.devRef .tc main_arg4)
abbrev aFg : S512.Idx → EReal := V (Proc.devRef .tc main_arg5)
abbrev aGw : S512x512.Idx → EReal := V (Proc.devRef .tc main_arg6)
abbrev aGb : S512.Idx → EReal := V (Proc.devRef .tc main_arg7)
abbrev aSg : S512.Idx → EReal := V (Proc.devRef .tc main_arg8)
abbrev aO : S1024x1024.Idx → EReal := V (Proc.devRef .tc main_arg9)
abbrev aMg : S1024.Idx → EReal := V (Proc.devRef .tc main_arg10)
abbrev aHg : S1024.Idx → EReal := V (Proc.devRef .tc main_arg11)
abbrev aW1 : S1024x4096.Idx → EReal := V (Proc.devRef .tc main_arg12)
abbrev aW2 : S4096x1024.Idx → EReal := V (Proc.devRef .tc main_arg13)
abbrev aEg : S1024.Idx → EReal := V (Proc.devRef .tc main_arg14)

/-- The Fourier branch before its norm: token `r`'s real and imaginary rows through the two head maps. -/
theorem fourier_at (r : Fin 32768) (j : Fin 512) : res_main_v9 V (ix2 r j) =
    LayerRow.fourier (fun k => aZ V (ix3 0 r k)) (fun k => aZ V (ix3 1 r k)) (fun k l => aP V (ix2 k l)) (fun k l => aQ V (ix2 k l)) j := by
  pointwise [res_main_v9, res_main_v0, LayerRow.fourier]

/-- The gelu of the recurrent branch, entry by entry. -/
theorem gelu_at (r : Fin 32768) (j : Fin 512) : res_main_v36 V (ix2 r j) = LayerRow.gelu (aS V (ix2 r j)) := by
  pointwise [res_main_v36, res_main_v23, LayerRow.gelu]

/-- The gated linear unit of the recurrent branch, before its norm. -/
theorem glu_at (r : Fin 32768) (j : Fin 512) : res_main_v47 V (ix2 r j) =
    LayerRow.glu (fun k => aS V (ix2 r k)) (fun k l => aGw V (ix2 k l)) (fun k => aGb V (ix1 k)) j := by
  pointwise [res_main_v47, LayerRow.glu, gelu_at]

/-- Token `r` after the mixing half of the layer. -/
def rowX (r : Fin 32768) : LayerRow.Row 1024 :=
  LayerRow.mixed (fun k => aX V (ix2 r k)) (fun k => aZ V (ix3 0 r k)) (fun k => aZ V (ix3 1 r k)) (fun k => aS V (ix2 r k))
    (fun k l => aP V (ix2 k l)) (fun k l => aQ V (ix2 k l)) (fun k => aFg V (ix1 k)) (fun k l => aGw V (ix2 k l))
    (fun k => aGb V (ix1 k)) (fun k => aSg V (ix1 k)) (fun k l => aO V (ix2 k l)) (fun k => aMg V (ix1 k))

/-- Token `r` out of the layer. -/
def rowY (r : Fin 32768) : LayerRow.Row 1024 :=
  LayerRow.fed (rowX V r) (fun k => aHg V (ix1 k)) (fun k l => aW1 V (ix2 k l)) (fun k l => aW2 V (ix2 k l))
    (fun k => aEg V (ix1 k))

/-- The projection's array at token `r`: its two normed branches through the output projection. -/
theorem project_at (r : Fin 32768) (j : Fin 1024) : res_main_v62 V (ix2 r j) =
    LayerRow.project
      (LayerRow.rms (Ideal.ofBits .f32 0x44000000#32) (LayerRow.fourier (fun k => aZ V (ix3 0 r k)) (fun k => aZ V (ix3 1 r k)) (fun k l => aP V (ix2 k l)) (fun k l => aQ V (ix2 k l))) (fun k => aFg V (ix1 k)))
      (LayerRow.rms (Ideal.ofBits .f32 0x44000000#32) (LayerRow.glu (fun k => aS V (ix2 r k)) (fun k l => aGw V (ix2 k l)) (fun k => aGb V (ix1 k))) (fun k => aSg V (ix1 k)))
      (fun k l => aO V (ix2 k l)) j := by
  pointwise [res_main_v62, LayerRow.project, LayerRow.rms, fourier_at, glu_at]

/-- The array after the mixing half at token `r` is `rowX`. -/
theorem mixed_at (r : Fin 32768) (j : Fin 1024) : res_main_v76 V (ix2 r j) = rowX V r j := by
  pointwise [res_main_v76, rowX, LayerRow.mixed, LayerRow.rms, project_at]

/-- The positive part inside the feed-forward block at token `r`. -/
theorem relu_at (r : Fin 32768) (j : Fin 4096) : res_main_v91 V (ix2 r j) =
    max (∑ l, LayerRow.rms (Ideal.ofBits .f32 0x44800000#32) (rowX V r) (fun k => aHg V (ix1 k)) l * aW1 V (ix2 l j)) 0 := by
  pointwise [res_main_v91, LayerRow.rms, mixed_at]

/-- The feed-forward block's array at token `r` : the hidden units of token `r` through the second matrix. -/
theorem ff_at (r : Fin 32768) (j : Fin 1024) : res_main_v93 V (ix2 r j) =
    LayerRow.ff (LayerRow.rms (Ideal.ofBits .f32 0x44800000#32) (rowX V r) (fun k => aHg V (ix1 k))) (fun k l => aW1 V (ix2 k l)) (fun k l => aW2 V (ix2 k l)) j := by
  pointwise [res_main_v93, LayerRow.ff, LayerRow.hidden, relu_at]

/-- The reference's result: its last array as one term of the arguments, in the words the generated run states it with. -/
def result : S32768x1024.Idx → EReal :=
  addf (res_main_v76 V) (mulf (mulf (res_main_v93 V) (broadcastInDim S32768x1024 ![0, 1] bcast_S32768x1_S32768x1024_0_1 (Host.rsqrt (addf (Host.divf (broadcastInDim S32768x1 ![0] bcast_S32768_S32768x1_0 (Host.reduceAdd (mulf (res_main_v93 V) (res_main_v93 V)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (V (Proc.devRef .tc main_arg14)))))

/-- The reference's result at token `r` is `rowY`. -/
theorem result_at (r : Fin 32768) (j : Fin 1024) : result V (ix2 r j) = rowY V r j := by
  pointwise [result, rowY, LayerRow.fed, LayerRow.rms, mixed_at, ff_at]

end Cert.MlpRefIdeal.Rows

end
-- ==== Proof.MlpValue.lean ====
/- WHAT THE KERNEL'S OUTPUT ARRAY HOLDS. Block by block: the block of grid point `t` is the layer of `LayerRow` applied to the
   512 tokens `512 t, …, 512 t + 511`, and together the 64 blocks are the array the reference computes. -/
module

public import proofs.«01_k».proof.Proof.MlpBlock
public import proofs.«01_k».proof.Proof.MlpRefRows
public import proofs.«01_k».proof.Proof.Gen.MlpIdeal.Value

@[expose] public section

set_option maxRecDepth 16384

noncomputable section

namespace Cert.MlpIdeal.Array

open Cert.MlpIdeal Cert.MlpIdeal.Gen Idealize.ShloMosaic Idealize.ShloMosaic.TcCoe Idealize.SL.Sem

/-- The body's output block at token `r`, of whatever sixteen input blocks. -/
theorem out_at (x0 : Vec Ideal S512x1024 .f32) (x1 x2 : Vec Ideal S1x512x512 .bf16) (x3 x4 x5 : Vec Ideal S512x512 .bf16)
    (x6 : Vec Ideal S1x512 .f32) (x7 : Vec Ideal S512x512 .bf16) (x8 x9 : Vec Ideal S1x512 .f32) (x10 : Vec Ideal S1024x1024 .bf16)
    (x11 x12 : Vec Ideal S1x1024 .f32) (x13 : Vec Ideal S1024x4096 .bf16) (x14 : Vec Ideal S4096x1024 .bf16)
    (x15 : Vec Ideal S1x1024 .f32) (r : Fin 512) (j : Fin 1024) :
    out0_16 (F := Ideal) x0 x1 x2 x3 x4 x5 x6 x7 x8 x9 x10 x11 x12 x13 x14 x15 (ix2 r j) =
    LayerRow.fed (LayerRow.mixed (fun k => x0 (ix2 r k)) (fun k => x1 (ix3 0 r k)) (fun k => x2 (ix3 0 r k)) (fun k => x3 (ix2 r k))
        (fun k l => x4 (ix2 k l)) (fun k l => x5 (ix2 k l)) (fun k => x6 (ix2 0 k)) (fun k l => x7 (ix2 k l)) (fun k => x8 (ix2 0 k))
        (fun k => x9 (ix2 0 k)) (fun k l => x10 (ix2 k l)) (fun k => x11 (ix2 0 k)))
      (fun k => x12 (ix2 0 k)) (fun k l => x13 (ix2 k l)) (fun k l => x14 (ix2 k l)) (fun k => x15 (ix2 0 k)) j := by
  unfold_out out0_16
  frame_out
  have hX : ∀ l : Fin 1024, k0_pay9 (F := Ideal) x0 (k0_pay6 (k0_pay2 x1 x4 x2 x5 x6) (k0_pay3 x3) (k0_pay4 x3) k0_pay5 x7 x8 x9 x10)
      (k0_pay7 x11) (k0_pay8 (k0_pay2 x1 x4 x2 x5 x6) (k0_pay3 x3) (k0_pay4 x3) k0_pay5 x7 x8 x9 x10)
      (Ideal.ofBits .f32 0x358637BD#32) (ix2 r l) =
      (LayerRow.mixed (fun k => x0 (ix2 r k)) (fun k => x1 (ix3 0 r k)) (fun k => x2 (ix3 0 r k)) (fun k => x3 (ix2 r k))
        (fun k l => x4 (ix2 k l)) (fun k l => x5 (ix2 k l)) (fun k => x6 (ix2 0 k)) (fun k l => x7 (ix2 k l)) (fun k => x8 (ix2 0 k))
        (fun k => x9 (ix2 0 k)) (fun k l => x10 (ix2 k l)) (fun k => x11 (ix2 0 k))) l := fun l => by
    refine (Block.mixed_at _ _ _ _ r (Block.mean_at _ _ _ _ _ _ r 0) l).trans ?_
    simp only [Block.project_at, Block.fourier_at, LayerRow.mixed]
  refine (Block.stored_at _ _ _ _ _ _ _ _ _ _ r
    (LayerRow.ff (LayerRow.rms (Ideal.ofBits .f32 0x44800000#32) (LayerRow.mixed (fun k => x0 (ix2 r k)) (fun k => x1 (ix3 0 r k)) (fun k => x2 (ix3 0 r k)) (fun k => x3 (ix2 r k))
        (fun k l => x4 (ix2 k l)) (fun k l => x5 (ix2 k l)) (fun k => x6 (ix2 0 k)) (fun k l => x7 (ix2 k l)) (fun k => x8 (ix2 0 k))
        (fun k => x9 (ix2 0 k)) (fun k l => x10 (ix2 k l)) (fun k => x11 (ix2 0 k))) (fun k => x12 (ix2 0 k))) (fun k l => x13 (ix2 k l)) (fun k l => x14 (ix2 k l))) ?_ j).trans ?_
  · intro j
    have hN := fun l => Block.normed_at x0 (k0_pay6 (k0_pay2 x1 x4 x2 x5 x6) (k0_pay3 x3) (k0_pay4 x3) k0_pay5 x7 x8 x9 x10)
      (k0_pay7 x11) (k0_pay8 (k0_pay2 x1 x4 x2 x5 x6) (k0_pay3 x3) (k0_pay4 x3) k0_pay5 x7 x8 x9 x10)
      (Ideal.ofBits .f32 0x358637BD#32) x12 r l
    simp only [hX] at hN
    rw [LayerRow.ff_tiles]
    pointwise [Block.first_at, Block.second_at, hN, LayerRow.hidden]
  · exact congrArg (· + _) (hX j)

/-- Which block each window stages at grid point `t`: the token blocks move with `t`, the weights stay. -/
theorem idx : ∀ t : Fin cfg0.N, win0_0.index t = ![t.val, 0] ∧ win0_1.index t = ![0, t.val, 0] ∧ win0_2.index t = ![1, t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![t.val, 0] :=
  (by decide +kernel : ∀ t : Fin grid0.N, _)

variable (m : (ℓ : Loc nD τ sig) → Buf (Elt Ideal) ℓ)

/-- Token `r` of point `t`'s block, as a token of the whole array. -/
def tok (t : Fin cfg0.N) (r : Fin 512) : Fin 32768 :=
  ⟨t.val * 512 + r.val, by have := t.isLt; have h : cfg0.N = 64 := rfl; omega⟩

/-- Window 0 stages the tokens' inputs. -/
theorem blk0 (c : Dev nD) (t : Fin cfg0.N) (r : Fin 512) (k : Fin 1024) :
    iblk m c 0 t (ix2 r k) = m ((c : Thread nD τ).loc main_arg0) (ix2 (tok t r) k) := by
  blk_ext [iblk, V, idx t, tok]

/-- Window 1 stages the real part of the tokens' Fourier branch. -/
theorem blk1 (c : Dev nD) (t : Fin cfg0.N) (r k : Fin 512) :
    iblk m c 1 t (ix3 0 r k) = m ((c : Thread nD τ).loc main_arg1) (ix3 0 (tok t r) k) := by
  blk_ext [iblk, V, idx t, tok]

/-- Window 2 stages the imaginary part of the tokens' Fourier branch. -/
theorem blk2 (c : Dev nD) (t : Fin cfg0.N) (r k : Fin 512) :
    iblk m c 2 t (ix3 0 r k) = m ((c : Thread nD τ).loc main_arg1) (ix3 1 (tok t r) k) := by
  blk_ext [iblk, V, idx t, tok]

/-- Window 3 stages the tokens' recurrent branch. -/
theorem blk3 (c : Dev nD) (t : Fin cfg0.N) (r k : Fin 512) :
    iblk m c 3 t (ix2 r k) = m ((c : Thread nD τ).loc main_arg2) (ix2 (tok t r) k) := by
  blk_ext [iblk, V, idx t, tok]

/-- Window 4 stages the real head map. -/
theorem blk4 (c : Dev nD) (t : Fin cfg0.N) (l : Fin 512) (k : Fin 512) :
    iblk m c 4 t (ix2 l k) = m ((c : Thread nD τ).loc main_arg3) (ix2 l k) := by
  blk_point [iblk, V, idx t]

/-- Window 5 stages the imaginary head map. -/
theorem blk5 (c : Dev nD) (t : Fin cfg0.N) (l : Fin 512) (k : Fin 512) :
    iblk m c 5 t (ix2 l k) = m ((c : Thread nD τ).loc main_arg4) (ix2 l k) := by
  blk_point [iblk, V, idx t]

/-- Window 6 stages the Fourier branch's gain, laid as one row. -/
theorem blk6 (c : Dev nD) (t : Fin cfg0.N) (k : Fin 512) :
    iblk m c 6 t (ix2 0 k) = m ((c : Thread nD τ).loc main_arg5) (ix1 k) := by
  blk_point [iblk, V, idx t]

/-- Window 7 stages the gate's matrix. -/
theorem blk7 (c : Dev nD) (t : Fin cfg0.N) (l : Fin 512) (k : Fin 512) :
    iblk m c 7 t (ix2 l k) = m ((c : Thread nD τ).loc main_arg6) (ix2 l k) := by
  blk_point [iblk, V, idx t]

/-- Window 8 stages the gate's bias, laid as one row. -/
theorem blk8 (c : Dev nD) (t : Fin cfg0.N) (k : Fin 512) :
    iblk m c 8 t (ix2 0 k) = m ((c : Thread nD τ).loc main_arg7) (ix1 k) := by
  blk_point [iblk, V, idx t]

/-- Window 9 stages the recurrent branch's gain, laid as one row. -/
theorem blk9 (c : Dev nD) (t : Fin cfg0.N) (k : Fin 512) :
    iblk m c 9 t (ix2 0 k) = m ((c : Thread nD τ).loc main_arg8) (ix1 k) := by
  blk_point [iblk, V, idx t]

/-- Window 10 stages the output projection. -/
theorem blk10 (c : Dev nD) (t : Fin cfg0.N) (l : Fin 1024) (k : Fin 1024) :
    iblk m c 10 t (ix2 l k) = m ((c : Thread nD τ).loc main_arg9) (ix2 l k) := by
  blk_point [iblk, V, idx t]

/-- Window 11 stages the gain after the projection, laid as one row. -/
theorem blk11 (c : Dev nD) (t : Fin cfg0.N) (k : Fin 1024) :
    iblk m c 11 t (ix2 0 k) = m ((c : Thread nD τ).loc main_arg10) (ix1 k) := by
  blk_point [iblk, V, idx t]

/-- Window 12 stages the gain before the feed-forward block, laid as one row. -/
theorem blk12 (c : Dev nD) (t : Fin cfg0.N) (k : Fin 1024) :
    iblk m c 12 t (ix2 0 k) = m ((c : Thread nD τ).loc main_arg11) (ix1 k) := by
  blk_point [iblk, V, idx t]

/-- Window 13 stages the first feed-forward matrix. -/
theorem blk13 (c : Dev nD) (t : Fin cfg0.N) (l : Fin 1024) (k : Fin 4096) :
    iblk m c 13 t (ix2 l k) = m ((c : Thread nD τ).loc main_arg12) (ix2 l k) := by
  blk_point [iblk, V, idx t]

/-- Window 14 stages the second feed-forward matrix. -/
theorem blk14 (c : Dev nD) (t : Fin cfg0.N) (l : Fin 4096) (k : Fin 1024) :
    iblk m c 14 t (ix2 l k) = m ((c : Thread nD τ).loc main_arg13) (ix2 l k) := by
  blk_point [iblk, V, idx t]

/-- Window 15 stages the gain after the feed-forward block, laid as one row. -/
theorem blk15 (c : Dev nD) (t : Fin cfg0.N) (k : Fin 1024) :
    iblk m c 15 t (ix2 0 k) = m ((c : Thread nD τ).loc main_arg14) (ix1 k) := by
  blk_point [iblk, V, idx t]

/-- The layer of the argument arrays, at token `r`. -/
def row (c : Dev nD) (r : Fin 32768) : LayerRow.Row 1024 :=
  LayerRow.fed (LayerRow.mixed (fun k => m ((c : Thread nD τ).loc main_arg0) (ix2 r k))
      (fun k => m ((c : Thread nD τ).loc main_arg1) (ix3 0 r k)) (fun k => m ((c : Thread nD τ).loc main_arg1) (ix3 1 r k))
      (fun k => m ((c : Thread nD τ).loc main_arg2) (ix2 r k)) (fun k l => m ((c : Thread nD τ).loc main_arg3) (ix2 k l))
      (fun k l => m ((c : Thread nD τ).loc main_arg4) (ix2 k l)) (fun k => m ((c : Thread nD τ).loc main_arg5) (ix1 k))
      (fun k l => m ((c : Thread nD τ).loc main_arg6) (ix2 k l)) (fun k => m ((c : Thread nD τ).loc main_arg7) (ix1 k))
      (fun k => m ((c : Thread nD τ).loc main_arg8) (ix1 k)) (fun k l => m ((c : Thread nD τ).loc main_arg9) (ix2 k l))
      (fun k => m ((c : Thread nD τ).loc main_arg10) (ix1 k)))
    (fun k => m ((c : Thread nD τ).loc main_arg11) (ix1 k)) (fun k l => m ((c : Thread nD τ).loc main_arg12) (ix2 k l))
    (fun k l => m ((c : Thread nD τ).loc main_arg13) (ix2 k l)) (fun k => m ((c : Thread nD τ).loc main_arg14) (ix1 k))

/-- The layer of the argument arrays, as an array. -/
def layer (c : Dev nD) (i : S32768x1024.Idx) : EReal := row m c (i 0) (i 1)

/-- Point `t`'s output block at token `r` is the layer at that token. -/
theorem point (c : Dev nD) (t : Fin cfg0.N) (r : Fin 512) (j : Fin 1024) :
    out0_16 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (ix2 r j) = row m c (tok t r) j := by
  refine (out_at _ _ _ _ _ _ _ _ _ _ _ _ _ _ _ _ r j).trans ?_
  simp only [blk0, blk1, blk2, blk3, blk4, blk5, blk6, blk7, blk8, blk9, blk10, blk11, blk12, blk13, blk14, blk15, row]

/-- The output array after the run is the layer of the argument arrays. -/
theorem final (c : Dev nD) : (dats m 0 c).arrAt 16 (cfgs 0).N = layer m c := by
  refine (dats m 0 c).arrAt_eq_of_covers 16 _ (by decide +kernel) fun t _ y => ?_
  blk_simp
  rw [after0_16]
  idx_vars y
  refine (point m c t y0 y1).trans ?_
  have e0 : ((View.whole main_v10).slice (win0_16.rect t)).emb (ix2 y0 y1) 0 = tok t y0 :=
    Fin.ext (by blk_simp [idx t, tok])
  have e1 : ((View.whole main_v10).slice (win0_16.rect t)).emb (ix2 y0 y1) 1 = y1 :=
    Fin.ext (by blk_simp [idx t])
  exact (congrArg₂ (row m c) e0 e1).symm

end Cert.MlpIdeal.Array

end
-- ==== Proof.MlpClaim.lean ====
/- THE EQUATION OF THE MIXING TAIL AND FEED-FORWARD CALL. Kernel and reference, run from equal arguments, end with equal
   results. -/
module

public import proofs.«01_k».proof.Defs
public import proofs.«01_k».proof.Proof.MlpValue

@[expose] public section

set_option maxRecDepth 16384

noncomputable section

namespace Cert.Proof

open Idealize.ShloMosaic Idealize.ShloMosaic.TcCoe Idealize.SL.Sem

/-- From equal arguments the reference's row is the row the kernel's array holds. -/
theorem mlp_row {m : (ℓ : Loc MlpIdeal.nD MlpIdeal.τ MlpIdeal.sig) → Buf (Elt Ideal) ℓ} {c : Dev MlpIdeal.nD}
    (V : Valuation MlpRefIdeal.τ MlpRefIdeal.sig (Elt Ideal))
    (h0 : V (Proc.devRef .tc MlpRefIdeal.main_arg0) = m ((c.tc : Thread MlpIdeal.nD MlpIdeal.τ).loc MlpIdeal.main_arg0))
    (h1 : V (Proc.devRef .tc MlpRefIdeal.main_arg1) = m ((c.tc : Thread MlpIdeal.nD MlpIdeal.τ).loc MlpIdeal.main_arg1))
    (h2 : V (Proc.devRef .tc MlpRefIdeal.main_arg2) = m ((c.tc : Thread MlpIdeal.nD MlpIdeal.τ).loc MlpIdeal.main_arg2))
    (h3 : V (Proc.devRef .tc MlpRefIdeal.main_arg3) = m ((c.tc : Thread MlpIdeal.nD MlpIdeal.τ).loc MlpIdeal.main_arg3))
    (h4 : V (Proc.devRef .tc MlpRefIdeal.main_arg4) = m ((c.tc : Thread MlpIdeal.nD MlpIdeal.τ).loc MlpIdeal.main_arg4))
    (h5 : V (Proc.devRef .tc MlpRefIdeal.main_arg5) = m ((c.tc : Thread MlpIdeal.nD MlpIdeal.τ).loc MlpIdeal.main_arg5))
    (h6 : V (Proc.devRef .tc MlpRefIdeal.main_arg6) = m ((c.tc : Thread MlpIdeal.nD MlpIdeal.τ).loc MlpIdeal.main_arg6))
    (h7 : V (Proc.devRef .tc MlpRefIdeal.main_arg7) = m ((c.tc : Thread MlpIdeal.nD MlpIdeal.τ).loc MlpIdeal.main_arg7))
    (h8 : V (Proc.devRef .tc MlpRefIdeal.main_arg8) = m ((c.tc : Thread MlpIdeal.nD MlpIdeal.τ).loc MlpIdeal.main_arg8))
    (h9 : V (Proc.devRef .tc MlpRefIdeal.main_arg9) = m ((c.tc : Thread MlpIdeal.nD MlpIdeal.τ).loc MlpIdeal.main_arg9))
    (h10 : V (Proc.devRef .tc MlpRefIdeal.main_arg10) = m ((c.tc : Thread MlpIdeal.nD MlpIdeal.τ).loc MlpIdeal.main_arg10))
    (h11 : V (Proc.devRef .tc MlpRefIdeal.main_arg11) = m ((c.tc : Thread MlpIdeal.nD MlpIdeal.τ).loc MlpIdeal.main_arg11))
    (h12 : V (Proc.devRef .tc MlpRefIdeal.main_arg12) = m ((c.tc : Thread MlpIdeal.nD MlpIdeal.τ).loc MlpIdeal.main_arg12))
    (h13 : V (Proc.devRef .tc MlpRefIdeal.main_arg13) = m ((c.tc : Thread MlpIdeal.nD MlpIdeal.τ).loc MlpIdeal.main_arg13))
    (h14 : V (Proc.devRef .tc MlpRefIdeal.main_arg14) = m ((c.tc : Thread MlpIdeal.nD MlpIdeal.τ).loc MlpIdeal.main_arg14))
    (r : Fin 32768) : MlpRefIdeal.Rows.rowY V r = MlpIdeal.Array.row m c r := by
  unfold MlpRefIdeal.Rows.rowY MlpRefIdeal.Rows.rowX MlpIdeal.Array.row
  dsimp only [MlpRefIdeal.Rows.aX, MlpRefIdeal.Rows.aZ, MlpRefIdeal.Rows.aS, MlpRefIdeal.Rows.aP, MlpRefIdeal.Rows.aQ,
    MlpRefIdeal.Rows.aFg, MlpRefIdeal.Rows.aGw, MlpRefIdeal.Rows.aGb, MlpRefIdeal.Rows.aSg, MlpRefIdeal.Rows.aO,
    MlpRefIdeal.Rows.aMg, MlpRefIdeal.Rows.aHg, MlpRefIdeal.Rows.aW1, MlpRefIdeal.Rows.aW2, MlpRefIdeal.Rows.aEg]
  rw [h0, h1, h2, h3, h4, h5, h6, h7, h8, h9, h10, h11, h12, h13, h14]

/-- `Cert.algebraic_MlpIdeal_MlpRefIdeal`: both programs run, and from equal arguments their results are equal. -/
theorem mlp : Cert.algebraic_MlpIdeal_MlpRefIdeal (hMlpIdeal := MlpIdeal.Gen.facts) (hMlpRefIdeal := MlpRefIdeal.Gen.facts) := by
  intro m g m' g' _ hargs
  refine ⟨fun c => MlpIdeal.Array.layer m c, ?_, ?_⟩
  · refine (θ_run MlpIdeal.defs _ _).mono (fun r h c => ?_) (MlpIdeal.Value.run_blocks (F := Ideal) m g)
    exact ⟨(h c).1.trans (MlpIdeal.Array.final m c), (h c).2⟩
  · refine (θ_run MlpRefIdeal.defs _ _).mono (fun r h c => ?_) (MlpRefIdeal.Value.run (F := Ideal) m' g')
    refine ⟨(h c).1.trans ?_, (h c).2⟩
    obtain ⟨h0, h1, h2, h3, h4, h5, h6, h7, h8, h9, h10, h11, h12, h13, h14⟩ := hargs c
    funext i
    idx_vars i
    refine (MlpRefIdeal.Rows.result_at (StableHlo.launchContents m' c) i0 i1).trans ?_
    exact congrFun (mlp_row (StableHlo.launchContents m' c) h0 h1 h2 h3 h4 h5 h6 h7 h8 h9 h10 h11 h12 h13 h14 i0) i1

/-- The reference runs and leaves its arguments as they were. -/
theorem mlp_ref_frame : Cert.quiescent_MlpRefIdeal (hMlpRefIdeal := MlpRefIdeal.Gen.facts) := by
  intro m ρ _
  exact (θ_run MlpRefIdeal.defs _ _).mono (fun r h => ⟨fun c => (h c).2, sem_eq_zero_of_no_sems (by decide) r.2⟩)
    (MlpRefIdeal.Value.run (F := Ideal) m ρ)

end Cert.Proof

end
-- ==== Proof.InpValue.lean ====
/- THE INPUT PROJECTION. What the kernel's two output arrays hold after the run: the tokens' norm through the projection, its
   first 512 columns in one array and its last 512 in the other. -/
module

public import proofs.«01_k».proof.Proof.LayerRow
public import proofs.«01_k».proof.Proof.Gen.InpIdeal.Value

@[expose] public section

set_option maxRecDepth 16384

noncomputable section

namespace Cert.InpIdeal.Array

open Cert.InpIdeal Cert.InpIdeal.Gen Idealize.ShloMosaic Idealize.ShloMosaic.TcCoe Idealize.SL.Sem

/-- One token through the norm and the projection's column `j`. -/
def token (x g : LayerRow.Row 1024) (w : Fin 1024 → LayerRow.Row 1024) (j : Fin 1024) : EReal :=
  ∑ k, LayerRow.rms (Ideal.ofBits .f32 0x44800000#32) x g k * w k j

/-- The array of all tokens, columns `o, …, o + 511` (`o` at most 512). -/
def columns (o : ℕ) (ho : o ≤ 512) (x : S32768x1024.Idx → EReal) (g : S1024.Idx → EReal) (w : S1024x1024.Idx → EReal)
    (i : S32768x512.Idx) : EReal :=
  token (fun k => x (ix2 (i 0) k)) (fun k => g (ix1 k)) (fun k l => w (ix2 k l)) ⟨o + (i 1).val, by have h : (i 1).val < 512 := (i 1).isLt; omega⟩

/-- The block stored into the first output: its columns are the first 512. -/
theorem first_at (x : FVec Ideal S512x1024 .f32) (g : FVec Ideal S1x1024 .f32) (w : FVec Ideal S1024x1024 .bf16) (r j : Fin 512) :
    k0_pay2 (F := Ideal) x g w (ix2 r j) =
      token (fun k => x (ix2 r k)) (fun k => g (ix2 0 k)) (fun k l => w (ix2 k l)) ⟨0 + j.val, by omega⟩ := by
  pointwise [k0_pay2, k0_pay1, token, LayerRow.rms]

/-- The block stored into the second output: its columns are the last 512. -/
theorem last_at (x : FVec Ideal S512x1024 .f32) (g : FVec Ideal S1x1024 .f32) (w : FVec Ideal S1024x1024 .bf16) (r j : Fin 512) :
    k0_pay3 (F := Ideal) x g w (ix2 r j) =
      token (fun k => x (ix2 r k)) (fun k => g (ix2 0 k)) (fun k l => w (ix2 k l)) ⟨512 + j.val, by omega⟩ := by
  pointwise [k0_pay3, k0_pay1, token, LayerRow.rms]

/-- Which block each window stages at grid point `t`: the token blocks move with `t`, the weights stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ)

/-- Token `r` of point `t`'s block, as a token of the whole array. -/
def tok (t : Fin cfg0.N) (r : Fin 512) : Fin 32768 :=
  ⟨t.val * 512 + r.val, by have := t.isLt; have h : cfg0.N = 64 := rfl; omega⟩

/-- Window 0 stages the tokens. -/
theorem blk0 (c : Dev nD) (t : Fin cfg0.N) (r : Fin 512) (k : Fin 1024) :
    iblk m c 0 t (ix2 r k) = m ((c : Thread nD τ).loc main_arg0) (ix2 (tok t r) k) := by
  blk_ext [iblk, V, idx t, tok]

/-- Window 1 stages the gain, laid as one row. -/
theorem blk1 (c : Dev nD) (t : Fin cfg0.N) (k : Fin 1024) :
    iblk m c 1 t (ix2 0 k) = m ((c : Thread nD τ).loc main_arg1) (ix1 k) := by
  blk_point [iblk, V, idx t]

/-- Window 2 stages the projection. -/
theorem blk2 (c : Dev nD) (t : Fin cfg0.N) (l k : Fin 1024) :
    iblk m c 2 t (ix2 l k) = m ((c : Thread nD τ).loc main_arg2) (ix2 l k) := by
  blk_point [iblk, V, idx t]

/-- The first output array after the run. -/
theorem final3 (c : Dev nD) : (dats m 0 c).arrAt 3 (cfgs 0).N =
    columns 0 (by omega) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  have e0 : ((View.whole main_v2_0).slice (win0_3.rect t)).emb (ix2 y0 y1) 0 = tok t y0 := Fin.ext (by blk_simp [idx t, tok])
  have e1 : (((View.whole main_v2_0).slice (win0_3.rect t)).emb (ix2 y0 y1) 1).val = y1.val := by blk_simp [idx t]
  refine (first_at _ _ _ y0 y1).trans ?_
  simp only [blk0, blk1, blk2, columns, e0, e1]

/-- The second output array after the run. -/
theorem final4 (c : Dev nD) : (dats m 0 c).arrAt 4 (cfgs 0).N =
    columns 512 (by omega) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  have e0 : ((View.whole main_v2_1).slice (win0_4.rect t)).emb (ix2 y0 y1) 0 = tok t y0 := Fin.ext (by blk_simp [idx t, tok])
  have e1 : (((View.whole main_v2_1).slice (win0_4.rect t)).emb (ix2 y0 y1) 1).val = y1.val := by blk_simp [idx t]
  refine (last_at _ _ _ y0 y1).trans ?_
  simp only [blk0, blk1, blk2, columns, e0, e1]

end Cert.InpIdeal.Array

end
-- ==== Proof.InpClaim.lean ====
/- THE EQUATION OF THE INPUT PROJECTION. Kernel and reference, run from equal arguments, end with equal results. -/
module

public import proofs.«01_k».proof.Defs
public import proofs.«01_k».proof.Proof.InpValue
public import proofs.«01_k».proof.Proof.Gen.InpRefIdeal.Run

@[expose] public section

set_option maxRecDepth 16384

noncomputable section

namespace Cert.Proof

open Idealize.ShloMosaic Idealize.ShloMosaic.TcCoe Idealize.SL.Sem

/-- `Cert.algebraic_InpIdeal_InpRefIdeal`: both programs run, and from equal arguments their two results are equal. -/
theorem inp : Cert.algebraic_InpIdeal_InpRefIdeal (hInpIdeal := InpIdeal.Gen.facts) (hInpRefIdeal := InpRefIdeal.Gen.facts) := by
  intro m g m' g' _ hargs
  refine ⟨fun c => InpIdeal.Array.columns 0 (by omega) (m ((c.tc : Thread _ _).loc InpIdeal.main_arg0)) (m ((c.tc : Thread _ _).loc InpIdeal.main_arg1)) (m ((c.tc : Thread _ _).loc InpIdeal.main_arg2)),
    fun c => InpIdeal.Array.columns 512 (by omega) (m ((c.tc : Thread _ _).loc InpIdeal.main_arg0)) (m ((c.tc : Thread _ _).loc InpIdeal.main_arg1)) (m ((c.tc : Thread _ _).loc InpIdeal.main_arg2)), ?_, ?_⟩
  · refine (θ_run InpIdeal.defs _ _).mono (fun r h c => ?_) (InpIdeal.Value.run_blocks (F := Ideal) m g)
    exact ⟨(h c).1.trans (InpIdeal.Array.final3 m c), (h c).2.1.trans (InpIdeal.Array.final4 m c), (h c).2.2⟩
  · refine (θ_run InpRefIdeal.defs _ _).mono (fun r h c => ?_) (InpRefIdeal.Value.run (F := Ideal) m' g')
    obtain ⟨h0, h1, h2⟩ := hargs c
    obtain ⟨v0, v1, hrest⟩ := h c
    refine ⟨v0.trans ?_, v1.trans ?_, hrest⟩
    · rw [h0, h1, h2]
      funext i
      idx_vars i
      pointwise [InpIdeal.Array.columns, InpIdeal.Array.token, LayerRow.rms]
    · rw [h0, h1, h2]
      funext i
      idx_vars i
      pointwise [InpIdeal.Array.columns, InpIdeal.Array.token, LayerRow.rms]

/-- The reference runs and leaves its arguments as they were. -/
theorem inp_ref_frame : Cert.quiescent_InpRefIdeal (hInpRefIdeal := InpRefIdeal.Gen.facts) := by
  intro m ρ _
  exact (θ_run InpRefIdeal.defs _ _).mono (fun r h => ⟨fun c => (h c).2.2, sem_eq_zero_of_no_sems (by decide) r.2⟩)
    (InpRefIdeal.Value.run (F := Ideal) m ρ)

end Cert.Proof

end
-- ==== Proof.SsmRun.lean ====
/-
  The body of the call `ssm_chunk` run once, for the frame claim of the program as printed: the two scratch buffers and
  the output window are held at any contents, and the counted loop is gone through by its generated invariant.
-/
module

public import proofs.«01_k».proof.Proof.Gen.Ssm.Frame
public import proofs.«01_k».proof.Proof.Gen.Ssm.Loops
public import Idealize.ShloMosaic.Lib.Pipeline.Frame
public import Idealize.ShloMosaic.Lib.Tactic

@[expose] public section

set_option maxRecDepth 16384

noncomputable section

namespace Cert.Ssm.Hand

open Cert.Ssm Cert.Ssm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, whole. -/
abbrev scS : Memref sig .tc .vmem S2048x256 .f32 := Memref.whole cc0_scratch0
abbrev scC : Memref sig .tc .vmem S2048x256 .f32 := Memref.whole cc0_scratch1

/-- What the region keeps between two points: both scratch buffers at some contents and the generator register. -/
theorem keep_eq (c : Dev nD) :
    (Pipeline.ΦA (Val := Elt F) (τ := τ) (U := UR sig nD τ) spec0 c : sProp 𝕄)
      = iprop(((∃ d, owns (c : Thread nD τ) scS fullShare d) ∗ (∃ d, owns (c : Thread nD τ) scC fullShare d))
          ∗ (∃ r, prngReg c r)) := by
  unfold Pipeline.ΦA
  rw [scopedRest0_eq]; simp only [scS, scC, owns_whole]; try rfl

set_option maxHeartbeats 4000000 in
/-- The kernel body on whole memrefs: the five inputs are left as they were, the output and both scratch buffers end at
    some contents. -/
theorem kernel_run (c : Dev nD) (E : Set ℕ) (i : grid0.Coords)
    (arg1 : Memref sig .tc .vmem S1x2048x256 .bf16) (h1 : arg1.IsWhole) (arg2 : Memref sig .tc .vmem S1x256x256 .bf16) (h2 : arg2.IsWhole)
    (arg3 : Memref sig .tc .vmem S1x256x256 .bf16) (h3 : arg3.IsWhole) (arg4 : Memref sig .tc .vmem S1x256x256 .bf16) (h4 : arg4.IsWhole)
    (arg5 : Memref sig .tc .vmem S1x2x8x8x128 .f32) (h5 : arg5.IsWhole) (arg6 : Memref sig .tc .vmem S1x2048x256 .bf16) (h6 : arg6.IsWhole)
    (x0 : Vec F S1x2048x256 .bf16) (x1 x2 x3 : Vec F S1x256x256 .bf16) (x4 : Vec F S1x2x8x8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) scS fullShare d) ∗ (∃ d, owns (c : Thread nD τ) scC fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) scS fullShare d)
            ∗ (∃ d, owns (c : Thread nD τ) scC fullShare d)) -∗ K ⟨⟩))
      ⊢ wp frame (wpE (defs₀ (F := F)) Variants.none c none) E
          (cc0_ssm_chunk i arg1 h1 arg2 h2 arg3 h3 arg4 h4 arg5 h5 arg6 h6 scS (Memref.isWhole_whole _) scC (Memref.isWhole_whole _)) K := by
  simp only [cc0_ssm_chunk_eq_skeleton]; unfold cc0_ssm_chunk_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-! ## The proof data, the body at every point, and the run -/

/-- Only the output window is forgotten: nothing here reads what the kernel leaves in it. -/
def forgets : Fin 6 → Bool := fun w => w == 5

/-- The proof data: arrays as the region finds them, every input block left in place, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is called with at a point, and what it returns; the output at any contents in both. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, keep_eq]
  iintro ⟨⟨⟨HS, HC⟩, HR⟩, Ho, ⟨%d0, H0⟩, ⟨%d1, H1⟩, ⟨%d2, H2⟩, ⟨%d3, H3⟩, ⟨%d4, H4⟩, H5⟩
  iapply (kernel_run c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [HC]; · iexact HC
  iintro ⟨H0, H1, H2, H3, H4, H5, HS, HC⟩
  isplitl [HS HC HR]
  · isplitl [HS HC]
    · isplitl [HS]; · iexact HS
      iexact HC
    iexact HR
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The run: every unscoped buffer that is no window's array ends as the region found it, every semaphore at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began and every semaphore is at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    have rest (b : Ref sig .tc) (hb : b ∈ Pipeline.restRefs sig spec0) := (h.1 c).2 b hb
    ⟨(rest main_arg0 (Pipeline.mem_restRefs_of main_arg0 (by decide) (by decide))).trans (V_main_arg0 m c),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c)⟩, h.2⟩) (run_main m ρ)

end Cert.Ssm.Hand

end
-- ==== Proof.SsmTrip.lean ====
/-
  One trip of the counted loop of `ssm_chunk`, in closed form. A trip takes eight chunk states of each of the four
  sequences, forward in the low 128 columns and backward in the high ones, scans each group of eight, adds what is
  carried in, writes the states shifted by one chunk, and carries the last state out.
-/
module

public import proofs.«01_k».proof.Proof.Gen.SsmIdeal.Frame
public import proofs.«01_k».proof.Proof.Gen.SsmIdeal.Loops
public import Idealize.ShloMosaic.Lib.Tactic

@[expose] public section

set_option maxRecDepth 16384

noncomputable section

namespace Cert.SsmIdeal.Hand

open Cert.SsmIdeal Cert.SsmIdeal.Gen
open Idealize.ShloMosaic Idealize.ShloMosaic.TcCoe Idealize.ShloMosaic.Tactic
open Idealize.SL Idealize.SL.RA Idealize.SL.BI

variable {F : FTy → Type} [FloatOps F]

/-- Eight chunk states, one to a row. -/
abbrev Eight (F : FTy → Type) := FVec F S8x128 .f32

/-- The sixteen coefficient tables the loop uses, and the row numbers. -/
structure Coef (F : FTy → Type) where
  row : IVec S8x128 32
  (f0 f1 f2 f3 f4 f5 f6 f7 : Eight F)
  (b0 b1 b2 b3 b4 b5 : Eight F)
  (b6 b7 : Vec F S1x1x1x8x128 .f32)

/-- Eight states of the forward scan with the carried state added, what is written, and what is carried on. -/
def fwdFull (t : Coef F) (carry s : Eight F) : Eight F :=
  k0_pay8 t.row t.f0 t.f1 t.f2 t.f3 t.f4 t.f5 t.f6 t.f7 carry s
def fwdOut (t : Coef F) (carry s : Eight F) : Eight F := k0_pay11 carry (fwdFull t carry s) (k0_pay9 t.row)
def fwdNext (t : Coef F) (carry s : Eight F) : Eight F := k0_pay10 (fwdFull t carry s)

/-- The same for the backward scan. -/
def bwdFull (t : Coef F) (carry s : Eight F) : Eight F :=
  k0_pay15 t.b5 (k0_pay1 t.b6) (k0_pay2 t.b7) carry (k0_pay12 t.row t.b0 t.b1 t.b2 t.b3 s) (k0_pay13 t.row t.b0 t.b1 t.b2 t.b3 s)
    (k0_pay14 t.row t.b0 t.b1 t.b2 t.b3 t.b4 s) 64#32
def bwdOut (t : Coef F) (carry s : Eight F) : Eight F :=
  k0_pay17 t.row t.b5 (k0_pay1 t.b6) (k0_pay2 t.b7) carry (k0_pay12 t.row t.b0 t.b1 t.b2 t.b3 s) (k0_pay13 t.row t.b0 t.b1 t.b2 t.b3 s)
    (k0_pay14 t.row t.b0 t.b1 t.b2 t.b3 t.b4 s) 64#32
def bwdNext (t : Coef F) (carry s : Eight F) : Eight F :=
  k0_pay16 t.b5 (k0_pay1 t.b6) (k0_pay2 t.b7) carry (k0_pay12 t.row t.b0 t.b1 t.b2 t.b3 s) (k0_pay13 t.row t.b0 t.b1 t.b2 t.b3 s)
    (k0_pay14 t.row t.b0 t.b1 t.b2 t.b3 t.b4 s) 64#32

variable (𝒱 : Variants) (c : Dev nD) (bd : Option 𝒱.V) (i : grid0.Coords) (arg1 : Memref sig .tc .vmem S1x2048x256 .bf16) (harg1 : arg1.IsWhole) (arg2 : Memref sig .tc .vmem S1x256x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x2x8x8x128 .f32) (harg5 : arg5.IsWhole) (arg6 : Memref sig .tc .vmem S1x2048x256 .bf16) (harg6 : arg6.IsWhole) (arg7 : Memref sig .tc .vmem S2048x256 .f32) (harg7 : arg7.IsWhole) (arg8 : Memref sig .tc .vmem S2048x256 .f32) (harg8 : arg8.IsWhole) (t : Coef F) (X : BufTy.Contents (Elt F) arg7.view.ty) (k : Fin k0_t1_loop.trips)

/-- The rectangle of eight rows trip `k` works on, of the sequence whose rows start at `o`: forward and backward. -/
abbrev rectF (k : Fin k0_t1_loop.trips) (b : Fin 4) : Rect S2048x256 :=
  Rect.unit (s := S2048x256) (k0_off1 k (BitVec.ofNat 32 (512 * b.val))) S8x128.size (k0_off1_inb k b)
abbrev rectB (k : Fin k0_t1_loop.trips) (b : Fin 4) : Rect S2048x256 :=
  Rect.unit (s := S2048x256) (k0_off2 k (BitVec.ofNat 32 (512 * b.val))) S8x128.size (k0_off2_inb k b)

/-- What a trip reads of the chunk states. -/
abbrev inF (b : Fin 4) : Eight F := View.readAt (Elt F) arg7.view (rectF k b).toLoadRect X
abbrev inB (b : Fin 4) : Eight F := View.readAt (Elt F) arg7.view (rectB k b).toLoadRect X

/-- What one trip carries on. -/
theorem trip_carry (acc : Eight F × Eight F × Eight F × Eight F × Eight F × Eight F × Eight F × Eight F) :
    tripR_k0_t1 (F := F) 𝒱 c bd i arg1 harg1 arg2 harg2 arg3 harg3 arg4 harg4 arg5 harg5 arg6 harg6 arg7 harg7 arg8 harg8 t.row t.f0 t.f1 t.f2 t.f3 t.f4 t.f5 t.f6 t.f7 t.b0 t.b1 t.b2 t.b3 t.b4 t.b5 t.b6 t.b7 X k acc
      = (fwdNext t acc.1 (inF arg7 X k 0), bwdNext t acc.2.1 (inB arg7 X k 0),
          fwdNext t acc.2.2.1 (inF arg7 X k 1), bwdNext t acc.2.2.2.1 (inB arg7 X k 1),
          fwdNext t acc.2.2.2.2.1 (inF arg7 X k 2), bwdNext t acc.2.2.2.2.2.1 (inB arg7 X k 2),
          fwdNext t acc.2.2.2.2.2.2.1 (inF arg7 X k 3), bwdNext t acc.2.2.2.2.2.2.2 (inB arg7 X k 3)) := by
  unfold tripR_k0_t1 trip_k0_t1
  rfl

/-- What one trip writes, the last store first. -/
theorem trip_pieces (acc : Eight F × Eight F × Eight F × Eight F × Eight F × Eight F × Eight F × Eight F) :
    tripL_k0_t1 (F := F) 𝒱 c bd i arg1 harg1 arg2 harg2 arg3 harg3 arg4 harg4 arg5 harg5 arg6 harg6 arg7 harg7 arg8 harg8 t.row t.f0 t.f1 t.f2 t.f3 t.f4 t.f5 t.f6 t.f7 t.b0 t.b1 t.b2 t.b3 t.b4 t.b5 t.b6 t.b7 X k acc
      = [⟨rectB k 3, bwdOut t acc.2.2.2.2.2.2.2 (inB arg7 X k 3)⟩, ⟨rectF k 3, fwdOut t acc.2.2.2.2.2.2.1 (inF arg7 X k 3)⟩,
          ⟨rectB k 2, bwdOut t acc.2.2.2.2.2.1 (inB arg7 X k 2)⟩, ⟨rectF k 2, fwdOut t acc.2.2.2.2.1 (inF arg7 X k 2)⟩,
          ⟨rectB k 1, bwdOut t acc.2.2.2.1 (inB arg7 X k 1)⟩, ⟨rectF k 1, fwdOut t acc.2.2.1 (inF arg7 X k 1)⟩,
          ⟨rectB k 0, bwdOut t acc.2.1 (inB arg7 X k 0)⟩, ⟨rectF k 0, fwdOut t acc.1 (inF arg7 X k 0)⟩] := by
  unfold tripL_k0_t1 trip_k0_t1
  rfl

end Cert.SsmIdeal.Hand

end
-- ==== Proof.SsmScan.lean ====
/-
  The counted loop of `ssm_chunk` as a whole: what the buffer of shifted states holds when it is done, as a function of
  the buffer of chunk states it reads.
-/
module

public import proofs.«01_k».proof.Proof.SsmTrip

@[expose] public section

set_option maxRecDepth 16384

noncomputable section

namespace Cert.SsmIdeal.Hand

open Cert.SsmIdeal Cert.SsmIdeal.Gen
open Idealize.ShloMosaic Idealize.ShloMosaic.TcCoe Idealize.ShloMosaic.Tactic

variable {F : FTy → Type} [FloatOps F]

/-- The entry of a 2048 by 256 buffer at row `r` and column `l`, both wrapped into range. -/
abbrev at2 (r l : ℕ) : S2048x256.Idx := fun
  | ⟨0, _⟩ => ⟨r % 2048, Nat.mod_lt _ (by decide)⟩
  | ⟨1, _⟩ => ⟨l % 256, Nat.mod_lt _ (by decide)⟩

abbrev at8 (r l : ℕ) : S8x128.Idx := fun
  | ⟨0, _⟩ => ⟨r % 8, Nat.mod_lt _ (by decide)⟩
  | ⟨1, _⟩ => ⟨l % 128, Nat.mod_lt _ (by decide)⟩

/-- Eight rows and 128 columns of a buffer, from row `r` and column `l`. -/
def eightAt (S : Vec F S2048x256 .f32) (r l : ℕ) : Eight F := fun j => S (at2 (r + (j 0).val) (l + (j 1).val))

/-- What the forward scan of sequence `b` carries into trip `k`, and the backward one. -/
def carF (t : Coef F) (S : Vec F S2048x256 .f32) (b : ℕ) : ℕ → Eight F
  | 0 => k0_pay3
  | k + 1 => fwdNext t (carF t S b k) (eightAt S (512 * b + 8 * k) 0)
def carB (t : Coef F) (S : Vec F S2048x256 .f32) (b : ℕ) : ℕ → Eight F
  | 0 => k0_pay3
  | k + 1 => bwdNext t (carB t S b k) (eightAt S (512 * b + 8 * (63 - k)) 128)

/-- Every chunk's incoming state: what the loop leaves in the second scratch buffer. -/
def shifted (t : Coef F) (S : Vec F S2048x256 .f32) : Vec F S2048x256 .f32 := fun y =>
  if (y 1).val < 128
  then fwdOut t (carF t S ((y 0).val / 512) ((y 0).val % 512 / 8)) (eightAt S (512 * ((y 0).val / 512) + 8 * ((y 0).val % 512 / 8)) 0) (at8 (y 0).val (y 1).val)
  else bwdOut t (carB t S ((y 0).val / 512) (63 - (y 0).val % 512 / 8)) (eightAt S (512 * ((y 0).val / 512) + 8 * ((y 0).val % 512 / 8)) 128) (at8 (y 0).val (y 1).val)

theorem trips_eq : k0_t1_loop.trips = 64 := by decide

/-- The eight carried values of trip `k`. -/
abbrev carried (t : Coef F) (S : Vec F S2048x256 .f32) (k : ℕ) :
    Eight F × Eight F × Eight F × Eight F × Eight F × Eight F × Eight F × Eight F :=
  (carF t S 0 k, carB t S 0 k, carF t S 1 k, carB t S 1 k, carF t S 2 k, carB t S 2 k, carF t S 3 k, carB t S 3 k)

/-- Two places of a buffer are the same when their rows and columns are. -/
theorem idx2_ext (y z : S2048x256.Idx) (h0 : (y 0).val = (z 0).val) (h1 : (y 1).val = (z 1).val) : y = z :=
  funext fun a => by fin_cases a; exacts [Fin.ext h0, Fin.ext h1]
theorem idx8_ext (y z : S8x128.Idx) (h0 : (y 0).val = (z 0).val) (h1 : (y 1).val = (z 1).val) : y = z :=
  funext fun a => by fin_cases a; exacts [Fin.ext h0, Fin.ext h1]

variable (arg7 : Memref sig .tc .vmem S2048x256 .f32) (X : BufTy.Contents (Elt F) arg7.view.ty) (t : Coef F)

theorem rectF_row (k : Fin k0_t1_loop.trips) (b : Fin 4) (x : S8x128.Idx) : ((rectF k b).emb x 0).val = 512 * b.val + 8 * k.val + (x 0).val := by
  simp only [Rect.emb_apply, Rect.stride_unit, Rect.off_unit]
  rw [k0_off1_eq]; show 512 * b.val + 8 * k.val + 1 * (x 0).val = _; omega
theorem rectF_col (k : Fin k0_t1_loop.trips) (b : Fin 4) (x : S8x128.Idx) : ((rectF k b).emb x 1).val = (x 1).val := by
  simp only [Rect.emb_apply, Rect.stride_unit, Rect.off_unit]
  rw [k0_off1_eq]; show 0 + 1 * (x 1).val = _; omega
theorem rectB_row (k : Fin k0_t1_loop.trips) (b : Fin 4) (x : S8x128.Idx) : ((rectB k b).emb x 0).val = 512 * b.val + 8 * (63 - k.val) + (x 0).val := by
  have hk : k.val < 64 := trips_eq ▸ k.isLt
  simp only [Rect.emb_apply, Rect.stride_unit, Rect.off_unit]
  rw [k0_off2_eq]; simp only [Matrix.cons_val_zero]; omega
theorem rectB_col (k : Fin k0_t1_loop.trips) (b : Fin 4) (x : S8x128.Idx) : ((rectB k b).emb x 1).val = 128 + (x 1).val := by
  simp only [Rect.emb_apply, Rect.stride_unit, Rect.off_unit]
  rw [k0_off2_eq]; show 128 + 1 * (x 1).val = _; omega

theorem inF_eq (k : Fin k0_t1_loop.trips) (b : Fin 4) : inF arg7 X k b = eightAt (arg7.view.read (Elt F) X) (512 * b.val + 8 * k.val) 0 := by
  have hk : k.val < 64 := trips_eq ▸ k.isLt
  funext x
  have h0 : (x 0).val < 8 := (x 0).isLt
  have h1 : (x 1).val < 128 := (x 1).isLt
  show arg7.view.read (Elt F) X ((rectF k b).emb x) = _
  unfold eightAt
  congr 1
  refine idx2_ext _ _ ?_ ?_
  · rw [rectF_row]; show _ = (512 * b.val + 8 * k.val + (x 0).val) % 2048; have := b.isLt; omega
  · rw [rectF_col]; show _ = (0 + (x 1).val) % 256; omega

theorem inB_eq (k : Fin k0_t1_loop.trips) (b : Fin 4) : inB arg7 X k b = eightAt (arg7.view.read (Elt F) X) (512 * b.val + 8 * (63 - k.val)) 128 := by
  have hk : k.val < 64 := trips_eq ▸ k.isLt
  funext x
  have h0 : (x 0).val < 8 := (x 0).isLt
  have h1 : (x 1).val < 128 := (x 1).isLt
  show arg7.view.read (Elt F) X ((rectB k b).emb x) = _
  unfold eightAt
  congr 1
  refine idx2_ext _ _ ?_ ?_
  · rw [rectB_row]; show _ = (512 * b.val + 8 * (63 - k.val) + (x 0).val) % 2048; have := b.isLt; omega
  · rw [rectB_col]; show _ = (128 + (x 1).val) % 256; omega

/-- What trip `k` writes of sequence `b` is what `shifted` says of those places. -/
theorem pieceF (S : Vec F S2048x256 .f32) (k : Fin k0_t1_loop.trips) (b : Fin 4) (x : S8x128.Idx) :
    fwdOut t (carF t S b.val k.val) (eightAt S (512 * b.val + 8 * k.val) 0) x = shifted t S ((rectF k b).emb x) := by
  have hk : k.val < 64 := trips_eq ▸ k.isLt
  have h0 : (x 0).val < 8 := (x 0).isLt
  have h1 : (x 1).val < 128 := (x 1).isLt
  have hr := rectF_row k b x
  have hc := rectF_col k b x
  unfold shifted
  rw [hr, hc, if_pos h1, show (512 * b.val + 8 * k.val + (x 0).val) / 512 = b.val by omega,
    show (512 * b.val + 8 * k.val + (x 0).val) % 512 / 8 = k.val by omega]
  congr 1
  refine idx8_ext _ _ ?_ ?_
  · show _ = (512 * b.val + 8 * k.val + (x 0).val) % 8; omega
  · show _ = (x 1).val % 128; omega
theorem pieceB (S : Vec F S2048x256 .f32) (k : Fin k0_t1_loop.trips) (b : Fin 4) (x : S8x128.Idx) :
    bwdOut t (carB t S b.val k.val) (eightAt S (512 * b.val + 8 * (63 - k.val)) 128) x = shifted t S ((rectB k b).emb x) := by
  have hk : k.val < 64 := trips_eq ▸ k.isLt
  have h0 : (x 0).val < 8 := (x 0).isLt
  have h1 : (x 1).val < 128 := (x 1).isLt
  have hr := rectB_row k b x
  have hc := rectB_col k b x
  unfold shifted
  rw [hr, hc, if_neg (by omega), show (512 * b.val + 8 * (63 - k.val) + (x 0).val) / 512 = b.val by omega,
    show (512 * b.val + 8 * (63 - k.val) + (x 0).val) % 512 / 8 = 63 - k.val by omega, show 63 - (63 - k.val) = k.val by omega]
  congr 1
  refine idx8_ext _ _ ?_ ?_
  · show _ = (512 * b.val + 8 * (63 - k.val) + (x 0).val) % 8; omega
  · show _ = (128 + (x 1).val) % 128; omega

/-- A place is among those trip `k` writes. -/
theorem memF (k : Fin k0_t1_loop.trips) (b : Fin 4) (y : S2048x256.Idx) (hb : (y 0).val / 512 = b.val) (hk : (y 0).val % 512 / 8 = k.val)
    (hc : (y 1).val < 128) : y ∈ (rectF k b).set := by
  rw [show (rectF k b).set = _ from rfl, Rect.mem_set_unit]
  rw [k0_off1_eq]
  intro a
  fin_cases a
  · show 512 * b.val + 8 * k.val ≤ (y 0).val ∧ (y 0).val < 512 * b.val + 8 * k.val + 8; omega
  · show 0 ≤ (y 1).val ∧ (y 1).val < 0 + 128; omega
theorem memB (k : Fin k0_t1_loop.trips) (b : Fin 4) (y : S2048x256.Idx) (hb : (y 0).val / 512 = b.val) (hk : 63 - (y 0).val % 512 / 8 = k.val)
    (hc : ¬ (y 1).val < 128) : y ∈ (rectB k b).set := by
  have hk' : k.val < 64 := trips_eq ▸ k.isLt
  have hy : (y 1).val < 256 := (y 1).isLt
  rw [show (rectB k b).set = _ from rfl, Rect.mem_set_unit]
  rw [k0_off2_eq]
  intro a
  fin_cases a
  · simp only [Matrix.cons_val_zero, Fin.zero_eta]; show _ ≤ (y 0).val ∧ (y 0).val < _ + 8; omega
  · show 128 ≤ (y 1).val ∧ (y 1).val < 128 + 128; omega

variable (𝒱 : Variants) (c : Dev nD) (bd : Option 𝒱.V) (i : grid0.Coords) (arg1 : Memref sig .tc .vmem S1x2048x256 .bf16) (harg1 : arg1.IsWhole) (arg2 : Memref sig .tc .vmem S1x256x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x2x8x8x128 .f32) (harg5 : arg5.IsWhole) (arg6 : Memref sig .tc .vmem S1x2048x256 .bf16) (harg6 : arg6.IsWhole) (harg7 : arg7.IsWhole) (arg8 : Memref sig .tc .vmem S2048x256 .f32) (harg8 : arg8.IsWhole)

/-- The loop's state before trip `k`: what is carried, and the list of what was written. -/
abbrev stateAt (k : ℕ) :=
  st_k0_t1 (F := F) 𝒱 c bd i arg1 harg1 arg2 harg2 arg3 harg3 arg4 harg4 arg5 harg5 arg6 harg6 arg7 harg7 arg8 harg8 t.row t.f0 t.f1 t.f2 t.f3 t.f4 t.f5 t.f6 t.f7 t.b0 t.b1 t.b2 t.b3 t.b4 t.b5 t.b6 t.b7 X
    (k0_pay3, k0_pay3, k0_pay3, k0_pay3, k0_pay3, k0_pay3, k0_pay3, k0_pay3) k

/-- Before trip `k`: the carried values are those of the two scans; every piece written says what `shifted` says; and the
    pieces reach every chunk the scans are past. -/
theorem state_spec (k : ℕ) (hk : k ≤ 64) :
    (stateAt arg7 X t 𝒱 c bd i arg1 harg1 arg2 harg2 arg3 harg3 arg4 harg4 arg5 harg5 arg6 harg6 harg7 arg8 harg8 k).1 = carried t (arg7.view.read (Elt F) X) k
    ∧ (∀ p ∈ (stateAt arg7 X t 𝒱 c bd i arg1 harg1 arg2 harg2 arg3 harg3 arg4 harg4 arg5 harg5 arg6 harg6 harg7 arg8 harg8 k).2,
        ∀ x : p.1.shape.Idx, p.2 x = shifted t (arg7.view.read (Elt F) X) (p.1.emb x))
    ∧ ∀ y : S2048x256.Idx, (if (y 1).val < 128 then (y 0).val % 512 / 8 < k else 63 - (y 0).val % 512 / 8 < k) →
        ∃ p ∈ (stateAt arg7 X t 𝒱 c bd i arg1 harg1 arg2 harg2 arg3 harg3 arg4 harg4 arg5 harg5 arg6 harg6 harg7 arg8 harg8 k).2, y ∈ p.1.set := by
  induction k with
  | zero =>
    refine ⟨rfl, fun p hp => absurd hp List.not_mem_nil, fun y hy => ?_⟩
    split at hy <;> exact absurd hy (Nat.not_lt_zero _)
  | succ k ih =>
    obtain ⟨h1, h2, h3⟩ := ih (by omega)
    have hs := st_k0_t1_succ (F := F) 𝒱 c bd i arg1 harg1 arg2 harg2 arg3 harg3 arg4 harg4 arg5 harg5 arg6 harg6 arg7 harg7 arg8 harg8 t.row t.f0 t.f1 t.f2 t.f3 t.f4 t.f5 t.f6 t.f7 t.b0 t.b1 t.b2 t.b3 t.b4 t.b5 t.b6 t.b7 X
      (k0_pay3, k0_pay3, k0_pay3, k0_pay3, k0_pay3, k0_pay3, k0_pay3, k0_pay3) (⟨k, by rw [trips_eq]; omega⟩ : Fin k0_t1_loop.trips)
    unfold stateAt at h1 h2 h3 ⊢
    rw [hs, h1]
    rw [trip_carry, trip_pieces]
    simp only [inF_eq, inB_eq]
    refine ⟨rfl, ?_, fun y hy => ?_⟩
    · intro p hp
      rcases List.mem_append.mp hp with hp | hp
      · simp only [List.mem_cons, List.not_mem_nil, or_false] at hp
        rcases hp with rfl | rfl | rfl | rfl | rfl | rfl | rfl | rfl
        · exact pieceB t _ ⟨k, _⟩ 3
        · exact pieceF t _ ⟨k, _⟩ 3
        · exact pieceB t _ ⟨k, _⟩ 2
        · exact pieceF t _ ⟨k, _⟩ 2
        · exact pieceB t _ ⟨k, _⟩ 1
        · exact pieceF t _ ⟨k, _⟩ 1
        · exact pieceB t _ ⟨k, _⟩ 0
        · exact pieceF t _ ⟨k, _⟩ 0
      · exact h2 p hp
    · by_cases hold : (if (y 1).val < 128 then (y 0).val % 512 / 8 < k else 63 - (y 0).val % 512 / 8 < k)
      · obtain ⟨p, hp, hy'⟩ := h3 y hold
        exact ⟨p, List.mem_append_right _ hp, hy'⟩
      · have hy0 : (y 0).val < 2048 := (y 0).isLt
        have hb : (y 0).val / 512 = 0 ∨ (y 0).val / 512 = 1 ∨ (y 0).val / 512 = 2 ∨ (y 0).val / 512 = 3 := by omega
        by_cases hc : (y 1).val < 128
        · rw [if_pos hc] at hy hold
          have hq : (y 0).val % 512 / 8 = k := by omega
          rcases hb with hb | hb | hb | hb
          · exact ⟨_, List.mem_append_left _ (List.mem_of_getElem? (i := 7) rfl), memF ⟨k, _⟩ 0 y hb hq hc⟩
          · exact ⟨_, List.mem_append_left _ (List.mem_of_getElem? (i := 5) rfl), memF ⟨k, _⟩ 1 y hb hq hc⟩
          · exact ⟨_, List.mem_append_left _ (List.mem_of_getElem? (i := 3) rfl), memF ⟨k, _⟩ 2 y hb hq hc⟩
          · exact ⟨_, List.mem_append_left _ (List.mem_of_getElem? (i := 1) rfl), memF ⟨k, _⟩ 3 y hb hq hc⟩
        · rw [if_neg hc] at hy hold
          have hq : 63 - (y 0).val % 512 / 8 = k := by omega
          rcases hb with hb | hb | hb | hb
          · exact ⟨_, List.mem_append_left _ (List.mem_of_getElem? (i := 6) rfl), memB ⟨k, _⟩ 0 y hb hq hc⟩
          · exact ⟨_, List.mem_append_left _ (List.mem_of_getElem? (i := 4) rfl), memB ⟨k, _⟩ 1 y hb hq hc⟩
          · exact ⟨_, List.mem_append_left _ (List.mem_of_getElem? (i := 2) rfl), memB ⟨k, _⟩ 2 y hb hq hc⟩
          · exact ⟨_, List.mem_append_left _ (List.mem_of_getElem? (i := 0) rfl), memB ⟨k, _⟩ 3 y hb hq hc⟩

/-- What the loop leaves in the second buffer, whatever was there before. -/
theorem after_loop (f : BufTy.Contents (Elt F) arg8.view.ty) (n : ℕ) (hn : n = 64) :
    arg8.view.read (Elt F) (arg8.view.writes (Elt F) f
        (stateAt arg7 X t 𝒱 c bd i arg1 harg1 arg2 harg2 arg3 harg3 arg4 harg4 arg5 harg5 arg6 harg6 harg7 arg8 harg8 n).2)
      = shifted t (arg7.view.read (Elt F) X) := by
  subst hn
  obtain ⟨-, h2, h3⟩ := state_spec arg7 X t 𝒱 c bd i arg1 harg1 arg2 harg2 arg3 harg3 arg4 harg4 arg5 harg5 arg6 harg6 harg7 arg8 harg8 64 le_rfl
  funext y
  refine View.read_writes_apply_of_pieces _ _ _ _ h2 y (h3 y ?_)
  split <;> omega

end Cert.SsmIdeal.Hand

end
-- ==== Proof.SsmIdealRun.lean ====
/-
  The body of the call `ssm_chunk` run once, for the frame claim of the program as printed: the two scratch buffers and
  the output window are held at any contents, and the counted loop is gone through by its generated invariant.
-/
module

public import proofs.«01_k».proof.Proof.SsmScan
public import Idealize.ShloMosaic.Lib.Pipeline.Frame
public import Idealize.ShloMosaic.Lib.Pipeline.FrameBody
public import Idealize.ShloMosaic.Lib.VecWindow
public import Idealize.ShloMosaic.Lib.Claim
public import Idealize.ShloMosaic.Lib.Tactic

@[expose] public section

set_option maxRecDepth 16384

noncomputable section

namespace Cert.SsmIdeal.Hand

open Cert.SsmIdeal Cert.SsmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, whole. -/
abbrev scS : Memref sig .tc .vmem S2048x256 .f32 := Memref.whole cc0_scratch0
abbrev scC : Memref sig .tc .vmem S2048x256 .f32 := Memref.whole cc0_scratch1

/-- What the region keeps between two points: both scratch buffers at some contents and the generator register. -/
theorem keep_eq (c : Dev nD) :
    (Pipeline.ΦA (Val := Elt F) (τ := τ) (U := UR sig nD τ) spec0 c : sProp 𝕄)
      = iprop(((∃ d, owns (c : Thread nD τ) scS fullShare d) ∗ (∃ d, owns (c : Thread nD τ) scC fullShare d))
          ∗ (∃ r, prngReg c r)) := by
  unfold Pipeline.ΦA
  rw [scopedRest0_eq]; simp only [scS, scC, owns_whole]; try rfl

abbrev rWhole : Rect S1x2048x256 := Rect.unit (s := S1x2048x256) ![0, 0, 0] S1x2048x256.size inb_S1x2048x256_S1x2048x256_0_0_0
abbrev rMat : Rect S1x256x256 := Rect.unit (s := S1x256x256) ![0, 0, 0] S1x256x256.size inb_S1x256x256_S1x256x256_0_0_0

abbrev rS : Rect S2048x256 := Rect.unit (s := S2048x256) ![0, 0] S2048x256.size inb_S2048x256_S2048x256_0_0

/-- A buffer written whole reads as what was written. -/
theorem read_whole (v : View sig .tc .vmem S2048x256 .f32) (g : BufTy.Contents (Elt F) v.ty) (p : Vec F S2048x256 .f32) :
    v.read (Elt F) (v.writes (Elt F) g [⟨rS, p⟩]) = p :=
  View.read_writes_full v g _ p []

/-- The sixteen tables of one group: eight for each direction. -/
abbrev rTab00 : Rect S1x2x8x8x128 := Rect.unit (s := S1x2x8x8x128) ![0, 0, 0, 0, 0] S1x1x1x8x128.size inb_S1x2x8x8x128_S1x1x1x8x128_0_0_0_0_0
abbrev rTab01 : Rect S1x2x8x8x128 := Rect.unit (s := S1x2x8x8x128) ![0, 0, 1, 0, 0] S1x1x1x8x128.size inb_S1x2x8x8x128_S1x1x1x8x128_0_0_1_0_0
abbrev rTab02 : Rect S1x2x8x8x128 := Rect.unit (s := S1x2x8x8x128) ![0, 0, 2, 0, 0] S1x1x1x8x128.size inb_S1x2x8x8x128_S1x1x1x8x128_0_0_2_0_0
abbrev rTab03 : Rect S1x2x8x8x128 := Rect.unit (s := S1x2x8x8x128) ![0, 0, 3, 0, 0] S1x1x1x8x128.size inb_S1x2x8x8x128_S1x1x1x8x128_0_0_3_0_0
abbrev rTab04 : Rect S1x2x8x8x128 := Rect.unit (s := S1x2x8x8x128) ![0, 0, 4, 0, 0] S1x1x1x8x128.size inb_S1x2x8x8x128_S1x1x1x8x128_0_0_4_0_0
abbrev rTab05 : Rect S1x2x8x8x128 := Rect.unit (s := S1x2x8x8x128) ![0, 0, 5, 0, 0] S1x1x1x8x128.size inb_S1x2x8x8x128_S1x1x1x8x128_0_0_5_0_0
abbrev rTab06 : Rect S1x2x8x8x128 := Rect.unit (s := S1x2x8x8x128) ![0, 0, 6, 0, 0] S1x1x1x8x128.size inb_S1x2x8x8x128_S1x1x1x8x128_0_0_6_0_0
abbrev rTab07 : Rect S1x2x8x8x128 := Rect.unit (s := S1x2x8x8x128) ![0, 0, 7, 0, 0] S1x1x1x8x128.size inb_S1x2x8x8x128_S1x1x1x8x128_0_0_7_0_0
abbrev rTab10 : Rect S1x2x8x8x128 := Rect.unit (s := S1x2x8x8x128) ![0, 1, 0, 0, 0] S1x1x1x8x128.size inb_S1x2x8x8x128_S1x1x1x8x128_0_1_0_0_0
abbrev rTab11 : Rect S1x2x8x8x128 := Rect.unit (s := S1x2x8x8x128) ![0, 1, 1, 0, 0] S1x1x1x8x128.size inb_S1x2x8x8x128_S1x1x1x8x128_0_1_1_0_0
abbrev rTab12 : Rect S1x2x8x8x128 := Rect.unit (s := S1x2x8x8x128) ![0, 1, 2, 0, 0] S1x1x1x8x128.size inb_S1x2x8x8x128_S1x1x1x8x128_0_1_2_0_0
abbrev rTab13 : Rect S1x2x8x8x128 := Rect.unit (s := S1x2x8x8x128) ![0, 1, 3, 0, 0] S1x1x1x8x128.size inb_S1x2x8x8x128_S1x1x1x8x128_0_1_3_0_0
abbrev rTab14 : Rect S1x2x8x8x128 := Rect.unit (s := S1x2x8x8x128) ![0, 1, 4, 0, 0] S1x1x1x8x128.size inb_S1x2x8x8x128_S1x1x1x8x128_0_1_4_0_0
abbrev rTab15 : Rect S1x2x8x8x128 := Rect.unit (s := S1x2x8x8x128) ![0, 1, 5, 0, 0] S1x1x1x8x128.size inb_S1x2x8x8x128_S1x1x1x8x128_0_1_5_0_0
abbrev rTab16 : Rect S1x2x8x8x128 := Rect.unit (s := S1x2x8x8x128) ![0, 1, 6, 0, 0] S1x1x1x8x128.size inb_S1x2x8x8x128_S1x1x1x8x128_0_1_6_0_0
abbrev rTab17 : Rect S1x2x8x8x128 := Rect.unit (s := S1x2x8x8x128) ![0, 1, 7, 0, 0] S1x1x1x8x128.size inb_S1x2x8x8x128_S1x1x1x8x128_0_1_7_0_0

/-- The loop's coefficients, of the table window's block. -/
def coefOf (x4 : Vec F S1x2x8x8x128 .f32) : Coef F where
  row := iota .tc S8x128 32 [0] iota_S8x128_d0_w32
  f0 := k0_pay48 (View.ld x4 rTab00)
  f1 := k0_pay49 (View.ld x4 rTab01)
  f2 := k0_pay50 (View.ld x4 rTab02)
  f3 := k0_pay51 (View.ld x4 rTab03)
  f4 := k0_pay52 (View.ld x4 rTab04)
  f5 := k0_pay53 (View.ld x4 rTab05)
  f6 := k0_pay54 (View.ld x4 rTab06)
  f7 := k0_pay55 (View.ld x4 rTab07)
  b0 := k0_pay56 (View.ld x4 rTab10)
  b1 := k0_pay57 (View.ld x4 rTab11)
  b2 := k0_pay58 (View.ld x4 rTab12)
  b3 := k0_pay59 (View.ld x4 rTab13)
  b4 := k0_pay60 (View.ld x4 rTab14)
  b5 := k0_pay61 (View.ld x4 rTab15)
  b6 := View.ld x4 rTab16
  b7 := View.ld x4 rTab17

/-- The chunk states, and what the body leaves in the output window's block. -/
def chunkStates (x0 : Vec F S1x2048x256 .bf16) (x2 : Vec F S1x256x256 .bf16) : Vec F S2048x256 .f32 :=
  k0_pay47 (View.ld x0 rWhole) (View.ld x2 rMat)
def outBlk (x0 : Vec F S1x2048x256 .bf16) (x1 x2 x3 : Vec F S1x256x256 .bf16) (x4 : Vec F S1x2x8x8x128 .f32) : Vec F S1x2048x256 .bf16 :=
  View.canon [⟨rWhole, k0_pay7 (k0_pay46 (View.ld x0 rWhole)) (View.ld x1 rMat) (shifted (coefOf x4) (chunkStates x0 x2)) (View.ld x3 rMat)⟩]

/-- Its one store covers the block. -/
theorem cover_out (p : Vec F S1x2048x256 .bf16) (y : S1x2048x256.Idx) :
    ∃ pc ∈ ([⟨rWhole, p⟩] : List (View.Piece (Elt F) S1x2048x256 .bf16)), y ∈ pc.1.set :=
  View.cover_of_tiled [⟨rWhole, p⟩] S1x2048x256.size (by rfl) y

set_option maxHeartbeats 4000000 in
/-- The kernel body on whole memrefs: the five inputs are left as they were, the output and both scratch buffers end at
    some contents. -/
theorem kernel_run (c : Dev nD) (E : Set ℕ) (i : grid0.Coords)
    (arg1 : Memref sig .tc .vmem S1x2048x256 .bf16) (h1 : arg1.IsWhole) (arg2 : Memref sig .tc .vmem S1x256x256 .bf16) (h2 : arg2.IsWhole)
    (arg3 : Memref sig .tc .vmem S1x256x256 .bf16) (h3 : arg3.IsWhole) (arg4 : Memref sig .tc .vmem S1x256x256 .bf16) (h4 : arg4.IsWhole)
    (arg5 : Memref sig .tc .vmem S1x2x8x8x128 .f32) (h5 : arg5.IsWhole) (arg6 : Memref sig .tc .vmem S1x2048x256 .bf16) (h6 : arg6.IsWhole)
    (x0 : Vec F S1x2048x256 .bf16) (x1 x2 x3 : Vec F S1x256x256 .bf16) (x4 : Vec F S1x2x8x8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) scS fullShare d) ∗ (∃ d, owns (c : Thread nD τ) scC fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4) ∗ (∃ d, owns (c : Thread nD τ) scS fullShare d)
            ∗ (∃ d, owns (c : Thread nD τ) scC fullShare d)) -∗ K ⟨⟩))
      ⊢ wp frame (wpE (defs₀ (F := F)) Variants.none c none) E
          (cc0_ssm_chunk i arg1 h1 arg2 h2 arg3 h3 arg4 h4 arg5 h5 arg6 h6 scS (Memref.isWhole_whole _) scC (Memref.isWhole_whole _)) K := by
  simp only [cc0_ssm_chunk_eq_skeleton]; unfold cc0_ssm_chunk_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    have hS : ∀ g : BufTy.Contents (Elt F) scS.view.ty, scS.view.read (Elt F) (scS.view.writes (Elt F) g
        [⟨rS, k0_pay47 (arg1.view.readAt (Elt F) rWhole.toLoadRect f0) (arg3.view.readAt (Elt F) rMat.toLoadRect f2)⟩])
        = chunkStates (arg1.view.read (Elt F) f0) (arg3.view.read (Elt F) f2) := fun g => read_whole _ _ _
    have hv : kernel_run.sl.v47 c i arg1 h1 arg2 h2 arg3 h3 arg4 h4 arg5 h5 arg6 h6 f0 f2 f4 f7
        = shifted (coefOf (arg5.view.read (Elt F) f4)) (chunkStates (arg1.view.read (Elt F) f0) (arg3.view.read (Elt F) f2)) := by
      unfold kernel_run.sl.v47
      rw [View.readAt_full]
      exact (after_loop scS _ (coefOf (arg5.view.read (Elt F) f4)) _ c _ i arg1 h1 arg2 h2 arg3 h3 arg4 h4 arg5 h5 arg6 h6 _ scC _ f7 _ trips_eq).trans
        (congrArg (shifted _) (hS _))
    rw [hv]
    exact View.read_writes_eq_canon _ _ _ (cover_out _)
  isplitl [H6]
  · iexists _, _; isplitr; swap; · iexact H6
    ipureintro; rfl
  iexists _, _; isplitr; swap; · iexact H7
  ipureintro; rfl

/-! ## The proof data, the body at every point, and the run -/

/-- The proof data: arrays as the region finds them, every input block left in place, the output block at `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem after_5 (c : Dev nD) (t : Fin cfg0.N) : (dats m 0 c).after 5 t = outBlk (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, keep_eq]
  iintro ⟨⟨⟨HS, HC⟩, HR⟩, Ho, ⟨%d0, H0⟩, ⟨%d1, H1⟩, ⟨%d2, H2⟩, ⟨%d3, H3⟩, ⟨%d4, H4⟩, ⟨%d5, H5⟩⟩
  iapply (kernel_run c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HC]; · iexact HC
  iintro ⟨H0, H1, H2, H3, H4, H5, HS, HC⟩
  isplitl [HS HC HR]
  · isplitl [HS HC]
    · isplitl [HS]; · iexact HS
      iexact HC
    iexact HR
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every window's array at what the points leave in it, every other unscoped buffer as the region found it, every
    semaphore at zero. -/
theorem run_quiescent :
    θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began and every semaphore is at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.SsmIdeal.Hand

end
-- ==== Proof.SsmFrames.lean ====
/- The frames of the call `ssm_chunk`: as printed, read over the extended reals, and of its reference. -/
module

public import proofs.«01_k».proof.Defs
public import proofs.«01_k».proof.Proof.SsmRun
public import proofs.«01_k».proof.Proof.SsmIdealRun
public import proofs.«01_k».proof.Proof.Gen.SsmRefIdeal.Run

@[expose] public section

set_option maxRecDepth 16384

noncomputable section

namespace Cert.Proof

open Idealize.ShloMosaic Idealize.ShloMosaic.TcCoe Idealize.SL.Sem

theorem ssm_frame : Cert.quiescent_Ssm (hSsm := Ssm.Gen.facts) := fun m ρ _ => Ssm.Hand.unchanged m ρ

theorem ssm_ideal_frame : Cert.quiescent_SsmIdeal (hSsmIdeal := SsmIdeal.Gen.facts) := fun m ρ _ => SsmIdeal.Hand.unchanged m ρ

/-- The reference runs, its 8192 steps included, and leaves its arguments as they were. -/
theorem ssm_ref_frame : Cert.quiescent_SsmRefIdeal (hSsmRefIdeal := SsmRefIdeal.Gen.facts) := by
  intro m ρ _
  exact (θ_run SsmRefIdeal.defs _ _).mono (fun r h => ⟨fun c => (h c).2, sem_eq_zero_of_no_sems (by decide) r.2⟩)
    (SsmRefIdeal.Value.run (F := Ideal) m ρ)

end Cert.Proof

end
-- ==== Proof.SsmMath.lean ====
/-
  The mathematics of the state-space call, over the real and complex numbers: what the two scans are, how a scan is cut into
  chunks of sixteen, and that the chunked form gives the same outputs.
-/
module

public import Mathlib.Analysis.SpecialFunctions.Trigonometric.Basic
public import Mathlib.Analysis.Complex.Exponential
public import Mathlib.Tactic.Ring
public import Mathlib.Tactic.Linarith
public import Mathlib.Tactic.NormNum
public import Mathlib.Algebra.BigOperators.Fin

@[expose] public section

noncomputable section

namespace Ssm

open scoped BigOperators

/-- The state of a scan after `n` steps: multiplied by `a` and given the next input at each. -/
def scan (a z : ℂ) (x : ℕ → ℂ) : ℕ → ℂ
  | 0 => z
  | n + 1 => a * scan a z x n + x n

/-- A scan written out. -/
theorem scan_sum (a z : ℂ) (x : ℕ → ℂ) (n : ℕ) : scan a z x n = a ^ n * z + ∑ t ∈ Finset.range n, a ^ (n - 1 - t) * x t := by
  induction n with
  | zero => simp [scan]
  | succ n ih =>
    rw [scan, ih, Finset.sum_range_succ, mul_add, Finset.mul_sum]
    have : ∀ t ∈ Finset.range n, a * (a ^ (n - 1 - t) * x t) = a ^ (n + 1 - 1 - t) * x t := by
      intro t ht
      have := Finset.mem_range.mp ht
      rw [show n + 1 - 1 - t = (n - 1 - t) + 1 by omega, pow_succ]; ring
    rw [Finset.sum_congr rfl this]
    simp [pow_succ]; ring

/-- A scan continued. -/
theorem scan_add (a z : ℂ) (x : ℕ → ℂ) (k n : ℕ) : scan a z x (k + n) = scan a (scan a z x k) (fun t => x (k + t)) n := by
  induction n with
  | zero => rfl
  | succ n ih => rw [← add_assoc, scan, ih]; rfl

/-- Sixteen steps at a time: the scan of the chunks' sums by the sixteenth power. -/
theorem scan_chunks (a z : ℂ) (x : ℕ → ℂ) (n : ℕ) :
    scan a z x (16 * n) = scan (a ^ 16) z (fun j => ∑ t ∈ Finset.range 16, a ^ (15 - t) * x (16 * j + t)) n := by
  induction n with
  | zero => rfl
  | succ n ih => rw [show 16 * (n + 1) = 16 * n + 16 by ring, scan_add, scan_sum, ih]; rfl

/-- Two scans whose inputs agree as far as they go. -/
theorem scan_congr (a z : ℂ) {x y : ℕ → ℂ} (n : ℕ) (h : ∀ k < n, x k = y k) : scan a z x n = scan a z y n := by
  induction n with
  | zero => rfl
  | succ n ih => rw [scan, scan, ih fun k hk => h k (by omega), h n (by omega)]

/-- The call's arguments as real numbers: the tokens by batch entry, position, group and channel, then the parameters. -/
structure Params where
  u : Fin 4 → ℕ → Fin 32 → Fin 16 → ℝ
  lr : Fin 2 → Fin 32 → Fin 64 → ℝ
  li : Fin 2 → Fin 32 → Fin 64 → ℝ
  ld : Fin 2 → Fin 32 → ℝ
  br : Fin 2 → Fin 32 → Fin 64 → Fin 16 → ℝ
  bi : Fin 2 → Fin 32 → Fin 64 → Fin 16 → ℝ
  cr : Fin 2 → Fin 32 → Fin 16 → Fin 64 → ℝ
  ci : Fin 2 → Fin 32 → Fin 16 → Fin 64 → ℝ
  ds : Fin 32 → Fin 16 → ℝ

variable (P : Params)

/-- The transition: the exponential of the eigenvalue times the step. -/
def A (d : Fin 2) (g : Fin 32) (p : Fin 64) : ℂ := Complex.exp ⟨P.lr d g p * Real.exp (P.ld d g), P.li d g p * Real.exp (P.ld d g)⟩

/-- Its powers, by real operations. -/
theorem A_pow_re (d : Fin 2) (g : Fin 32) (p : Fin 64) (k : ℕ) : (A P d g p ^ k).re =
    Real.exp (P.lr d g p * Real.exp (P.ld d g) * k) * Real.cos (P.li d g p * Real.exp (P.ld d g) * k) := by
  rw [A, ← Complex.exp_nat_mul, Complex.exp_re]; simp [mul_comm]
theorem A_pow_im (d : Fin 2) (g : Fin 32) (p : Fin 64) (k : ℕ) : (A P d g p ^ k).im =
    Real.exp (P.lr d g p * Real.exp (P.ld d g) * k) * Real.sin (P.li d g p * Real.exp (P.ld d g) * k) := by
  rw [A, ← Complex.exp_nat_mul, Complex.exp_im]; simp [mul_comm]

/-- The size of the eigenvalue, squared. -/
def size (d : Fin 2) (g : Fin 32) (p : Fin 64) : ℝ := P.lr d g p * P.lr d g p + P.li d g p * P.li d g p

/-- The transition less one over the eigenvalue. -/
def Q (d : Fin 2) (g : Fin 32) (p : Fin 64) : ℂ :=
  ⟨(((A P d g p).re - 1) * P.lr d g p + (A P d g p).im * P.li d g p) * (size P d g p)⁻¹,
   ((A P d g p).im * P.lr d g p - ((A P d g p).re - 1) * P.li d g p) * (size P d g p)⁻¹⟩

/-- The discretised input matrix, and the output matrix. -/
def B (d : Fin 2) (g : Fin 32) (p : Fin 64) (i : Fin 16) : ℂ := Q P d g p * ⟨P.br d g p i, P.bi d g p i⟩
def C (d : Fin 2) (g : Fin 32) (o : Fin 16) (p : Fin 64) : ℂ := ⟨P.cr d g o p, P.ci d g o p⟩

/-- What position `L` adds to the state. -/
def inp (d : Fin 2) (b : Fin 4) (g : Fin 32) (p : Fin 64) (L : ℕ) : ℂ := ∑ i, B P d g p i * (P.u b L g i : ℂ)

/-- The inputs in the order the scan of direction `d` takes them, and the state at position `L`. -/
def seq (d : Fin 2) (b : Fin 4) (g : Fin 32) (p : Fin 64) (k : ℕ) : ℂ := inp P d b g p (if d = 0 then k else 8191 - k)
def state (d : Fin 2) (b : Fin 4) (g : Fin 32) (p : Fin 64) (L : ℕ) : ℂ :=
  scan (A P d g p) 0 (seq P d b g p) (if d = 0 then L + 1 else 8192 - L)

/-- The output. -/
def out (b : Fin 4) (L : ℕ) (g : Fin 32) (o : Fin 16) : ℝ :=
  P.ds g o * P.u b L g o + ∑ d, ∑ p, (C P d g o p * state P d b g p L).re

/-- One chunk's contribution to the state after it, and the state before chunk `j` in the scan's order. -/
def chunk (d : Fin 2) (b : Fin 4) (g : Fin 32) (p : Fin 64) (j : ℕ) : ℂ :=
  ∑ t : Fin 16, A P d g p ^ (if d = 0 then 15 - t.val else t.val) * inp P d b g p (16 * j + t.val)
def carry (d : Fin 2) (b : Fin 4) (g : Fin 32) (p : Fin 64) (j : ℕ) : ℂ :=
  scan (A P d g p ^ 16) 0 (fun n => chunk P d b g p (if d = 0 then n else 511 - n)) (if d = 0 then j else 511 - j)

/-- What input channel `i` adds to output channel `o`, `l` positions on. -/
def lag (l : ℕ) (d : Fin 2) (g : Fin 32) (o i : Fin 16) : ℝ := ∑ p, (C P d g o p * A P d g p ^ l * B P d g p i).re

/-- The matrix from a chunk's inputs to its outputs. -/
def intra (g : Fin 32) (t i s o : Fin 16) : ℝ :=
  (if t ≤ s then lag P (s.val - t.val) 0 g o i else 0) + (if s ≤ t then lag P (t.val - s.val) 1 g o i else 0)
    + (if s = t ∧ o = i then P.ds g o else 0)

/-- The power of the transition from the state before a chunk to its place `s`. -/
def toPlace (d : Fin 2) (s : ℕ) : ℕ := if d = 0 then s + 1 else 16 - s

/-- The state inside a chunk: from the one before it and the inputs up to the place. -/
theorem state_fwd (b : Fin 4) (g : Fin 32) (p : Fin 64) (j : ℕ) (s : Fin 16) : state P 0 b g p (16 * j + s.val) =
    A P 0 g p ^ (s.val + 1) * carry P 0 b g p j
      + ∑ t : Fin 16, if t ≤ s then A P 0 g p ^ (s.val - t.val) * inp P 0 b g p (16 * j + t.val) else 0 := by
  have hc : scan (A P 0 g p) 0 (seq P 0 b g p) (16 * j) = carry P 0 b g p j := by
    rw [scan_chunks, carry]
    simp only [if_pos]
    congr 1
  rw [state, if_pos rfl, show 16 * j + s.val + 1 = 16 * j + (s.val + 1) by ring, scan_add, hc, scan_sum]
  congr 1
  rw [Finset.sum_range, ← Finset.sum_filter]
  refine Finset.sum_bij' (fun t _ => ⟨t.val, by omega⟩) (fun t h => ⟨t.val, by simp at h; have : t.val ≤ s.val := h; omega⟩) ?_ ?_ ?_ ?_ ?_
  · intro t _; simp; show t.val ≤ s.val; omega
  · intro t _; simp
  · intro t _; rfl
  · intro t _; rfl
  · intro t _; simp [seq]

theorem state_bwd (b : Fin 4) (g : Fin 32) (p : Fin 64) (j : ℕ) (hj : j < 512) (s : Fin 16) : state P 1 b g p (16 * j + s.val) =
    A P 1 g p ^ (16 - s.val) * carry P 1 b g p j
      + ∑ t : Fin 16, if s ≤ t then A P 1 g p ^ (t.val - s.val) * inp P 1 b g p (16 * j + t.val) else 0 := by
  have hc : scan (A P 1 g p) 0 (seq P 1 b g p) (16 * (511 - j)) = carry P 1 b g p j := by
    rw [scan_chunks, carry]
    simp only [Fin.isValue, one_ne_zero, if_false]
    refine scan_congr _ _ _ fun n hn => ?_
    rw [chunk, Finset.sum_range]
    refine Finset.sum_equiv Fin.revPerm (by simp) fun t _ => ?_
    simp only [seq, Fin.isValue, one_ne_zero, if_false, Fin.revPerm_apply, Fin.val_rev]
    congr 2 <;> omega
  rw [state, if_neg (by decide), show 8192 - (16 * j + s.val) = 16 * (511 - j) + (16 - s.val) by omega, scan_add, hc, scan_sum]
  congr 1
  rw [Finset.sum_range, ← Finset.sum_filter]
  refine Finset.sum_bij' (fun t _ => ⟨15 - t.val, by omega⟩)
    (fun t h => ⟨15 - t.val, by simp at h; have : s.val ≤ t.val := h; omega⟩) ?_ ?_ ?_ ?_ ?_
  · intro t _; simp; show s.val ≤ 15 - t.val; omega
  · intro t _; simp
  · intro t _; exact Fin.ext (by show 15 - (15 - t.val) = t.val; omega)
  · intro t _; exact Fin.ext (by show 15 - (15 - t.val) = t.val; omega)
  · intro t _
    simp only [seq, Fin.isValue, one_ne_zero, if_false]
    have := t.isLt
    congr 2 <;> omega

/-- What the inputs of the same chunk add to an output, direction by direction. -/
theorem lag_sum (d : Fin 2) (b : Fin 4) (g : Fin 32) (o : Fin 16) (L l : ℕ) :
    ∑ i, P.u b L g i * lag P l d g o i = ∑ p, (C P d g o p * (A P d g p ^ l * inp P d b g p L)).re := by
  simp only [lag, Finset.mul_sum, inp, Complex.re_sum]
  rw [Finset.sum_comm]
  refine Finset.sum_congr rfl fun p _ => Finset.sum_congr rfl fun i _ => ?_
  rw [show C P d g o p * (A P d g p ^ l * (B P d g p i * (P.u b L g i : ℂ))) = (P.u b L g i : ℂ) * (C P d g o p * A P d g p ^ l * B P d g p i) by ring,
    Complex.re_ofReal_mul]

/-- THE CHUNKED FORM: inputs of the same chunk through `intra`, the rest through the state before the chunk. -/
theorem out_chunked (b : Fin 4) (j : ℕ) (hj : j < 512) (g : Fin 32) (s o : Fin 16) :
    (∑ t : Fin 16, ∑ i : Fin 16, P.u b (16 * j + t.val) g i * intra P g t i s o)
      + ∑ d, ∑ p, ((carry P d b g p j).re * (C P d g o p * A P d g p ^ toPlace d s.val).re
          + (carry P d b g p j).im * -(C P d g o p * A P d g p ^ toPlace d s.val).im) = out P b (16 * j + s.val) g o := by
  have h1 : ∀ t : Fin 16, ∑ i : Fin 16, P.u b (16 * j + t.val) g i * intra P g t i s o =
      (∑ p, (C P 0 g o p * (if t ≤ s then A P 0 g p ^ (s.val - t.val) * inp P 0 b g p (16 * j + t.val) else 0)).re)
      + (∑ p, (C P 1 g o p * (if s ≤ t then A P 1 g p ^ (t.val - s.val) * inp P 1 b g p (16 * j + t.val) else 0)).re)
      + if s = t then P.ds g o * P.u b (16 * j + s.val) g o else 0 := by
    intro t
    simp only [intra, mul_add, Finset.sum_add_distrib]
    congr 1
    · congr 1
      · by_cases h : t ≤ s
        · simp only [h, if_true]; exact lag_sum P 0 b g o _ _
        · simp [h]
      · by_cases h : s ≤ t
        · simp only [h, if_true]; exact lag_sum P 1 b g o _ _
        · simp [h]
    · by_cases h : s = t
      · subst h; simp [mul_comm]
      · simp [h]
  simp only [h1, Finset.sum_add_distrib]
  rw [out]
  simp only [Fin.sum_univ_two]
  simp only [state_fwd, state_bwd P b g _ j hj s, mul_add, Complex.add_re, Finset.sum_add_distrib, Finset.mul_sum, Complex.re_sum, toPlace]
  simp only [Fin.isValue, if_true, one_ne_zero, if_false, Finset.sum_ite_eq, Finset.mem_univ]
  rw [Finset.sum_comm (s := (Finset.univ : Finset (Fin 16))), Finset.sum_comm (s := (Finset.univ : Finset (Fin 16)))]
  have e : ∀ (d : Fin 2) (n : ℕ), ∑ p, ((carry P d b g p j).re * (C P d g o p * A P d g p ^ n).re) + ∑ p, ((carry P d b g p j).im * -(C P d g o p * A P d g p ^ n).im)
      = ∑ p, (C P d g o p * (A P d g p ^ n * carry P d b g p j)).re := by
    intro d n
    rw [← Finset.sum_add_distrib]
    refine Finset.sum_congr rfl fun p _ => ?_
    rw [← mul_assoc, Complex.mul_re (C P d g o p * A P d g p ^ n)]; ring
  have e0 := e 0 (s.val + 1)
  have e1 := e 1 (16 - s.val)
  linarith

end Ssm

end
-- ==== Proof.SsmReads.lean ====
/-
  The call's argument arrays as real numbers, and the host's operations at real numbers.
-/
module

public import proofs.«01_k».proof.Proof.SsmMath
public import Idealize.ShloMosaic.Lib.StableHlo.ReadAt
public import Idealize.ShloMosaic.Lib.IdealHost

@[expose] public section

noncomputable section

namespace Ssm

open Idealize.ShloMosaic

/-- The nine argument arrays hold the real numbers `P`, and no eigenvalue is zero. -/
structure Reads (P : Params) (a0 : FVec Ideal ⟨2, ![32768, 512]⟩ .bf16) (a1 a2 : FVec Ideal ⟨3, ![2, 32, 64]⟩ .f32)
    (a3 : FVec Ideal ⟨2, ![2, 32]⟩ .f32) (a4 a5 : FVec Ideal ⟨4, ![2, 32, 64, 16]⟩ .f32)
    (a6 a7 : FVec Ideal ⟨4, ![2, 32, 16, 64]⟩ .f32) (a8 : FVec Ideal ⟨2, ![32, 16]⟩ .f32) : Prop where
  u : ∀ (b : Fin 4) (L : ℕ) (g : Fin 32) (i : Fin 16) (h : L < 8192),
    a0 (ix2 ⟨b.val * 8192 + L, by omega⟩ ⟨g.val * 16 + i.val, by omega⟩) = ((P.u b L g i : ℝ) : EReal)
  lr : ∀ d g p, a1 (ix3 d g p) = ((P.lr d g p : ℝ) : EReal)
  li : ∀ d g p, a2 (ix3 d g p) = ((P.li d g p : ℝ) : EReal)
  ld : ∀ d g, a3 (ix2 d g) = ((P.ld d g : ℝ) : EReal)
  br : ∀ d g p i, a4 (ix4 d g p i) = ((P.br d g p i : ℝ) : EReal)
  bi : ∀ d g p i, a5 (ix4 d g p i) = ((P.bi d g p i : ℝ) : EReal)
  cr : ∀ d g o p, a6 (ix4 d g o p) = ((P.cr d g o p : ℝ) : EReal)
  ci : ∀ d g o p, a7 (ix4 d g o p) = ((P.ci d g o p : ℝ) : EReal)
  ds : ∀ g i, a8 (ix2 g i) = ((P.ds g i : ℝ) : EReal)
  size : ∀ d g p, size P d g p ≠ 0

/-- The exponential, cosine and sine of a real number. -/
theorem exp_coe (r : ℝ) : Ideal.exp (r : EReal) = ((Real.exp r : ℝ) : EReal) := rfl
theorem cos_coe (r : ℝ) : Ideal.cos (r : EReal) = ((Real.cos r : ℝ) : EReal) := rfl
theorem sin_coe (r : ℝ) : Ideal.sin (r : EReal) = ((Real.sin r : ℝ) : EReal) := rfl

/-- Division by a real number that is not zero. -/
theorem div_coe (x : ℝ) {y : ℝ} (h : y ≠ 0) : Ideal.div (x : EReal) (y : EReal) = ((x * y⁻¹ : ℝ) : EReal) := by
  rw [Ideal.div, if_neg (by exact_mod_cast h), EReal.coe_mul, EReal.coe_inv]

/-- The pattern of one. -/
theorem one_coe : Ideal.ofBits .f32 0x3F800000#32 = ((1 : ℝ) : EReal) := by simp

/-- A sum of real numbers. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable (P : Params)

/-- The powers of the transition as the two programs spell them. -/
theorem pow_re (d : Fin 2) (g : Fin 32) (p : Fin 64) (k : ℕ) : Real.exp (P.lr d g p * Real.exp (P.ld d g) * (k : ℝ)) *
    Real.cos (P.li d g p * Real.exp (P.ld d g) * (k : ℝ)) = (A P d g p ^ k).re := (A_pow_re P d g p k).symm
theorem pow_im (d : Fin 2) (g : Fin 32) (p : Fin 64) (k : ℕ) : Real.exp (P.lr d g p * Real.exp (P.ld d g) * (k : ℝ)) *
    Real.sin (P.li d g p * Real.exp (P.ld d g) * (k : ℝ)) = (A P d g p ^ k).im := (A_pow_im P d g p k).symm

end Ssm

end
-- ==== Proof.SsmTab.lean ====
/-
  The arrays the kernel's host code prepares, read at an index at the real-number arguments: the powers of the transition
  and the discretised input matrix.
-/
module

public import proofs.«01_k».proof.Proof.Gen.SsmIdeal.Frame
public import proofs.«01_k».proof.Proof.SsmReads

@[expose] public section

noncomputable section

namespace Cert.SsmIdeal.Hand

open Idealize.ShloMosaic Cert.SsmIdeal Cert.SsmIdeal.Gen Ssm

variable (m : (ℓ : Loc nD τ sig) → Buf (Elt Ideal) ℓ) (c : Dev nD)

/-- The kernel's argument arrays hold the real numbers `P`. -/
abbrev Reads (P : Params) : Prop := Ssm.Reads P (m (c, Proc.tc.devRef main_arg0)) (m (c, Proc.tc.devRef main_arg1))
  (m (c, Proc.tc.devRef main_arg2)) (m (c, Proc.tc.devRef main_arg3)) (m (c, Proc.tc.devRef main_arg4))
  (m (c, Proc.tc.devRef main_arg5)) (m (c, Proc.tc.devRef main_arg6)) (m (c, Proc.tc.devRef main_arg7))
  (m (c, Proc.tc.devRef main_arg8))

/-- The list of exponents 0 to 16. -/
theorem lit0_coe (k : Fin 17) : Ideal.ofBits .f32 (lit0 (S17.rowMajor (ix1 k))) = ((k.val : ℝ) : EReal) := by
  rw [show S17.rowMajor (ix1 k) = k from Fin.ext (Shape.rowMajor_val_one _)]
  fin_cases k <;> simp [lit0, Ideal.ofBits, Ideal.ieee, -EReal.coe_mul] <;> norm_num

/-- The list of exponents 16, 32, …, 128. -/
theorem lit2_coe (k : Fin 8) : Ideal.ofBits .f32 (lit2 (S8.rowMajor (ix1 k))) = (((16 * (k.val + 1) : ℕ) : ℝ) : EReal) := by
  rw [show S8.rowMajor (ix1 k) = k from Fin.ext (Shape.rowMajor_val_one _)]
  fin_cases k <;> simp [lit2, Ideal.ofBits, Ideal.ieee, -EReal.coe_mul] <;> norm_num

variable {m c} {P : Params}

set_option maxHeartbeats 8000000 in
/-- The powers 0 to 16 of the transition, real part. -/
theorem V_v63 (h : Reads m c P) (k : Fin 17) (d : Fin 2) (g : Fin 32) (p : Fin 64) :
    V (F := Ideal) m c main_v63 (ix4 k d g p) = (((A P d g p ^ k.val).re : ℝ) : EReal) := by
  unfold V
  after_reads_at
  simp only [Ideal.mulf_def, Ideal.hostUnary_exp_def, Ideal.hostUnary_cos_def, Ideal.ofBits_def, lit0_coe, h.lr, h.li, h.ld, exp_coe, cos_coe,
    ← EReal.coe_mul, pow_re]

set_option maxHeartbeats 8000000 in
/-- The discretised input matrix, real part. -/
theorem V_v44 (h : Reads m c P) (d : Fin 2) (g : Fin 32) (p : Fin 64) (i : Fin 16) :
    V (F := Ideal) m c main_v44 (ix4 d g p i) = (((B P d g p i).re : ℝ) : EReal) := by
  have hs := h.size d g p
  have e1 := pow_re P d g p 1
  have e2 := pow_im P d g p 1
  simp only [pow_one, Nat.cast_one] at e1 e2
  unfold V
  after_reads_at
  simp only [Ideal.mulf_def, Ideal.addf_def, Ideal.subf_def, Ideal.hostUnary_exp_def, Ideal.hostUnary_cos_def, Ideal.hostUnary_sin_def, Ideal.hostDivf_def, Ideal.ofBits_def, one_coe, h.lr, h.li, h.ld,
    h.br, h.bi, exp_coe, cos_coe, sin_coe, ← EReal.coe_mul, ← EReal.coe_add, ← EReal.coe_sub, e1, e2]
  rw [size] at hs
  simp only [div_coe _ hs, ← EReal.coe_mul, ← EReal.coe_add, ← EReal.coe_sub]
  congr 1
  simp [B, Q, size]

set_option maxHeartbeats 8000000 in
/-- The discretised input matrix, imaginary part. -/
theorem V_v51 (h : Reads m c P) (d : Fin 2) (g : Fin 32) (p : Fin 64) (i : Fin 16) :
    V (F := Ideal) m c main_v51 (ix4 d g p i) = (((B P d g p i).im : ℝ) : EReal) := by
  have hs := h.size d g p
  have e1 := pow_re P d g p 1
  have e2 := pow_im P d g p 1
  simp only [pow_one, Nat.cast_one] at e1 e2
  unfold V
  after_reads_at
  simp only [Ideal.mulf_def, Ideal.addf_def, Ideal.subf_def, Ideal.hostUnary_exp_def, Ideal.hostUnary_cos_def, Ideal.hostUnary_sin_def, Ideal.hostDivf_def, Ideal.ofBits_def, one_coe, h.lr, h.li, h.ld,
    h.br, h.bi, exp_coe, cos_coe, sin_coe, ← EReal.coe_mul, ← EReal.coe_add, ← EReal.coe_sub, e1, e2]
  rw [size] at hs
  simp only [div_coe _ hs, ← EReal.coe_mul, ← EReal.coe_add, ← EReal.coe_sub]
  congr 1
  simp [B, Q, size]

/-- The powers of the transition as the host code computes them. -/
theorem read_re {x y s e : EReal} (d : Fin 2) (g : Fin 32) (p : Fin 64) {k : ℕ} (hx : x = ((P.lr d g p : ℝ) : EReal))
    (hy : y = ((P.li d g p : ℝ) : EReal)) (hs : s = ((P.ld d g : ℝ) : EReal)) (he : e = ((k : ℝ) : EReal)) :
    Ideal.exp (x * Ideal.exp s * e) * Ideal.cos (y * Ideal.exp s * e) = (((A P d g p ^ k).re : ℝ) : EReal) := by
  simp only [hx, hy, hs, he, exp_coe, cos_coe, ← EReal.coe_mul, pow_re]
theorem read_im {x y s e : EReal} (d : Fin 2) (g : Fin 32) (p : Fin 64) {k : ℕ} (hx : x = ((P.lr d g p : ℝ) : EReal))
    (hy : y = ((P.li d g p : ℝ) : EReal)) (hs : s = ((P.ld d g : ℝ) : EReal)) (he : e = ((k : ℝ) : EReal)) :
    Ideal.exp (x * Ideal.exp s * e) * Ideal.sin (y * Ideal.exp s * e) = (((A P d g p ^ k).im : ℝ) : EReal) := by
  simp only [hx, hy, hs, he, exp_coe, sin_coe, ← EReal.coe_mul, pow_im]

/-- The powers in the order of the first direction's inputs. -/
theorem upto_v133 (h : Reads m c P) (t : Fin 16) (z : Fin 1) (g : Fin 32) (p : Fin 64) :
    StableHlo.upto hostOps0 (fun b => m (c, b)) 144 (no_index (Proc.devRef .tc main_v133)) (ix4 t z g p) = (((A P 0 g p ^ t.rev.val).re : ℝ) : EReal) := by
  after_reads_at
  exact read_re 0 g p (h.lr 0 g p) (h.li 0 g p) (h.ld 0 g) (lit0_coe ⟨t.rev.val, by omega⟩)

/-- The powers in the order of the second direction's inputs. -/
theorem upto_v134 (h : Reads m c P) (t : Fin 16) (z : Fin 1) (g : Fin 32) (p : Fin 64) :
    StableHlo.upto hostOps0 (fun b => m (c, b)) 144 (no_index (Proc.devRef .tc main_v134)) (ix4 t z g p) = (((A P 1 g p ^ t.val).re : ℝ) : EReal) := by
  after_reads_at
  exact read_re 1 g p (h.lr 1 g p) (h.li 1 g p) (h.ld 1 g) (lit0_coe ⟨t.val, by omega⟩)

theorem upto_v141 (h : Reads m c P) (t : Fin 16) (z : Fin 1) (g : Fin 32) (p : Fin 64) :
    StableHlo.upto hostOps0 (fun b => m (c, b)) 152 (no_index (Proc.devRef .tc main_v141)) (ix4 t z g p) = (((A P 0 g p ^ t.rev.val).im : ℝ) : EReal) := by
  after_reads_at
  exact read_im 0 g p (h.lr 0 g p) (h.li 0 g p) (h.ld 0 g) (lit0_coe ⟨t.rev.val, by omega⟩)

theorem upto_v142 (h : Reads m c P) (t : Fin 16) (z : Fin 1) (g : Fin 32) (p : Fin 64) :
    StableHlo.upto hostOps0 (fun b => m (c, b)) 152 (no_index (Proc.devRef .tc main_v142)) (ix4 t z g p) = (((A P 1 g p ^ t.val).im : ℝ) : EReal) := by
  after_reads_at
  exact read_im 1 g p (h.lr 1 g p) (h.li 1 g p) (h.ld 1 g) (lit0_coe ⟨t.val, by omega⟩)

/-- The powers in the order of the first direction's outputs. -/
theorem upto_v176 (h : Reads m c P) (t : Fin 16) (z : Fin 1) (g : Fin 32) (p : Fin 64) :
    StableHlo.upto hostOps0 (fun b => m (c, b)) 187 (no_index (Proc.devRef .tc main_v176)) (ix4 t z g p) = (((A P 0 g p ^ (1 + t.val)).re : ℝ) : EReal) := by
  after_reads_at
  exact read_re 0 g p (h.lr 0 g p) (h.li 0 g p) (h.ld 0 g) (lit0_coe ⟨1 + t.val, by omega⟩)

/-- The powers in the order of the second direction's outputs. -/
theorem upto_v177 (h : Reads m c P) (t : Fin 16) (z : Fin 1) (g : Fin 32) (p : Fin 64) :
    StableHlo.upto hostOps0 (fun b => m (c, b)) 187 (no_index (Proc.devRef .tc main_v177)) (ix4 t z g p) = (((A P 1 g p ^ (1 + t.rev.val)).re : ℝ) : EReal) := by
  after_reads_at
  exact read_re 1 g p (h.lr 1 g p) (h.li 1 g p) (h.ld 1 g) (lit0_coe ⟨1 + t.rev.val, by omega⟩)

theorem upto_v184 (h : Reads m c P) (t : Fin 16) (z : Fin 1) (g : Fin 32) (p : Fin 64) :
    StableHlo.upto hostOps0 (fun b => m (c, b)) 195 (no_index (Proc.devRef .tc main_v184)) (ix4 t z g p) = (((A P 0 g p ^ (1 + t.val)).im : ℝ) : EReal) := by
  after_reads_at
  exact read_im 0 g p (h.lr 0 g p) (h.li 0 g p) (h.ld 0 g) (lit0_coe ⟨1 + t.val, by omega⟩)

theorem upto_v185 (h : Reads m c P) (t : Fin 16) (z : Fin 1) (g : Fin 32) (p : Fin 64) :
    StableHlo.upto hostOps0 (fun b => m (c, b)) 195 (no_index (Proc.devRef .tc main_v185)) (ix4 t z g p) = (((A P 1 g p ^ (1 + t.rev.val)).im : ℝ) : EReal) := by
  after_reads_at
  exact read_im 1 g p (h.lr 1 g p) (h.li 1 g p) (h.ld 1 g) (lit0_coe ⟨1 + t.rev.val, by omega⟩)

end Cert.SsmIdeal.Hand
-- ==== Proof.SsmTabD.lean ====
/-
  The table of the scan's multipliers.
-/
module

public import proofs.«01_k».proof.Proof.SsmTab

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

/-- A lane's state, for the two halves of the lanes. -/
theorem lane_lo (l : Fin 128) (hl : l.val < 64) : (⟨l.val, hl⟩ : Fin 64) = ⟨l.val % 64, by omega⟩ := Fin.ext (by simp; omega)
theorem lane_hi (l : Fin 128) (hl : ¬ l.val < 64) : (⟨l.val - 64, by omega⟩ : Fin 64) = ⟨l.val % 64, by omega⟩ := Fin.ext (by simp; omega)

/-- A multiplier as the two kinds of row hold it: its real part in every lane, and its imaginary part with a sign in the low lanes. -/
def rr (z : Fin 64 → ℂ) (l : Fin 128) : EReal := (((z ⟨l.val % 64, by omega⟩).re : ℝ) : EReal)
def sw (z : Fin 64 → ℂ) (l : Fin 128) : EReal := (((if l.val < 64 then -(z ⟨l.val % 64, by omega⟩).im else (z ⟨l.val % 64, by omega⟩).im) : ℝ) : EReal)

theorem rr_lo {z : Fin 64 → ℂ} {l : Fin 128} (hl : l.val < 64) : (((z ⟨l.val, hl⟩).re : ℝ) : EReal) = rr z l := by rw [rr, lane_lo l hl]
theorem rr_hi {z : Fin 64 → ℂ} {l : Fin 128} (hl : ¬ l.val < 64) : (((z ⟨l.val - 64, by omega⟩).re : ℝ) : EReal) = rr z l := by rw [rr, lane_hi l hl]
theorem sw_lo {z : Fin 64 → ℂ} {l : Fin 128} (hl : l.val < 64) : (((-(z ⟨l.val, hl⟩).im) : ℝ) : EReal) = sw z l := by rw [sw, if_pos hl, lane_lo l hl]
theorem sw_hi {z : Fin 64 → ℂ} {l : Fin 128} (hl : ¬ l.val < 64) : (((z ⟨l.val - 64, by omega⟩).im : ℝ) : EReal) = sw z l := by rw [sw, if_neg hl, lane_hi l hl]

set_option maxHeartbeats 16000000 in
/-- The table: the power 16, real parts, and imaginary parts with signs. -/
theorem V_v296_0 (h : Reads m c P) (g : Fin 32) (d : Fin 2) (r : Fin 8) (l : Fin 128) :
    V (F := Ideal) m c main_v296 (ix5 g d 0 r l) = rr (fun p => A P d g p ^ 16) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact rr_lo (z := fun p => A P d g p ^ 16) hl
  · exact rr_hi (z := fun p => A P d g p ^ 16) hl

set_option maxHeartbeats 16000000 in
/-- The same, imaginary parts with signs. -/
theorem V_v296_1 (h : Reads m c P) (g : Fin 32) (d : Fin 2) (r : Fin 8) (l : Fin 128) :
    V (F := Ideal) m c main_v296 (ix5 g d 1 r l) = sw (fun p => A P d g p ^ 16) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact sw_lo (z := fun p => A P d g p ^ 16) hl
  · exact sw_hi (z := fun p => A P d g p ^ 16) hl

set_option maxHeartbeats 16000000 in
/-- The table: the power 32, real parts, and imaginary parts with signs. -/
theorem V_v296_2 (h : Reads m c P) (g : Fin 32) (d : Fin 2) (r : Fin 8) (l : Fin 128) :
    V (F := Ideal) m c main_v296 (ix5 g d 2 r l) = rr (fun p => A P d g p ^ 32) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact rr_lo (z := fun p => A P d g p ^ 32) hl
  · exact rr_hi (z := fun p => A P d g p ^ 32) hl

set_option maxHeartbeats 16000000 in
/-- The same, imaginary parts with signs. -/
theorem V_v296_3 (h : Reads m c P) (g : Fin 32) (d : Fin 2) (r : Fin 8) (l : Fin 128) :
    V (F := Ideal) m c main_v296 (ix5 g d 3 r l) = sw (fun p => A P d g p ^ 32) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact sw_lo (z := fun p => A P d g p ^ 32) hl
  · exact sw_hi (z := fun p => A P d g p ^ 32) hl

set_option maxHeartbeats 16000000 in
/-- The table: the power 64, real parts, and imaginary parts with signs. -/
theorem V_v296_4 (h : Reads m c P) (g : Fin 32) (d : Fin 2) (r : Fin 8) (l : Fin 128) :
    V (F := Ideal) m c main_v296 (ix5 g d 4 r l) = rr (fun p => A P d g p ^ 64) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact rr_lo (z := fun p => A P d g p ^ 64) hl
  · exact rr_hi (z := fun p => A P d g p ^ 64) hl

set_option maxHeartbeats 16000000 in
/-- The same, imaginary parts with signs. -/
theorem V_v296_5 (h : Reads m c P) (g : Fin 32) (d : Fin 2) (r : Fin 8) (l : Fin 128) :
    V (F := Ideal) m c main_v296 (ix5 g d 5 r l) = sw (fun p => A P d g p ^ 64) l := by
  unfold V
  after_reads_at
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact sw_lo (z := fun p => A P d g p ^ 64) hl
  · exact sw_hi (z := fun p => A P d g p ^ 64) hl

set_option maxHeartbeats 16000000 in
/-- The rows' multipliers of the first direction, real parts. -/
theorem upto_v276 (h : Reads m c P) (z : Fin 1) (g : Fin 32) (r : Fin 8) (l : Fin 128) :
    StableHlo.upto hostOps0 (fun b => m (c, b)) 287 (no_index (Proc.devRef .tc main_v276)) (ix4 z g r l)
      = rr (fun p => A P 0 g p ^ (16 * (r.val + 1))) l := by
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact rr_lo (z := fun p => A P 0 g p ^ (16 * (r.val + 1))) hl
  · exact rr_hi (z := fun p => A P 0 g p ^ (16 * (r.val + 1))) hl

set_option maxHeartbeats 16000000 in
/-- The rows' multipliers of the second direction, real parts. -/
theorem upto_v277 (h : Reads m c P) (z : Fin 1) (g : Fin 32) (r : Fin 8) (l : Fin 128) :
    StableHlo.upto hostOps0 (fun b => m (c, b)) 287 (no_index (Proc.devRef .tc main_v277)) (ix4 z g r l)
      = rr (fun p => A P 1 g p ^ (16 * (r.rev.val + 1))) l := by
  after_reads_at
  show (if hl : l.val < 64 then StableHlo.upto hostOps0 (fun b => m (c, b)) 275 (Proc.tc.devRef main_v226) (ix4 r.rev 1 g ⟨l.val, hl⟩)
    else StableHlo.upto hostOps0 (fun b => m (c, b)) 275 (Proc.tc.devRef main_v226) (ix4 r.rev 1 g ⟨l.val - 64, by omega⟩)) = _
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact rr_lo (z := fun p => A P 1 g p ^ (16 * (r.rev.val + 1))) hl
  · exact rr_hi (z := fun p => A P 1 g p ^ (16 * (r.rev.val + 1))) hl

set_option maxHeartbeats 16000000 in
/-- The table: the rows' multipliers, real parts. -/
theorem V_v296_6 (h : Reads m c P) (g : Fin 32) (d : Fin 2) (r : Fin 8) (l : Fin 128) :
    V (F := Ideal) m c main_v296 (ix5 g d 6 r l) = rr (fun p => A P d g p ^ (16 * ((if d = 0 then r.val else r.rev.val) + 1))) l := by
  unfold V
  after_reads_at
  match d with
  | 0 => exact upto_v276 h 0 g r l
  | 1 => exact upto_v277 h 0 g r l

set_option maxHeartbeats 16000000 in
/-- The rows' multipliers of the first direction, imaginary parts with signs. -/
theorem upto_v284 (h : Reads m c P) (z : Fin 1) (g : Fin 32) (r : Fin 8) (l : Fin 128) :
    StableHlo.upto hostOps0 (fun b => m (c, b)) 295 (no_index (Proc.devRef .tc main_v284)) (ix4 z g r l)
      = sw (fun p => A P 0 g p ^ (16 * (r.val + 1))) l := by
  after_reads_at
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact sw_lo (z := fun p => A P 0 g p ^ (16 * (r.val + 1))) hl
  · exact sw_hi (z := fun p => A P 0 g p ^ (16 * (r.val + 1))) hl

set_option maxHeartbeats 16000000 in
/-- The rows' multipliers of the second direction, imaginary parts with signs. -/
theorem upto_v285 (h : Reads m c P) (z : Fin 1) (g : Fin 32) (r : Fin 8) (l : Fin 128) :
    StableHlo.upto hostOps0 (fun b => m (c, b)) 295 (no_index (Proc.devRef .tc main_v285)) (ix4 z g r l)
      = sw (fun p => A P 1 g p ^ (16 * (r.rev.val + 1))) l := by
  after_reads_at
  show (if hl : l.val < 64 then StableHlo.upto hostOps0 (fun b => m (c, b)) 277 (Proc.tc.devRef main_v267) (ix4 r.rev 1 g ⟨l.val, hl⟩)
    else StableHlo.upto hostOps0 (fun b => m (c, b)) 277 (Proc.tc.devRef main_v232) (ix4 r.rev 1 g ⟨l.val - 64, by omega⟩)) = _
  by_cases hl : l.val < 64
  all_goals simp only [hl, dif_pos, dif_neg, not_false_eq_true]
  all_goals after_reads_at
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, exp_coe, cos_coe, sin_coe, ← EReal.coe_mul, ← EReal.coe_add, ← EReal.coe_sub, ← EReal.coe_neg, pow_re, pow_im, lit2_coe, h.lr, h.li, h.ld]
  · exact sw_lo (z := fun p => A P 1 g p ^ (16 * (r.rev.val + 1))) hl
  · exact sw_hi (z := fun p => A P 1 g p ^ (16 * (r.rev.val + 1))) hl

set_option maxHeartbeats 16000000 in
/-- The table: the rows' multipliers, imaginary parts with signs. -/
theorem V_v296_7 (h : Reads m c P) (g : Fin 32) (d : Fin 2) (r : Fin 8) (l : Fin 128) :
    V (F := Ideal) m c main_v296 (ix5 g d 7 r l) = sw (fun p => A P d g p ^ (16 * ((if d = 0 then r.val else r.rev.val) + 1))) l := by
  unfold V
  after_reads_at
  match d with
  | 0 => exact upto_v284 h 0 g r l
  | 1 => exact upto_v285 h 0 g r l

end Cert.SsmIdeal.Hand
-- ==== Proof.SsmPair.lean ====
/-
  A complex number as a register of 128 lanes holds it: the real part in a low lane and the imaginary part in the high lane
  64 on. The register operations of the scan in that reading, and eight chunks of either scan.
-/
module

public import proofs.«01_k».proof.Proof.SsmScan
public import proofs.«01_k».proof.Proof.SsmTabD

@[expose] public section

noncomputable section

namespace Cert.SsmIdeal.Hand

open Idealize.ShloMosaic Cert.SsmIdeal Cert.SsmIdeal.Gen Ssm

/-- Sixty-four complex numbers in the lanes. -/
def enc (z : Fin 64 → ℂ) (l : Fin 128) : EReal := (((if l.val < 64 then (z ⟨l.val % 64, by omega⟩).re else (z ⟨l.val % 64, by omega⟩).im) : ℝ) : EReal)

/-- Eight registers hold `Z`; two tables of eight registers hold the multipliers `T`. -/
def Holds (e : Eight Ideal) (Z : ℕ → Fin 64 → ℂ) : Prop := ∀ (r : Fin 8) (l : Fin 128), e (ix2 r l) = enc (Z r.val) l
def Tab (f g : Eight Ideal) (T : ℕ → Fin 64 → ℂ) : Prop := ∀ (r : Fin 8) (l : Fin 128), f (ix2 r l) = rr (T r.val) l ∧ g (ix2 r l) = sw (T r.val) l

theorem rot1_at (s : Eight Ideal) (h) (r : Fin 8) (l : Fin 128) :
    dynamicRotate 1 64#32 none s h (ix2 r l) = s (ix2 r ⟨(l.val + 64) % 128, by omega⟩) := by
  unfold dynamicRotate
  refine congrArg s (funext fun b => ?_)
  fin_cases b
  · rfl
  · refine Fin.ext ?_
    show (l.val + 128 - 64) % 128 = (l.val + 64) % 128
    omega
theorem rot0_at (s : Eight Ideal) (h) (n : BitVec 32) (k : ℕ) (hn : n.toNat % 8 = k) (r : Fin 8) (l : Fin 128) :
    dynamicRotate 0 n none s h (ix2 r l) = s (ix2 ⟨(r.val + 8 - k) % 8, by omega⟩ l) := by
  unfold dynamicRotate
  refine congrArg s (funext fun b => ?_)
  fin_cases b
  · refine Fin.ext ?_
    show (r.val + 8 - (n.toNat + 0) % 8) % 8 = (r.val + 8 - k) % 8
    rw [show (n.toNat + 0) % 8 = k from hn]
  · rfl

/-- The complex product, by the table's rows and the lanes turned half round. -/
theorem mul_holds {f g s : Eight Ideal} {T Z : ℕ → Fin 64 → ℂ} (hT : Tab f g T) (hs : Holds s Z) (h) :
    Holds (addf (mulf f s) (mulf g (dynamicRotate 1 64#32 none s h))) (fun r p => T r p * Z r p) := by
  intro r l
  show f (ix2 r l) * s (ix2 r l) + g (ix2 r l) * dynamicRotate 1 64#32 none s h (ix2 r l) = _
  rw [rot1_at, (hT r l).1, (hT r l).2, hs, hs, rr, sw, enc, enc, enc, ← EReal.coe_mul, ← EReal.coe_mul, ← EReal.coe_add]
  refine congrArg _ ?_
  by_cases hl : l.val < 64
  · have h1 : ¬ (l.val + 64) % 128 < 64 := by omega
    have e : (⟨(l.val + 64) % 128 % 64, by omega⟩ : Fin 64) = ⟨l.val % 64, by omega⟩ := Fin.ext (by simp only []; omega)
    simp only [if_pos hl, if_neg h1, e, Complex.mul_re]
    ring
  · have h1 : (l.val + 64) % 128 < 64 := by omega
    have e : (⟨(l.val + 64) % 128 % 64, by omega⟩ : Fin 64) = ⟨l.val % 64, by omega⟩ := Fin.ext (by simp only []; omega)
    simp only [if_neg hl, if_pos h1, e, Complex.mul_im]

theorem add_holds {a b : Eight Ideal} {Z W : ℕ → Fin 64 → ℂ} (ha : Holds a Z) (hb : Holds b W) : Holds (addf a b) (fun r p => Z r p + W r p) := by
  intro r l
  show a (ix2 r l) + b (ix2 r l) = _
  rw [ha, hb, enc, enc, enc, ← EReal.coe_add]
  refine congrArg _ ?_
  split <;> simp

theorem zero_holds : Holds (broadcast S8x128 (Scalar.ofBits (F := Ideal) .f32 0x00000000#32)) (fun _ _ => 0) := by
  intro r l
  show Ideal.ofBits .f32 0x00000000#32 = _
  rw [enc, Ideal.ofBits_zero_f32]
  simp

theorem sel_holds {q : IVec S8x128 1} {a b : Eight Ideal} {Z W : ℕ → Fin 64 → ℂ} (f : ℕ → Bool)
    (hq : ∀ (r : Fin 8) (l : Fin 128), q (ix2 r l) = BitVec.ofBool (f r.val)) (ha : Holds a Z) (hb : Holds b W) :
    Holds (select q a b) (fun r p => if f r then Z r p else W r p) := by
  intro r l
  show (if q (ix2 r l) = 1 then a (ix2 r l) else b (ix2 r l)) = _
  rw [hq, ha, hb]
  cases h : f r.val
  · rw [if_neg (by decide)]; simp [h]
  · rw [if_pos (by decide)]; simp [h]

theorem turn_holds {s : Eight Ideal} {Z : ℕ → Fin 64 → ℂ} (h) (n : BitVec 32) (k : ℕ) (hn : n.toNat % 8 = k) (hs : Holds s Z) :
    Holds (dynamicRotate 0 n none s h) (fun r => Z ((r + 8 - k) % 8)) := by
  intro r l
  rw [rot0_at s h n k hn]
  exact hs _ _

/-- The row numbers, compared. -/
abbrev rows : IVec S8x128 32 := iota .tc S8x128 32 [0] iota_S8x128_d0_w32
theorem rows_at (r : Fin 8) (l : Fin 128) : rows (ix2 r l) = BitVec.ofNat 32 r.val := by
  unfold rows; pointwise
theorem rows_ge (n : BitVec 32) (k : ℕ) (hn : ∀ r : Fin 8, IntOp.cmpi .sge (BitVec.ofNat 32 r.val) n = BitVec.ofBool (decide (k ≤ r.val))) (r : Fin 8) (l : Fin 128) :
    cmpi .sge rows (broadcast S8x128 n) (ix2 r l) = BitVec.ofBool (decide (k ≤ r.val)) := by
  show IntOp.cmpi .sge (rows (ix2 r l)) n = _
  rw [rows_at, hn]
theorem rows_le (n : BitVec 32) (k : ℕ) (hn : ∀ r : Fin 8, IntOp.cmpi .sle (BitVec.ofNat 32 r.val) n = BitVec.ofBool (decide (r.val ≤ k))) (r : Fin 8) (l : Fin 128) :
    cmpi .sle rows (broadcast S8x128 n) (ix2 r l) = BitVec.ofBool (decide (r.val ≤ k)) := by
  show IntOp.cmpi .sle (rows (ix2 r l)) n = _
  rw [rows_at, hn]

theorem Holds.congr {e : Eight Ideal} {Z W : ℕ → Fin 64 → ℂ} (h : Holds e Z) (hZ : ∀ r : Fin 8, ∀ p, Z r.val p = W r.val p) : Holds e W := by
  intro r l
  rw [h r l]
  exact congrArg (fun z => enc z l) (funext fun p => hZ r p)

/-- The tables of the scan, for the multipliers `a` forward and `a'` backward. -/
structure Tables (t : Coef Ideal) (a a' : Fin 64 → ℂ) : Prop where
  row : t.row = rows
  f1 : Tab t.f0 t.f1 (fun _ => a)
  f2 : Tab t.f2 t.f3 (fun _ p => a p ^ 2)
  f4 : Tab t.f4 t.f5 (fun _ p => a p ^ 4)
  fr : Tab t.f6 t.f7 (fun r p => a p ^ (r + 1))
  b1 : Tab t.b0 t.b1 (fun _ => a')
  b2 : Tab t.b2 t.b3 (fun _ p => a' p ^ 2)
  b4 : Tab t.b4 t.b5 (fun _ p => a' p ^ 4)
  br : Tab (k0_pay1 t.b6) (k0_pay2 t.b7) (fun r p => a' p ^ (8 - r))

variable {t : Coef Ideal} {a a' : Fin 64 → ℂ} {e s : Eight Ideal} {S : ℕ → Fin 64 → ℂ} {z : Fin 64 → ℂ}

/-- Eight chunks of the forward scan, from the state `z`. -/
theorem fwdFull_holds (h : Tables t a a') (hs : Holds s S) (he : Holds e fun _ => z) :
    Holds (fwdFull t e s) (fun r p => Ssm.scan (a p) (z p) (fun k => S k p) (r + 1)) := by
  unfold fwdFull k0_pay8
  rw [h.row]
  have g0 := sel_holds (fun r => decide (1 ≤ r)) (rows_ge 1#32 1 (by decide)) (turn_holds rotates_S8x128_d0 1#32 1 (by decide) hs) zero_holds
  have h1 := add_holds hs (mul_holds h.f1 g0 rotates_S8x128_d1)
  have g1 := sel_holds (fun r => decide (2 ≤ r)) (rows_ge 2#32 2 (by decide)) (turn_holds rotates_S8x128_d0 2#32 2 (by decide) h1) zero_holds
  have h2 := add_holds h1 (mul_holds h.f2 g1 rotates_S8x128_d1)
  have g2 := sel_holds (fun r => decide (4 ≤ r)) (rows_ge 4#32 4 (by decide)) (turn_holds rotates_S8x128_d0 4#32 4 (by decide) h2) zero_holds
  have h3 := add_holds h2 (mul_holds h.f4 g2 rotates_S8x128_d1)
  refine (add_holds h3 (mul_holds h.fr he rotates_S8x128_d1)).congr fun r p => ?_
  fin_cases r <;> simp [Ssm.scan] <;> ring
theorem fwdOut_holds (h : Tables t a a') (hs : Holds s S) (he : Holds e fun _ => z) :
    Holds (fwdOut t e s) (fun r p => Ssm.scan (a p) (z p) (fun k => S k p) r) := by
  have e1 : fwdOut t e s = select (cmpi .sge t.row (broadcast S8x128 1#32)) (dynamicRotate 0 1#32 none (fwdFull t e s) rotates_S8x128_d0) e := by
    funext y
    idx_vars y
    unfold fwdOut k0_pay11 k0_pay9
    pointwise
  rw [e1, h.row]
  refine (sel_holds (fun r => decide (1 ≤ r)) (rows_ge 1#32 1 (by decide)) (turn_holds rotates_S8x128_d0 1#32 1 (by decide) (fwdFull_holds h hs he)) he).congr fun r p => ?_
  fin_cases r <;> simp [Ssm.scan]
theorem fwdNext_holds (h : Tables t a a') (hs : Holds s S) (he : Holds e fun _ => z) :
    Holds (fwdNext t e s) (fun _ p => Ssm.scan (a p) (z p) (fun k => S k p) 8) := by
  intro r l
  have e1 : fwdNext t e s (ix2 r l) = fwdFull t e s (ix2 7 l) := by
    unfold fwdNext k0_pay10
    pointwise
  rw [e1]
  exact fwdFull_holds h hs he 7 l

/-- Eight chunks of the backward scan, from the state `z`. -/
theorem bwdFull_holds (h : Tables t a a') (hs : Holds s S) (he : Holds e fun _ => z) :
    Holds (bwdFull t e s) (fun r p => Ssm.scan (a' p) (z p) (fun k => S (7 - k) p) (8 - r)) := by
  unfold bwdFull k0_pay15 k0_pay14 k0_pay13 k0_pay12
  rw [h.row]
  have g0 := sel_holds (fun r => decide (r ≤ 6)) (rows_le 6#32 6 (by decide)) (turn_holds rotates_S8x128_d0 7#32 7 (by decide) hs) zero_holds
  have h1 := add_holds hs (mul_holds h.b1 g0 rotates_S8x128_d1)
  have g1 := sel_holds (fun r => decide (r ≤ 5)) (rows_le 5#32 5 (by decide)) (turn_holds rotates_S8x128_d0 6#32 6 (by decide) h1) zero_holds
  have h2 := add_holds h1 (mul_holds h.b2 g1 rotates_S8x128_d1)
  have g2 := sel_holds (fun r => decide (r ≤ 3)) (rows_le 3#32 3 (by decide)) (turn_holds rotates_S8x128_d0 4#32 4 (by decide) h2) zero_holds
  have h3 := add_holds h2 (mul_holds h.b4 g2 rotates_S8x128_d1)
  refine (add_holds h3 (mul_holds h.br he rotates_S8x128_d1)).congr fun r p => ?_
  fin_cases r <;> simp [Ssm.scan] <;> ring
theorem bwdOut_holds (h : Tables t a a') (hs : Holds s S) (he : Holds e fun _ => z) :
    Holds (bwdOut t e s) (fun r p => Ssm.scan (a' p) (z p) (fun k => S (7 - k) p) (7 - r)) := by
  have e1 : bwdOut t e s = select (cmpi .sle t.row (broadcast S8x128 6#32)) (dynamicRotate 0 7#32 none (bwdFull t e s) rotates_S8x128_d0) e := by
    funext y
    idx_vars y
    unfold bwdOut k0_pay17 bwdFull
    pointwise
  rw [e1, h.row]
  refine (sel_holds (fun r => decide (r ≤ 6)) (rows_le 6#32 6 (by decide)) (turn_holds rotates_S8x128_d0 7#32 7 (by decide) (bwdFull_holds h hs he)) he).congr fun r p => ?_
  fin_cases r <;> simp [Ssm.scan]
theorem bwdNext_holds (h : Tables t a a') (hs : Holds s S) (he : Holds e fun _ => z) :
    Holds (bwdNext t e s) (fun _ p => Ssm.scan (a' p) (z p) (fun k => S (7 - k) p) 8) := by
  intro r l
  have e1 : bwdNext t e s (ix2 r l) = bwdFull t e s (ix2 0 l) := by
    unfold bwdNext k0_pay16 bwdFull
    pointwise
  rw [e1]
  exact bwdFull_holds h hs he 0 l

/-- A buffer of chunk states: of sequence `b` and chunk `j`, the forward one in the low columns and the backward one in the high. -/
structure Chunks (M : Vec Ideal S2048x256 .f32) (X Y : ℕ → ℕ → Fin 64 → ℂ) : Prop where
  lo : ∀ (r : Fin 2048) (l : Fin 128), M (ix2 r ⟨l.val, by omega⟩) = enc (X (r.val / 512) (r.val % 512)) l
  hi : ∀ (r : Fin 2048) (l : Fin 128), M (ix2 r ⟨128 + l.val, by omega⟩) = enc (Y (r.val / 512) (r.val % 512)) l

variable {M : Vec Ideal S2048x256 .f32} {X Y : ℕ → ℕ → Fin 64 → ℂ}

theorem eight_lo (hM : Chunks M X Y) (b k : ℕ) (hb : b < 4) (hk : k < 64) : Holds (eightAt M (512 * b + 8 * k) 0) (fun r => X b (8 * k + r)) := by
  intro r l
  have e : at2 (512 * b + 8 * k + r.val) (0 + l.val) = ix2 ⟨512 * b + 8 * k + r.val, by omega⟩ ⟨l.val, by omega⟩ :=
    idx2_ext _ _ (by show (512 * b + 8 * k + r.val) % 2048 = 512 * b + 8 * k + r.val; omega) (by show (0 + l.val) % 256 = l.val; omega)
  show M (at2 (512 * b + 8 * k + r.val) (0 + l.val)) = _
  rw [e, hM.lo, show (512 * b + 8 * k + r.val) / 512 = b by omega, show (512 * b + 8 * k + r.val) % 512 = 8 * k + r.val by omega]
theorem eight_hi (hM : Chunks M X Y) (b k : ℕ) (hb : b < 4) (hk : k < 64) : Holds (eightAt M (512 * b + 8 * k) 128) (fun r => Y b (8 * k + r)) := by
  intro r l
  have e : at2 (512 * b + 8 * k + r.val) (128 + l.val) = ix2 ⟨512 * b + 8 * k + r.val, by omega⟩ ⟨128 + l.val, by omega⟩ :=
    idx2_ext _ _ (by show (512 * b + 8 * k + r.val) % 2048 = 512 * b + 8 * k + r.val; omega) (by show (128 + l.val) % 256 = 128 + l.val; omega)
  show M (at2 (512 * b + 8 * k + r.val) (128 + l.val)) = _
  rw [e, hM.hi, show (512 * b + 8 * k + r.val) / 512 = b by omega, show (512 * b + 8 * k + r.val) % 512 = 8 * k + r.val by omega]

/-- What the two scans carry into trip `k`. -/
theorem carF_holds (h : Tables t a a') (hM : Chunks M X Y) (b : ℕ) (hb : b < 4) (k : ℕ) (hk : k ≤ 64) :
    Holds (carF t M b k) (fun _ p => Ssm.scan (a p) 0 (fun n => X b n p) (8 * k)) := by
  induction k with
  | zero => exact zero_holds
  | succ k ih =>
    refine (fwdNext_holds h (eight_lo hM b k hb (by omega)) (ih (by omega))).congr fun r p => ?_
    rw [show 8 * (k + 1) = 8 * k + 8 by ring, scan_add]
theorem carB_holds (h : Tables t a a') (hM : Chunks M X Y) (b : ℕ) (hb : b < 4) (k : ℕ) (hk : k ≤ 64) :
    Holds (carB t M b k) (fun _ p => Ssm.scan (a' p) 0 (fun n => Y b (511 - n) p) (8 * k)) := by
  induction k with
  | zero => exact zero_holds
  | succ k ih =>
    refine (bwdNext_holds h (eight_hi hM b (63 - k) hb (by omega)) (ih (by omega))).congr fun r p => ?_
    rw [show 8 * (k + 1) = 8 * k + 8 by ring, scan_add]
    refine scan_congr _ _ _ fun n hn => ?_
    rw [show 511 - (8 * k + n) = 8 * (63 - k) + (7 - n) by omega]

/-- The states before every chunk, as the loop leaves them. -/
theorem shifted_chunks (h : Tables t a a') (hM : Chunks M X Y) :
    Chunks (shifted t M) (fun b j p => Ssm.scan (a p) 0 (fun n => X b n p) j) (fun b j p => Ssm.scan (a' p) 0 (fun n => Y b (511 - n) p) (511 - j)) where
  lo r l := by
    have hr := r.isLt
    have hl := l.isLt
    show (if l.val < 128 then _ else _) = _
    rw [if_pos hl]
    have e : at8 r.val l.val = ix2 ⟨r.val % 8, by omega⟩ ⟨l.val, hl⟩ := idx8_ext _ _ rfl (by show l.val % 128 = l.val; omega)
    show fwdOut t (carF t M (r.val / 512) (r.val % 512 / 8)) (eightAt M (512 * (r.val / 512) + 8 * (r.val % 512 / 8)) 0) (at8 r.val l.val) = _
    rw [e, fwdOut_holds h (eight_lo hM (r.val / 512) (r.val % 512 / 8) (by omega) (by omega)) (carF_holds h hM (r.val / 512) (by omega) (r.val % 512 / 8) (by omega))]
    refine congrArg (fun z => enc z l) (funext fun p => ?_)
    show Ssm.scan (a p) _ _ (r.val % 8) = _
    rw [← scan_add, show 8 * (r.val % 512 / 8) + r.val % 8 = r.val % 512 by omega]
  hi r l := by
    have hr := r.isLt
    have hl := l.isLt
    show (if 128 + l.val < 128 then _ else _) = _
    rw [if_neg (by omega)]
    have e : at8 r.val (128 + l.val) = ix2 ⟨r.val % 8, by omega⟩ ⟨l.val, hl⟩ := idx8_ext _ _ rfl (by show (128 + l.val) % 128 = l.val; omega)
    show bwdOut t (carB t M (r.val / 512) (63 - r.val % 512 / 8)) (eightAt M (512 * (r.val / 512) + 8 * (r.val % 512 / 8)) 128) (at8 r.val (128 + l.val)) = _
    rw [e, bwdOut_holds h (eight_hi hM (r.val / 512) (r.val % 512 / 8) (by omega) (by omega)) (carB_holds h hM (r.val / 512) (by omega) (63 - r.val % 512 / 8) (by omega))]
    refine congrArg (fun z => enc z l) (funext fun p => ?_)
    show Ssm.scan (a' p) _ _ (7 - r.val % 8) = _
    rw [show 511 - r.val % 512 = 8 * (63 - r.val % 512 / 8) + (7 - r.val % 8) by omega, scan_add]
    refine scan_congr _ _ _ fun n hn => ?_
    rw [show 511 - (8 * (63 - r.val % 512 / 8) + n) = 8 * (r.val % 512 / 8) + (7 - n) by omega]

end Cert.SsmIdeal.Hand
-- ==== Proof.SsmTabB.lean ====
/-
  The matrix from a chunk's inputs to its contribution to the state.
-/
module

public import proofs.«01_k».proof.Proof.SsmTab

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

set_option maxHeartbeats 16000000 in
/-- The matrix from a chunk's inputs to its contribution to the state, real parts then imaginary parts. -/
theorem V_v298 (h : Reads m c P) (g : Fin 32) (r q : Fin 256) :
    V (F := Ideal) m c main_v298 (ix3 g r q) = (((if q.val / 64 % 2 < 1 then
      (A P ⟨q.val / 128, by omega⟩ g ⟨q.val % 64, by omega⟩ ^ (if q.val / 128 < 1 then 15 - r.val / 16 else r.val / 16) *
        B P ⟨q.val / 128, by omega⟩ g ⟨q.val % 64, by omega⟩ ⟨r.val % 16, by omega⟩).re
      else
      (A P ⟨q.val / 128, by omega⟩ g ⟨q.val % 64, by omega⟩ ^ (if q.val / 128 < 1 then 15 - r.val / 16 else r.val / 16) *
        B P ⟨q.val / 128, by omega⟩ g ⟨q.val % 64, by omega⟩ ⟨r.val % 16, by omega⟩).im) : ℝ) : EReal) := by
  have hs := h.size ⟨q.val / 128, by omega⟩ g ⟨q.val % 64, by omega⟩
  have e1 := pow_re P ⟨q.val / 128, by omega⟩ g ⟨q.val % 64, by omega⟩ 1
  have e2 := pow_im P ⟨q.val / 128, by omega⟩ g ⟨q.val % 64, by omega⟩ 1
  simp only [pow_one, Nat.cast_one] at e1 e2
  unfold V
  after_reads_at
  by_cases hd : q.val / 128 < 1
  all_goals by_cases hr : q.val / 64 % 2 < 1
  all_goals simp only [hr, dif_pos, dif_neg, not_false_eq_true]
  all_goals after_reads_at
  all_goals simp only [hd, dif_pos, dif_neg, not_false_eq_true, upto_v133 h, upto_v134 h, upto_v141 h, upto_v142 h]
  all_goals simp only [Ideal.truncf_def, Ideal.mulf_def, Ideal.addf_def, Ideal.subf_def, Ideal.hostUnary_exp_def, Ideal.hostUnary_cos_def, Ideal.hostUnary_sin_def, Ideal.hostDivf_def, Ideal.ofBits_def, one_coe, lit0_coe, h.lr, h.li, h.ld,
    h.br, h.bi, exp_coe, cos_coe, sin_coe, ← EReal.coe_mul, ← EReal.coe_add, ← EReal.coe_sub, e1, e2, pow_re, pow_im]
  all_goals rw [size] at hs
  all_goals simp only [div_coe _ hs, ← EReal.coe_mul, ← EReal.coe_add, ← EReal.coe_sub]
  all_goals congr 1
  · have e : (⟨q.val / 128, by omega⟩ : Fin 2) = 0 := Fin.ext (by show q.val / 128 = 0; omega)
    have k : 16 - (r.val / 16 + 1) = 15 - r.val / 16 := by omega
    simp only [e, hd, if_pos, if_neg, not_false_eq_true, Fin.val_rev, k, B, Q, size, Complex.mul_re, Complex.mul_im]
  · have e : (⟨q.val / 128, by omega⟩ : Fin 2) = 0 := Fin.ext (by show q.val / 128 = 0; omega)
    have k : 16 - (r.val / 16 + 1) = 15 - r.val / 16 := by omega
    simp only [e, hd, if_pos, if_neg, not_false_eq_true, Fin.val_rev, k, B, Q, size, Complex.mul_re, Complex.mul_im]
  · have e : (⟨q.val / 128, by omega⟩ : Fin 2) = 1 := Fin.ext (by show q.val / 128 = 1; omega)
    simp only [e, hd, if_pos, if_neg, not_false_eq_true, Fin.val_rev, B, Q, size, Complex.mul_re, Complex.mul_im]
  · have e : (⟨q.val / 128, by omega⟩ : Fin 2) = 1 := Fin.ext (by show q.val / 128 = 1; omega)
    simp only [e, hd, if_pos, if_neg, not_false_eq_true, Fin.val_rev, B, Q, size, Complex.mul_re, Complex.mul_im]

end Cert.SsmIdeal.Hand
-- ==== Proof.SsmTabC.lean ====
/-
  The matrix from the state before a chunk to the chunk's outputs.
-/
module

public import proofs.«01_k».proof.Proof.SsmTab

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

set_option maxHeartbeats 16000000 in
/-- The matrix from the state before a chunk to the chunk's outputs, real parts then negated imaginary parts. -/
theorem V_v299 (h : Reads m c P) (g : Fin 32) (r q : Fin 256) :
    V (F := Ideal) m c main_v299 (ix3 g r q) = (((if r.val / 64 % 2 < 1 then
      (C P ⟨r.val / 128, by omega⟩ g ⟨q.val % 16, by omega⟩ ⟨r.val % 64, by omega⟩ * A P ⟨r.val / 128, by omega⟩ g ⟨r.val % 64, by omega⟩ ^
        toPlace ⟨r.val / 128, by omega⟩ (q.val / 16)).re
      else
      -(C P ⟨r.val / 128, by omega⟩ g ⟨q.val % 16, by omega⟩ ⟨r.val % 64, by omega⟩ * A P ⟨r.val / 128, by omega⟩ g ⟨r.val % 64, by omega⟩ ^
        toPlace ⟨r.val / 128, by omega⟩ (q.val / 16)).im) : ℝ) : EReal) := by
  unfold V
  after_reads_at
  by_cases hd : r.val / 128 < 1
  all_goals by_cases hr : r.val / 64 % 2 < 1
  all_goals simp only [hr, dif_pos, dif_neg, not_false_eq_true]
  all_goals after_reads_at
  all_goals simp only [hd, dif_pos, dif_neg, not_false_eq_true, upto_v176 h, upto_v177 h, upto_v184 h, upto_v185 h]
  all_goals simp only [Ideal.truncf_def, Ideal.mulf_def, Ideal.addf_def, Ideal.subf_def, Ideal.hostNegf_def, Ideal.negf_def, Ideal.hostUnary_exp_def, Ideal.hostUnary_cos_def, Ideal.hostUnary_sin_def, Ideal.ofBits_def, lit0_coe, h.lr, h.li, h.ld,
    h.cr, h.ci, exp_coe, cos_coe, sin_coe, ← EReal.coe_mul, ← EReal.coe_add, ← EReal.coe_sub, ← EReal.coe_neg, pow_re, pow_im]
  all_goals congr 1
  · have e : (⟨r.val / 128, by omega⟩ : Fin 2) = 0 := Fin.ext (by show r.val / 128 = 0; omega)
    simp only [e, C, toPlace, if_pos, Complex.mul_re, add_comm]
  · have e : (⟨r.val / 128, by omega⟩ : Fin 2) = 0 := Fin.ext (by show r.val / 128 = 0; omega)
    simp only [e, C, toPlace, if_pos, Complex.mul_im, add_comm 1]
  · have e : (⟨r.val / 128, by omega⟩ : Fin 2) = 1 := Fin.ext (by show r.val / 128 = 1; omega)
    have k : 1 + (16 - (q.val / 16 + 1)) = 16 - q.val / 16 := by omega
    simp only [e, C, toPlace, Complex.mul_re, Fin.val_rev, k, Fin.isValue, one_ne_zero, if_false]
  · have e : (⟨r.val / 128, by omega⟩ : Fin 2) = 1 := Fin.ext (by show r.val / 128 = 1; omega)
    have k : 1 + (16 - (q.val / 16 + 1)) = 16 - q.val / 16 := by omega
    simp only [e, C, toPlace, Complex.mul_im, Fin.val_rev, k, Fin.isValue, one_ne_zero, if_false]

end Cert.SsmIdeal.Hand
-- ==== Proof.SsmTabE.lean ====
/-
  The tokens as the call's first window stages them: sixteen of them to a row, one group of channels.
-/
module

public import proofs.«01_k».proof.Proof.SsmTab

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

theorem V_v302 (h : Reads m c P) (g : Fin 32) (r : Fin 2048) (q : Fin 256) :
    V (F := Ideal) m c main_v302 (ix3 g r q) = ((P.u ⟨r.val / 512, by omega⟩ (16 * (r.val % 512) + q.val / 16) g ⟨q.val % 16, by omega⟩ : ℝ) : EReal) := by
  refine Eq.trans ?_ (h.u ⟨r.val / 512, by omega⟩ (16 * (r.val % 512) + q.val / 16) g ⟨q.val % 16, by omega⟩ (by omega))
  unfold V
  after_reads_at
  refine congrArg (fun x => m (c, Proc.tc.devRef main_arg0) (ix2 x _)) (Fin.ext ?_)
  show r.val * 16 + q.val / 16 = r.val / 512 * 8192 + (16 * (r.val % 512) + q.val / 16)
  omega

end Cert.SsmIdeal.Hand
-- ==== Proof.SsmTabI.lean ====
/-
  The matrices of the lags: what an input adds to an output of either direction a number of positions on.
-/
module

public import proofs.«01_k».proof.Proof.SsmTab

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

/-- The product over the state, at an index. -/
theorem dot_at (a : FVec Ideal S2x32x64x16 .f32) (b : FVec Ideal S17x2x32x16x64 .f32) (d : Fin 2) (g : Fin 32) (i : Fin 16) (l : Fin 17) (o : Fin 16) :
    Host.dotGeneral dot_S2x32x64x16_S17x2x32x16x64_S2x32x16x17x16_2_4_3_03_01_12 (some .fp32) a b (ix5 d g i l o)
      = ∑ p : Fin 64, a (ix4 d g p i) * b (ix5 l d g o p) := by
  show FloatOps.dotGeneral _ _ _ a b _ = _
  rw [Ideal.dotGeneral_apply, ← Equiv.sum_comp (ValueIdx.contrEquiv1 dot_S2x32x64x16_S17x2x32x16x64_S2x32x16x17x16_2_4_3_03_01_12 64 rfl rfl).symm]
  refine Finset.sum_congr rfl fun p _ => ?_
  have hp := ValueIdx.contrEquiv1_symm_val dot_S2x32x64x16_S17x2x32x16x64_S2x32x16x17x16_2_4_3_03_01_12 64 rfl rfl p
  congr 1
  · congr 1
    funext ax; apply Fin.ext
    fin_cases ax <;> simp [DotDims.lhsIdx, dot_S2x32x64x16_S17x2x32x16x64_S2x32x16x17x16_2_4_3_03_01_12]
    all_goals first | rfl | exact hp
  · congr 1
    funext ax; apply Fin.ext
    fin_cases ax <;> simp [DotDims.rhsIdx, dot_S2x32x64x16_S17x2x32x16x64_S2x32x16x17x16_2_4_3_03_01_12]
    all_goals first | rfl | exact hp

/-- The output matrix by a power of the transition, real and imaginary parts. -/
theorem V_v80 (h : Reads m c P) (l : Fin 17) (d : Fin 2) (g : Fin 32) (o : Fin 16) (p : Fin 64) :
    V (F := Ideal) m c main_v80 (ix5 l d g o p) = (((C P d g o p * A P d g p ^ l.val).re : ℝ) : EReal) := by
  unfold V
  after_reads_at
  simp only [Ideal.mulf_def, Ideal.subf_def, Ideal.hostUnary_exp_def, Ideal.hostUnary_cos_def, Ideal.hostUnary_sin_def, Ideal.ofBits_def,
    lit0_coe, h.lr, h.li, h.ld, h.cr, h.ci, exp_coe, cos_coe, sin_coe, ← EReal.coe_mul, ← EReal.coe_sub, pow_re, pow_im]
  rw [Complex.mul_re, C]
theorem V_v91 (h : Reads m c P) (l : Fin 17) (d : Fin 2) (g : Fin 32) (o : Fin 16) (p : Fin 64) :
    V (F := Ideal) m c main_v91 (ix5 l d g o p) = (((C P d g o p * A P d g p ^ l.val).im : ℝ) : EReal) := by
  unfold V
  after_reads_at
  simp only [Ideal.mulf_def, Ideal.addf_def, Ideal.hostUnary_exp_def, Ideal.hostUnary_cos_def, Ideal.hostUnary_sin_def, Ideal.ofBits_def,
    lit0_coe, h.lr, h.li, h.ld, h.cr, h.ci, exp_coe, cos_coe, sin_coe, ← EReal.coe_mul, ← EReal.coe_add, pow_re, pow_im]
  rw [Complex.mul_im, C]

/-- The two products the lag matrices are made of. -/
theorem V_v92 (h : Reads m c P) (d : Fin 2) (g : Fin 32) (i : Fin 16) (l : Fin 17) (o : Fin 16) :
    V (F := Ideal) m c main_v92 (ix5 d g i l o) = ((∑ p, (B P d g p i).re * (C P d g o p * A P d g p ^ l.val).re : ℝ) : EReal) := by
  rw [← sum_coe]
  simp only [EReal.coe_mul, ← V_v44 h, ← V_v80 h]
  refine Eq.trans (congrFun (a := ix5 d g i l o) ?_) (dot_at (V (F := Ideal) m c main_v44) (V (F := Ideal) m c main_v80) d g i l o)
  unfold V
  simp only [StableHlo.readAfter, StableHlo.readUpto, StableHlo.binary_result']
theorem V_v94 (h : Reads m c P) (d : Fin 2) (g : Fin 32) (i : Fin 16) (l : Fin 17) (o : Fin 16) :
    V (F := Ideal) m c main_v94 (ix5 d g i l o) = ((∑ p, (B P d g p i).im * (C P d g o p * A P d g p ^ l.val).im : ℝ) : EReal) := by
  rw [← sum_coe]
  simp only [EReal.coe_mul, ← V_v51 h, ← V_v91 h]
  refine Eq.trans (congrFun (a := ix5 d g i l o) ?_) (dot_at (V (F := Ideal) m c main_v51) (V (F := Ideal) m c main_v91) d g i l o)
  unfold V
  simp only [StableHlo.readAfter, StableHlo.readUpto, StableHlo.binary_result']

variable (m c) in
/-- The products, as arrays, and their difference. -/
def prodRe : S2x32x16x17x16.Idx → EReal := V (F := Ideal) m c main_v92
variable (m c) in
def prodIm : S2x32x16x17x16.Idx → EReal := V (F := Ideal) m c main_v94
variable (m c) in
def lags : S17x2x32x16x16.Idx → EReal := V (F := Ideal) m c main_v96

theorem upto_v92 : StableHlo.upto hostOps0 (fun b => m (c, b)) 100 (no_index (Proc.devRef .tc main_v92)) = prodRe m c := by
  unfold prodRe V
  simp only [StableHlo.readAfter, StableHlo.readUpto]
theorem upto_v94 : StableHlo.upto hostOps0 (fun b => m (c, b)) 102 (no_index (Proc.devRef .tc main_v94)) = prodIm m c := by
  unfold prodIm V
  simp only [StableHlo.readAfter, StableHlo.readUpto]

/-- The lag matrices. -/
theorem lags_at (h : Reads m c P) (l : Fin 17) (d : Fin 2) (g : Fin 32) (o i : Fin 16) :
    lags m c (ix5 l d g o i) = ((lag P l.val d g o i : ℝ) : EReal) := by
  have e : lags m c (ix5 l d g o i) = prodRe m c (ix5 d g i l o) - prodIm m c (ix5 d g i l o) := by
    unfold lags V
    after_reads_simp [upto_v92, upto_v94]
    pointwise
    rfl
  rw [e, prodRe, prodIm, V_v92 h, V_v94 h, ← EReal.coe_sub, ← Finset.sum_sub_distrib, lag]
  congr 1
  refine Finset.sum_congr rfl fun p _ => ?_
  rw [Complex.mul_re (C P d g o p * A P d g p ^ l.val) (B P d g p i), mul_comm, mul_comm (B P d g p i).im]

end Cert.SsmIdeal.Hand
-- ==== Proof.SsmTabG.lean ====
/-
  The matrix from a chunk's inputs to its outputs: the lag matrices, chosen by the distance of the two places.
-/
module

public import proofs.«01_k».proof.Proof.SsmTabI

@[expose] public section

noncomputable section

namespace Cert.SsmIdeal.Hand

open Idealize.ShloMosaic Cert.SsmIdeal Cert.SsmIdeal.Gen Ssm

variable {m : (ℓ : Loc nD τ sig) → Buf (Elt Ideal) ℓ} {c : Dev nD} {P : Params}

/-- The choice of a matrix by an array of positions, at an index. -/
theorem choose_at (x : S31x32x16x16.Idx → EReal) (idx : IVec S16x16x1 32) (t s : Fin 16) (g : Fin 32) (o i : Fin 16) (k : Fin 31)
    (hk : (idx (ix3 t s 0)).toInt.toNat = k.val) :
    Host.gather gather_S31x32x16x16_S16x16x1_S16x16x32x16x16_234_0_n_n_0_2_1321616 x idx (ix5 t s g o i) = x (ix4 k g o i) := by
  unfold Host.gather
  congr 1
  funext a
  refine Fin.ext ?_
  show GatherDims.start _ _ _ _ + GatherDims.batchCoord _ _ _ + GatherDims.offCoord _ _ _ = _
  rw [GatherDims.batchCoord_eq_zero _ _ _ List.not_mem_nil]
  fin_cases a
  · rw [GatherDims.offCoord_eq_zero _ _ _ (fun h => ((GatherDims.mem_sKept _ _).mp h).1 (List.mem_singleton.mpr rfl))]
    have e : GatherDims.siIdx gather_S31x32x16x16_S16x16x1_S16x16x32x16x16_234_0_n_n_0_2_1321616 (ix5 t s g o i) ⟨0, by decide⟩ = ix3 t s 0 := by
      funext b
      refine Fin.ext ?_
      fin_cases b <;> rfl
    have e2 : GatherDims.start gather_S31x32x16x16_S16x16x1_S16x16x32x16x16_234_0_n_n_0_2_1321616 (ix5 t s g o i) idx 0
        = min (idx (GatherDims.siIdx gather_S31x32x16x16_S16x16x1_S16x16x32x16x16_234_0_n_n_0_2_1321616 (ix5 t s g o i) ⟨0, by decide⟩)).toInt.toNat 30 := by
      unfold GatherDims.start
      rw [dif_pos (show (0 : Fin 4) ∈ gather_S31x32x16x16_S16x16x1_S16x16x32x16x16_234_0_n_n_0_2_1321616.startIndexMap from List.mem_singleton.mpr rfl)]
      rfl
    rw [e, hk] at e2
    refine Eq.trans (congrArg (· + 0 + 0) e2) ?_
    show min k.val 30 = k.val
    omega
  all_goals
    rw [show GatherDims.start gather_S31x32x16x16_S16x16x1_S16x16x32x16x16_234_0_n_n_0_2_1321616 (ix5 t s g o i) idx _ = 0 from
      dif_neg (by decide)]
    rw [Nat.zero_add]
    unfold GatherDims.offCoord
    rfl

/-- The distance of place `s` after place `t`, and fifteen. -/
theorem lit1_flat : ∀ t s : Fin 16, (lit1 (⟨t.val * 16 + s.val, by omega⟩ : Fin 256)).toInt.toNat = s.val + 15 - t.val := by decide +kernel
theorem lit1_val (t s : Fin 16) : (lit1 (S16x16.rowMajor (ix2 t s))).toInt.toNat = s.val + 15 - t.val := by
  rw [show S16x16.rowMajor (ix2 t s) = (⟨t.val * 16 + s.val, by omega⟩ : Fin 256) from Fin.ext (Shape.rowMajor_val_two _)]
  exact lit1_flat t s

/-- The identity's entries. -/
theorem eye_at (o i : Fin 16) : FloatOps.uitofp (F := Ideal) FTy.f32
    (IntOp.cmpi CmpIPredicate.eq (IntOp.addi (BitVec.ofNat 32 o.val) 0#32) (BitVec.ofNat 32 i.val)) = (((if o = i then 1 else 0 : ℝ)) : EReal) := by
  have h : ∀ o i : Fin 16, (IntOp.cmpi CmpIPredicate.eq (IntOp.addi (BitVec.ofNat 32 o.val) 0#32) (BitVec.ofNat 32 i.val)) = if o = i then 1#1 else 0#1 := by decide +kernel
  rw [h]
  by_cases e : o = i
  · simp only [e, if_pos]
    show (((1#1 : BitVec 1).toNat : ℝ) : EReal) = _
    norm_num
  · simp only [e, if_neg, not_false_eq_true]
    show (((0#1 : BitVec 1).toNat : ℝ) : EReal) = _
    norm_num

theorem upto_v96_111 : StableHlo.upto hostOps0 (fun b => m (c, b)) 111 (no_index (Proc.devRef .tc main_v96)) = lags m c := by
  unfold lags V
  simp only [StableHlo.readAfter, StableHlo.readUpto]
theorem upto_v96_113 : StableHlo.upto hostOps0 (fun b => m (c, b)) 113 (no_index (Proc.devRef .tc main_v96)) = lags m c := by
  unfold lags V
  simp only [StableHlo.readAfter, StableHlo.readUpto]
theorem upto_v96_122 : StableHlo.upto hostOps0 (fun b => m (c, b)) 122 (no_index (Proc.devRef .tc main_v96)) = lags m c := by
  unfold lags V
  simp only [StableHlo.readAfter, StableHlo.readUpto]
theorem upto_v96_126 : StableHlo.upto hostOps0 (fun b => m (c, b)) 126 (no_index (Proc.devRef .tc main_v96)) = lags m c := by
  unfold lags V
  simp only [StableHlo.readAfter, StableHlo.readUpto]

theorem upto_v116 (l : Fin 15) (g : Fin 32) (o i : Fin 16) :
    StableHlo.upto hostOps0 (fun b => m (c, b)) 128 (no_index (Proc.devRef .tc main_v116)) (ix4 l g o i) = lags m c (ix5 ⟨1 + l.rev.val, by omega⟩ 1 g o i) := by
  after_reads_simp [upto_v96_122]
  pointwise
  rfl
theorem upto_v119 (l : Fin 15) (g : Fin 32) (o i : Fin 16) :
    StableHlo.upto hostOps0 (fun b => m (c, b)) 128 (no_index (Proc.devRef .tc main_v119)) (ix4 l g o i) = lags m c (ix5 ⟨1 + l.val, by omega⟩ 0 g o i) := by
  after_reads_simp [upto_v96_126]
  pointwise
theorem upto_v117 (h : Reads m c P) (z : Fin 1) (g : Fin 32) (o i : Fin 16) :
    StableHlo.upto hostOps0 (fun b => m (c, b)) 128 (no_index (Proc.devRef .tc main_v117)) (ix4 z g o i) =
      lags m c (ix5 0 0 g o i) + lags m c (ix5 0 1 g o i) + ((if o = i then P.ds g o else 0 : ℝ) : EReal) := by
  after_reads_simp [upto_v96_111, upto_v96_113]
  pointwise
  rw [eye_at, h.ds, Ideal.mulf_def, ← EReal.coe_mul, mul_ite, mul_one, mul_zero]
  rfl

/-- The matrix's entries, by the order of the two places. -/
theorem intra_before (P : Params) (g : Fin 32) (t i s o : Fin 16) (h : s.val < t.val) : intra P g t i s o = lag P (t.val - s.val) 1 g o i := by
  have e1 : ¬ t.val ≤ s.val := by omega
  have e3 : ¬ s = t := by intro e; subst e; omega
  simp [intra, Fin.le_def, e1, e3, h.le]
theorem intra_same (P : Params) (g : Fin 32) (t i s o : Fin 16) (h : s.val = t.val) :
    intra P g t i s o = lag P 0 0 g o i + lag P 0 1 g o i + (if o = i then P.ds g o else 0) := by
  obtain rfl : s = t := Fin.ext h
  simp [intra]
theorem intra_after (P : Params) (g : Fin 32) (t i s o : Fin 16) (h : t.val < s.val) : intra P g t i s o = lag P (s.val - t.val) 0 g o i := by
  have e1 : ¬ s.val ≤ t.val := by omega
  have e3 : ¬ s = t := by intro e; subst e; omega
  simp [intra, Fin.le_def, e1, e3, h.le]

set_option maxHeartbeats 4000000 in
/-- The matrix from a chunk's inputs to its outputs. -/
theorem V_v297 (h : Reads m c P) (g : Fin 32) (r q : Fin 256) :
    V (F := Ideal) m c main_v297 (ix3 g r q) = ((intra P g ⟨r.val / 16, by omega⟩ ⟨r.val % 16, by omega⟩ ⟨q.val / 16, by omega⟩ ⟨q.val % 16, by omega⟩ : ℝ) : EReal) := by
  unfold V
  after_reads_at
  rw [choose_at (k := ⟨q.val / 16 + 15 - r.val / 16, by omega⟩)]
  · pointwise
    rw [Ideal.truncf_def]
    by_cases h1 : q.val / 16 + 15 - r.val / 16 < 15
    · rw [dif_pos h1, upto_v116, lags_at h, intra_before _ _ _ _ _ _ (by show q.val / 16 < r.val / 16; omega)]
      refine congrArg (fun n => ((lag P n 1 g _ _ : ℝ) : EReal)) ?_
      show 1 + (15 - (q.val / 16 + 15 - r.val / 16 + 1)) = r.val / 16 - q.val / 16
      omega
    · rw [dif_neg h1]
      by_cases h2 : q.val / 16 + 15 - r.val / 16 - 15 < 1
      · rw [dif_pos h2, upto_v117 h, lags_at h, lags_at h, ← EReal.coe_add, ← EReal.coe_add, intra_same _ _ _ _ _ _ (by show q.val / 16 = r.val / 16; omega)]
        rfl
      · rw [dif_neg h2, upto_v119, lags_at h, intra_after _ _ _ _ _ _ (by show r.val / 16 < q.val / 16; omega)]
        refine congrArg (fun n => ((lag P n 0 g _ _ : ℝ) : EReal)) ?_
        show 1 + (q.val / 16 + 15 - r.val / 16 - 15 - 1) = q.val / 16 - r.val / 16
        omega
  · refine Eq.trans (b := (lit1 (S16x16.rowMajor (ix2 ⟨r.val / 16, by omega⟩ ⟨q.val / 16, by omega⟩))).toInt.toNat) ?_ (lit1_val _ _)
    congr 2

end Cert.SsmIdeal.Hand
-- ==== Proof.SsmBlock.lean ====
/-
  One group's block of the call: the chunk states, the states before every chunk, and the outputs.
-/
module

public import proofs.«01_k».proof.Proof.SsmPair
public import proofs.«01_k».proof.Proof.SsmTabB
public import proofs.«01_k».proof.Proof.SsmTabC
public import proofs.«01_k».proof.Proof.SsmTabE
public import proofs.«01_k».proof.Proof.SsmTabG
public import proofs.«01_k».proof.Proof.SsmIdealRun
public import Idealize.ShloMosaic.Lib.Pipeline.Value
public import Idealize.ShloMosaic.Lib.Pipeline.ValueKit
public import Idealize.ShloMosaic.Lib.Pointwise

@[expose] public section

set_option maxRecDepth 16384

noncomputable section

namespace Cert.SsmIdeal.Hand

open Idealize.ShloMosaic Cert.SsmIdeal Cert.SsmIdeal.Gen Ssm

/-- Sums over 256 columns, as sixteen by sixteen and as two by two by sixty-four. -/
theorem sum_16_16 (f : Fin 16 → Fin 16 → ℝ) : ∑ k : Fin 256, f ⟨k.val / 16, by omega⟩ ⟨k.val % 16, by omega⟩ = ∑ t, ∑ i, f t i := by
  rw [← Fintype.sum_prod_type', ← (finProdFinEquiv (m := 16) (n := 16)).sum_comp]
  refine Finset.sum_congr rfl fun x _ => ?_
  have h : (finProdFinEquiv x).val = x.2.val + 16 * x.1.val := rfl
  congr 1 <;> exact Fin.ext (by simp only [h]; omega)
theorem sum_2_2_64 (f : Fin 2 → Fin 2 → Fin 64 → ℝ) :
    ∑ k : Fin 256, f ⟨k.val / 128, by omega⟩ ⟨k.val / 64 % 2, by omega⟩ ⟨k.val % 64, by omega⟩ = ∑ d, ∑ p, (f d 0 p + f d 1 p) := by
  have e : ∀ d, ∑ p, (f d 0 p + f d 1 p) = ∑ x : Fin 2 × Fin 64, f d x.1 x.2 := fun d => by
    rw [Fintype.sum_prod_type, Fin.sum_univ_two, Finset.sum_add_distrib]
  simp only [e]
  rw [← Fintype.sum_prod_type', ← ((Equiv.prodCongr (Equiv.refl (Fin 2)) (finProdFinEquiv (m := 2) (n := 64))).trans (finProdFinEquiv (m := 2) (n := 128))).sum_comp]
  refine Finset.sum_congr rfl fun x _ => ?_
  have h : ((((Equiv.prodCongr (Equiv.refl (Fin 2)) (finProdFinEquiv (m := 2) (n := 64))).trans (finProdFinEquiv (m := 2) (n := 128))) x) : Fin 256).val
      = (x.2.2.val + 64 * x.2.1.val) + 128 * x.1.val := rfl
  have h1 := x.1.isLt
  have h2 := x.2.1.isLt
  have h3 := x.2.2.isLt
  have a1 : (⟨((((Equiv.prodCongr (Equiv.refl (Fin 2)) (finProdFinEquiv (m := 2) (n := 64))).trans (finProdFinEquiv (m := 2) (n := 128))) x) : Fin 256).val / 128, by omega⟩ : Fin 2) = x.1 :=
    Fin.ext (by show _ / 128 = _; omega)
  have a2 : (⟨((((Equiv.prodCongr (Equiv.refl (Fin 2)) (finProdFinEquiv (m := 2) (n := 64))).trans (finProdFinEquiv (m := 2) (n := 128))) x) : Fin 256).val / 64 % 2, by omega⟩ : Fin 2) = x.2.1 :=
    Fin.ext (by show _ / 64 % 2 = _; omega)
  have a3 : (⟨((((Equiv.prodCongr (Equiv.refl (Fin 2)) (finProdFinEquiv (m := 2) (n := 64))).trans (finProdFinEquiv (m := 2) (n := 128))) x) : Fin 256).val % 64, by omega⟩ : Fin 64) = x.2.2 :=
    Fin.ext (by show _ % 64 = _; omega)
  exact congr (congr (congrArg f a1) a2) a3

variable {P : Params}

/-- A chunk's state, as sums over the chunk's inputs. -/
theorem chunk_re (d : Fin 2) (b : Fin 4) (g : Fin 32) (p : Fin 64) (j : ℕ) : (chunk P d b g p j).re =
    ∑ k : Fin 256, P.u b (16 * j + k.val / 16) g ⟨k.val % 16, by omega⟩ *
      (A P d g p ^ (if d.val < 1 then 15 - k.val / 16 else k.val / 16) * B P d g p ⟨k.val % 16, by omega⟩).re := by
  rw [sum_16_16 fun t i => P.u b (16 * j + t.val) g i * (A P d g p ^ (if d.val < 1 then 15 - t.val else t.val) * B P d g p i).re, chunk, Complex.re_sum]
  refine Finset.sum_congr rfl fun t _ => ?_
  rw [inp, Finset.mul_sum, Complex.re_sum]
  refine Finset.sum_congr rfl fun i _ => ?_
  rw [← mul_assoc, Complex.re_mul_ofReal, mul_comm]
  match d with
  | 0 => rfl
  | 1 => rfl
theorem chunk_im (d : Fin 2) (b : Fin 4) (g : Fin 32) (p : Fin 64) (j : ℕ) : (chunk P d b g p j).im =
    ∑ k : Fin 256, P.u b (16 * j + k.val / 16) g ⟨k.val % 16, by omega⟩ *
      (A P d g p ^ (if d.val < 1 then 15 - k.val / 16 else k.val / 16) * B P d g p ⟨k.val % 16, by omega⟩).im := by
  rw [sum_16_16 fun t i => P.u b (16 * j + t.val) g i * (A P d g p ^ (if d.val < 1 then 15 - t.val else t.val) * B P d g p i).im, chunk, Complex.im_sum]
  refine Finset.sum_congr rfl fun t _ => ?_
  rw [inp, Finset.mul_sum, Complex.im_sum]
  refine Finset.sum_congr rfl fun i _ => ?_
  rw [← mul_assoc, Complex.im_mul_ofReal, mul_comm]
  match d with
  | 0 => rfl
  | 1 => rfl

/-- What the five input blocks of group `g` hold. -/
structure Blocks (P : Params) (g : Fin 32) (x0 : Vec Ideal S1x2048x256 .bf16) (x1 x2 x3 : Vec Ideal S1x256x256 .bf16) (x4 : Vec Ideal S1x2x8x8x128 .f32) : Prop where
  u : ∀ (r : Fin 2048) (q : Fin 256), x0 (ix3 0 r q) = ((P.u ⟨r.val / 512, by omega⟩ (16 * (r.val % 512) + q.val / 16) g ⟨q.val % 16, by omega⟩ : ℝ) : EReal)
  lin : ∀ (r q : Fin 256), x1 (ix3 0 r q) = ((intra P g ⟨r.val / 16, by omega⟩ ⟨r.val % 16, by omega⟩ ⟨q.val / 16, by omega⟩ ⟨q.val % 16, by omega⟩ : ℝ) : EReal)
  win : ∀ (r q : Fin 256), x2 (ix3 0 r q) = (((if q.val / 64 % 2 < 1
      then (A P ⟨q.val / 128, by omega⟩ g ⟨q.val % 64, by omega⟩ ^ (if q.val / 128 < 1 then 15 - r.val / 16 else r.val / 16) * B P ⟨q.val / 128, by omega⟩ g ⟨q.val % 64, by omega⟩ ⟨r.val % 16, by omega⟩).re
      else (A P ⟨q.val / 128, by omega⟩ g ⟨q.val % 64, by omega⟩ ^ (if q.val / 128 < 1 then 15 - r.val / 16 else r.val / 16) * B P ⟨q.val / 128, by omega⟩ g ⟨q.val % 64, by omega⟩ ⟨r.val % 16, by omega⟩).im) : ℝ) : EReal)
  wout : ∀ (r q : Fin 256), x3 (ix3 0 r q) = (((if r.val / 64 % 2 < 1
      then (C P ⟨r.val / 128, by omega⟩ g ⟨q.val % 16, by omega⟩ ⟨r.val % 64, by omega⟩ * A P ⟨r.val / 128, by omega⟩ g ⟨r.val % 64, by omega⟩ ^ toPlace ⟨r.val / 128, by omega⟩ (q.val / 16)).re
      else -(C P ⟨r.val / 128, by omega⟩ g ⟨q.val % 16, by omega⟩ ⟨r.val % 64, by omega⟩ * A P ⟨r.val / 128, by omega⟩ g ⟨r.val % 64, by omega⟩ ^ toPlace ⟨r.val / 128, by omega⟩ (q.val / 16)).im) : ℝ) : EReal)
  tab : Tables (coefOf x4) (fun p => A P 0 g p ^ 16) (fun p => A P 1 g p ^ 16)

variable {g : Fin 32} {x0 : Vec Ideal S1x2048x256 .bf16} {x1 x2 x3 : Vec Ideal S1x256x256 .bf16} {x4 : Vec Ideal S1x2x8x8x128 .f32}

/-- The whole-block views. -/
theorem no_offset : (![0, 0, 0] : Fin 3 → ℕ) = fun _ => 0 := funext fun a => by match a with | 0 => rfl | 1 => rfl | 2 => rfl
theorem ld_whole (x : Vec Ideal S1x2048x256 .bf16) : View.ld x rWhole = x := View.ld_unit_zero no_offset _ x
theorem ld_mat (x : Vec Ideal S1x256x256 .bf16) : View.ld x rMat = x := View.ld_unit_zero no_offset _ x
theorem canon_whole (w : Vec Ideal S1x2048x256 .bf16) : View.canon [⟨rWhole, w⟩] = w := View.canon_unit_zero no_offset _ w

theorem chunkStates_at (h : Blocks P g x0 x1 x2 x3 x4) (r : Fin 2048) (q : Fin 256) :
    chunkStates x0 x2 (ix2 r q) = (((if q.val / 64 % 2 < 1
      then (chunk P ⟨q.val / 128, by omega⟩ ⟨r.val / 512, by omega⟩ g ⟨q.val % 64, by omega⟩ (r.val % 512)).re
      else (chunk P ⟨q.val / 128, by omega⟩ ⟨r.val / 512, by omega⟩ g ⟨q.val % 64, by omega⟩ (r.val % 512)).im) : ℝ) : EReal) := by
  have e : chunkStates x0 x2 (ix2 r q) = ∑ k : Fin 256, x0 (ix3 0 r k) * x2 (ix3 0 k q) := by
    unfold chunkStates
    rw [ld_whole, ld_mat]
    pointwise [k0_pay47, k0_pay46]
  rw [e]
  simp only [h.u, h.win, ← EReal.coe_mul, sum_coe]
  refine congrArg _ ?_
  by_cases hq : q.val / 64 % 2 < 1
  · simp only [if_pos hq, chunk_re]
  · simp only [if_neg hq, chunk_im]

/-- The chunk states as the loop takes them. -/
theorem chunkStates_chunks (h : Blocks P g x0 x1 x2 x3 x4) :
    Chunks (chunkStates x0 x2) (fun b j p => chunk P 0 ⟨b % 4, by omega⟩ g p j) (fun b j p => chunk P 1 ⟨b % 4, by omega⟩ g p j) where
  lo r l := by
    have hl := l.isLt
    have e0 : (⟨l.val / 128, by omega⟩ : Fin 2) = 0 := Fin.ext (by show l.val / 128 = 0; omega)
    have e1 : (⟨r.val / 512 % 4, by omega⟩ : Fin 4) = ⟨r.val / 512, by omega⟩ := Fin.ext (by show r.val / 512 % 4 = r.val / 512; omega)
    rw [chunkStates_at h, enc]
    simp only [e0, e1]
    by_cases h1 : l.val < 64
    · rw [if_pos h1, if_pos (by omega)]
    · rw [if_neg h1, if_neg (by omega)]
  hi r l := by
    have hl := l.isLt
    have e0 : (⟨(128 + l.val) / 128, by omega⟩ : Fin 2) = 1 := Fin.ext (by show (128 + l.val) / 128 = 1; omega)
    have e1 : (⟨r.val / 512 % 4, by omega⟩ : Fin 4) = ⟨r.val / 512, by omega⟩ := Fin.ext (by show r.val / 512 % 4 = r.val / 512; omega)
    have e2 : (⟨(128 + l.val) % 64, by omega⟩ : Fin 64) = ⟨l.val % 64, by omega⟩ := Fin.ext (by show (128 + l.val) % 64 = l.val % 64; omega)
    rw [chunkStates_at h, enc]
    simp only [e0, e1, e2]
    by_cases h1 : l.val < 64
    · rw [if_pos h1, if_pos (by omega)]
    · rw [if_neg h1, if_neg (by omega)]

/-- The states before the chunks, at an index of the buffer. -/
theorem shifted_at (h : Blocks P g x0 x1 x2 x3 x4) (r : Fin 2048) (q : Fin 256) :
    shifted (coefOf x4) (chunkStates x0 x2) (ix2 r q) = (((if q.val / 64 % 2 < 1
      then (carry P ⟨q.val / 128, by omega⟩ ⟨r.val / 512, by omega⟩ g ⟨q.val % 64, by omega⟩ (r.val % 512)).re
      else (carry P ⟨q.val / 128, by omega⟩ ⟨r.val / 512, by omega⟩ g ⟨q.val % 64, by omega⟩ (r.val % 512)).im) : ℝ) : EReal) := by
  have hs := shifted_chunks h.tab (chunkStates_chunks h)
  have e1 : (⟨r.val / 512 % 4, by omega⟩ : Fin 4) = ⟨r.val / 512, by omega⟩ := Fin.ext (by show r.val / 512 % 4 = r.val / 512; omega)
  have hq := q.isLt
  by_cases h0 : q.val < 128
  · have e0 : (⟨q.val / 128, by omega⟩ : Fin 2) = 0 := Fin.ext (by show q.val / 128 = 0; omega)
    have h2 := hs.lo r ⟨q.val, h0⟩
    refine Eq.trans h2 ?_
    rw [enc]
    simp only [e0, e1]
    by_cases h1 : q.val < 64
    · rw [if_pos h1, if_pos (by omega)]; rfl
    · rw [if_neg h1, if_neg (by omega)]; rfl
  · have e0 : (⟨q.val / 128, by omega⟩ : Fin 2) = 1 := Fin.ext (by show q.val / 128 = 1; omega)
    have h2 := hs.hi r ⟨q.val - 128, by omega⟩
    have e3 : (⟨128 + (q.val - 128), by omega⟩ : Fin 256) = q := Fin.ext (by show 128 + (q.val - 128) = q.val; omega)
    have e4 : (⟨(q.val - 128) % 64, by omega⟩ : Fin 64) = ⟨q.val % 64, by omega⟩ := Fin.ext (by show (q.val - 128) % 64 = q.val % 64; omega)
    simp only [e3] at h2
    refine Eq.trans h2 ?_
    rw [enc]
    simp only [e0, e1, e4]
    by_cases h1 : q.val - 128 < 64
    · rw [if_pos h1, if_pos (by omega)]; rfl
    · rw [if_neg h1, if_neg (by omega)]; rfl

/-- The output block. -/
theorem outBlk_at (h : Blocks P g x0 x1 x2 x3 x4) (r : Fin 2048) (q : Fin 256) :
    outBlk x0 x1 x2 x3 x4 (ix3 0 r q) = ((out P ⟨r.val / 512, by omega⟩ (16 * (r.val % 512) + q.val / 16) g ⟨q.val % 16, by omega⟩ : ℝ) : EReal) := by
  have e : outBlk x0 x1 x2 x3 x4 (ix3 0 r q) = (∑ k : Fin 256, x0 (ix3 0 r k) * x1 (ix3 0 k q))
      + ∑ k : Fin 256, shifted (coefOf x4) (chunkStates x0 x2) (ix2 r k) * x3 (ix3 0 k q) := by
    unfold outBlk
    rw [canon_whole, ld_whole, ld_mat, ld_mat]
    generalize shifted (coefOf x4) (chunkStates x0 x2) = y
    pointwise [k0_pay7, k0_pay46]
  rw [e]
  simp only [h.u, h.lin, h.wout, shifted_at h, ← EReal.coe_mul, sum_coe, ← EReal.coe_add]
  refine congrArg _ ?_
  refine Eq.trans ?_ (out_chunked P ⟨r.val / 512, by omega⟩ (r.val % 512) (by omega) g ⟨q.val / 16, by omega⟩ ⟨q.val % 16, by omega⟩)
  refine congrArg₂ (· + ·) ?_ ?_
  · exact sum_16_16 fun t i => P.u ⟨r.val / 512, by omega⟩ (16 * (r.val % 512) + t.val) g i * intra P g t i ⟨q.val / 16, by omega⟩ ⟨q.val % 16, by omega⟩
  · refine Eq.trans (Finset.sum_congr rfl fun k _ => ?_) (sum_2_2_64 fun d ri p =>
      if ri.val < 1 then (carry P d ⟨r.val / 512, by omega⟩ g p (r.val % 512)).re * (C P d g ⟨q.val % 16, by omega⟩ p * A P d g p ^ toPlace d (q.val / 16)).re
      else (carry P d ⟨r.val / 512, by omega⟩ g p (r.val % 512)).im * -(C P d g ⟨q.val % 16, by omega⟩ p * A P d g p ^ toPlace d (q.val / 16)).im)
    by_cases h1 : k.val / 64 % 2 < 1
    · simp only [if_pos h1]
    · simp only [if_neg h1]

end Cert.SsmIdeal.Hand
-- ==== Proof.SsmFinal.lean ====
/-
  The array the call leaves: the blocks of the thirty-two groups put together.
-/
module

public import proofs.«01_k».proof.Proof.SsmBlock

@[expose] public section

set_option maxRecDepth 16384

noncomputable section

namespace Cert.SsmIdeal.Hand

open Idealize.ShloMosaic Idealize.ShloMosaic.TcCoe Cert.SsmIdeal Cert.SsmIdeal.Gen Ssm

/-- Grid point `t` takes block `t` of every array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0, 0] ∧ win0_5.index t = ![t.val, 0, 0] :=
  (by decide +kernel : ∀ t : Fin grid0.N, _)

variable {m : (ℓ : Loc nD τ sig) → Buf (Elt Ideal) ℓ} {c : Dev nD} {P : Params}

/-- The group of a grid point. -/
def grp (t : Fin cfg0.N) : Fin 32 := ⟨t.val, t.isLt⟩

/-- What the five windows stage at a grid point. -/
theorem blk0 (t : Fin cfg0.N) (r : Fin 2048) (q : Fin 256) : iblk m c 0 t (ix3 0 r q) = V m c main_v302 (ix3 (grp t) r q) := by
  blk_ext [iblk, idx t, grp]
set_option maxHeartbeats 4000000 in
theorem blk1 (t : Fin cfg0.N) (r q : Fin 256) : iblk m c 1 t (ix3 0 r q) = V m c main_v297 (ix3 (grp t) r q) := by
  blk_ext [iblk, idx t, grp]
theorem blk2 (t : Fin cfg0.N) (r q : Fin 256) : iblk m c 2 t (ix3 0 r q) = V m c main_v298 (ix3 (grp t) r q) := by
  blk_ext [iblk, idx t, grp]
theorem blk3 (t : Fin cfg0.N) (r q : Fin 256) : iblk m c 3 t (ix3 0 r q) = V m c main_v299 (ix3 (grp t) r q) := by
  blk_ext [iblk, idx t, grp]
theorem blk4 (t : Fin cfg0.N) (d : Fin 2) (k : Fin 8) (r : Fin 8) (l : Fin 128) :
    iblk m c 4 t (ix5 0 d k r l) = V m c main_v296 (ix5 (grp t) d k r l) := by
  blk_ext [iblk, idx t, grp]

/-- One table of the table window, at an index. -/
theorem cast_at (x : Vec Ideal S1x1x1x8x128 .f32) (r : Fin 8) (l : Fin 128) : k0_pay48 x (ix2 r l) = x (ix5 0 0 0 r l) := by
  pointwise [k0_pay48]
theorem tab_at (x4 : Vec Ideal S1x2x8x8x128 .f32) (d : Fin 2) (k : Fin 8) (inb) (r : Fin 8) (l : Fin 128) :
    k0_pay48 (View.ld x4 (Rect.unit (s := S1x2x8x8x128) ![0, d.val, k.val, 0, 0] S1x1x1x8x128.size inb)) (ix2 r l) = x4 (ix5 0 d k r l) := by
  rw [cast_at]
  refine congrArg x4 (funext fun a => Fin.ext ?_)
  match a with
  | 0 => rfl
  | 1 => show d.val + 1 * 0 = d.val; omega
  | 2 => show k.val + 1 * 0 = k.val; omega
  | 3 => show 0 + 1 * r.val = r.val; omega
  | 4 => show 0 + 1 * l.val = l.val; omega

set_option maxHeartbeats 8000000 in
/-- The tables of a group are the powers of the sixteenth powers of its transitions. -/
theorem tables (h : Reads m c P) (t : Fin cfg0.N) :
    Tables (coefOf (iblk m c 4 t)) (fun p => A P 0 (grp t) p ^ 16) (fun p => A P 1 (grp t) p ^ 16) where
  row := rfl
  f1 r l := ⟨((tab_at _ 0 0 _ r l).trans (blk4 t 0 0 r l)).trans (V_v296_0 h _ 0 r l), ((tab_at _ 0 1 _ r l).trans (blk4 t 0 1 r l)).trans (V_v296_1 h _ 0 r l)⟩
  f2 r l := by
    simp only [← pow_mul]
    exact ⟨((tab_at _ 0 2 _ r l).trans (blk4 t 0 2 r l)).trans (V_v296_2 h _ 0 r l), ((tab_at _ 0 3 _ r l).trans (blk4 t 0 3 r l)).trans (V_v296_3 h _ 0 r l)⟩
  f4 r l := by
    simp only [← pow_mul]
    exact ⟨((tab_at _ 0 4 _ r l).trans (blk4 t 0 4 r l)).trans (V_v296_4 h _ 0 r l), ((tab_at _ 0 5 _ r l).trans (blk4 t 0 5 r l)).trans (V_v296_5 h _ 0 r l)⟩
  fr r l := by
    simp only [← pow_mul]
    exact ⟨((tab_at _ 0 6 _ r l).trans (blk4 t 0 6 r l)).trans (V_v296_6 h _ 0 r l), ((tab_at _ 0 7 _ r l).trans (blk4 t 0 7 r l)).trans (V_v296_7 h _ 0 r l)⟩
  b1 r l := ⟨((tab_at _ 1 0 _ r l).trans (blk4 t 1 0 r l)).trans (V_v296_0 h _ 1 r l), ((tab_at _ 1 1 _ r l).trans (blk4 t 1 1 r l)).trans (V_v296_1 h _ 1 r l)⟩
  b2 r l := by
    simp only [← pow_mul]
    exact ⟨((tab_at _ 1 2 _ r l).trans (blk4 t 1 2 r l)).trans (V_v296_2 h _ 1 r l), ((tab_at _ 1 3 _ r l).trans (blk4 t 1 3 r l)).trans (V_v296_3 h _ 1 r l)⟩
  b4 r l := by
    simp only [← pow_mul]
    exact ⟨((tab_at _ 1 4 _ r l).trans (blk4 t 1 4 r l)).trans (V_v296_4 h _ 1 r l), ((tab_at _ 1 5 _ r l).trans (blk4 t 1 5 r l)).trans (V_v296_5 h _ 1 r l)⟩
  br r l := by
    have e : 8 - r.val = r.rev.val + 1 := by show 8 - r.val = 8 - (r.val + 1) + 1; omega
    simp only [← pow_mul, e]
    exact ⟨((tab_at _ 1 6 _ r l).trans (blk4 t 1 6 r l)).trans (V_v296_6 h _ 1 r l), ((tab_at _ 1 7 _ r l).trans (blk4 t 1 7 r l)).trans (V_v296_7 h _ 1 r l)⟩

/-- The blocks staged at a grid point. -/
theorem blocks (h : Reads m c P) (t : Fin cfg0.N) :
    Blocks P (grp t) (iblk m c 0 t) (iblk m c 1 t) (iblk m c 2 t) (iblk m c 3 t) (iblk m c 4 t) where
  u r q := (blk0 t r q).trans (V_v302 h _ r q)
  lin r q := (blk1 t r q).trans (V_v297 h _ r q)
  win r q := (blk2 t r q).trans (V_v298 h _ r q)
  wout r q := (blk3 t r q).trans (V_v299 h _ r q)
  tab := tables h t

/-- The result array: group, then chunk, then place in the chunk and channel. -/
def result (P : Params) (i : S32x2048x256.Idx) : EReal :=
  ((out P ⟨(i 1).val / 512, by have h : (i 1).val < 2048 := (i 1).isLt; omega⟩ (16 * ((i 1).val % 512) + (i 2).val / 16) (i 0)
    ⟨(i 2).val % 16, by omega⟩ : ℝ) : EReal)

/-- The output array after the run. -/
theorem final5 (h : Reads m c P) : (dats m 0 c).arrAt 5 (cfgs 0).N = result P := by
  refine (dats m 0 c).arrAt_eq_of_covers 5 _ (by decide +kernel) fun t _ y => ?_
  blk_simp
  rw [after_5]
  idx_vars y
  have e0 : ((View.whole main_v303).slice (win0_5.rect t)).emb (ix3 y0 y1 y2) 0 = grp t := Fin.ext (by blk_simp [idx t, grp])
  have e1 : (((View.whole main_v303).slice (win0_5.rect t)).emb (ix3 y0 y1 y2) 1).val = y1.val := by blk_simp [idx t]
  have e2 : (((View.whole main_v303).slice (win0_5.rect t)).emb (ix3 y0 y1 y2) 2).val = y2.val := by blk_simp [idx t]
  have e3 : y0 = 0 := Subsingleton.elim _ _
  refine Eq.trans (congrArg (fun i => outBlk _ _ _ _ _ (ix3 i y1 y2)) e3) ((outBlk_at (blocks h t) y1 y2).trans ?_)
  simp only [result, e0, e1, e2]

end Cert.SsmIdeal.Hand
-- ==== Proof.SsmPre.lean ====
/-
  The precondition read element by element: every argument is a real number and no eigenvalue is zero.
-/
module

public import proofs.«01_k».proof.Pre_ssm_tame
public import proofs.«01_k».proof.Proof.SsmReads
public import Idealize.ShloMosaic.Lib.Pipeline.Value
public import Idealize.ShloMosaic.Lib.Pointwise

@[expose] public section

set_option maxRecDepth 16384

noncomputable section

namespace Ssm.Pre

open Idealize.ShloMosaic Cert.Pre_ssm_tame

/-- The shapes the precondition's operations relate. -/
theorem facts : Cert.Pre_ssm_tame.Facts where
  bcast_S_S32768x512 := by decide
  shapeCasts_S32768x512_S16777216 := by decide
  bcast_S_S2x32x64 := by decide
  shapeCasts_S2x32x64_S4096 := by decide
  bcast_S_S2x32 := by decide
  shapeCasts_S2x32_S64 := by decide
  bcast_S_S2x32x64x16 := by decide
  shapeCasts_S2x32x64x16_S65536 := by decide
  bcast_S_S2x32x16x64 := by decide
  shapeCasts_S2x32x16x64_S65536 := by decide
  bcast_S_S32x16 := by decide
  shapeCasts_S32x16_S512 := by decide
  concatenates_S16777216_S4096_S4096_S64_S65536_S65536_S65536_S65536_S512_S4096_S17052224_d0 := by decide

/-- A piece of a vector of ones is ones. -/
theorem piece_ones {N n : ℕ} (xs : List ((s : Shape) × (s.Idx → BitVec 1))) (h : Shape.Concatenates (xs.map (·.1)) ⟨1, ![N]⟩ 0)
    (hall : concatenate ⟨1, ![N]⟩ 0 xs h = fun _ => 1#1) (k : ℕ) (hk : k < xs.length) (x : (⟨1, ![n]⟩ : Shape).Idx → BitVec 1)
    (hxk : xs[k] = ⟨⟨1, ![n]⟩, x⟩) (pre : ℕ)
    (hpre : (((xs.take k).map (·.1)).map fun s => if h : s.rank = 1 then s.size ((0 : Fin 1).cast h.symm) else 0).sum = pre)
    (hfit : pre + n ≤ N) : x = fun _ => 1#1 := by
  funext i
  have hi : (i 0).val < n := (i 0).isLt
  refine Eq.trans (concatenate_apply_piece (t := ⟨1, ![N]⟩) 0 xs h (ix1 ⟨pre + (i 0).val, by omega⟩) k hk _ x hxk rfl pre hpre i ?_ rfl).symm (congrFun hall _)
  intro b hb
  exact absurd (Subsingleton.elim _ _) hb

/-- The lengths of the pieces, and how far the pieces before one reach. -/
def lengths : List Shape := [S16777216, S4096, S4096, S64, S65536, S65536, S65536, S65536, S512, S4096]
def starts : List ℕ := [0, 16777216, 16781312, 16785408, 16785472, 16851008, 16916544, 16982080, 17047616, 17048128]
theorem before : ∀ k < 10, ((lengths.take k).map fun s => if h : s.rank = 1 then s.size ((0 : Fin 1).cast h.symm) else 0).sum = starts.getD k 0 := by
  decide +kernel

/-- The ten pieces of a vector of ones. -/
theorem pieces (x0 : IVec S16777216 1) (x1 x2 : IVec S4096 1) (x3 : IVec S64 1) (x4 x5 x6 x7 : IVec S65536 1) (x8 : IVec S512 1) (x9 : IVec S4096 1)
    (h : Shape.Concatenates [S16777216, S4096, S4096, S64, S65536, S65536, S65536, S65536, S512, S4096] S17052224 0)
    (hall : concatenate S17052224 0 [⟨S16777216, x0⟩, ⟨S4096, x1⟩, ⟨S4096, x2⟩, ⟨S64, x3⟩, ⟨S65536, x4⟩, ⟨S65536, x5⟩, ⟨S65536, x6⟩, ⟨S65536, x7⟩,
      ⟨S512, x8⟩, ⟨S4096, x9⟩] h = fun _ => 1#1) :
    x0 = (fun _ => 1#1) ∧ x1 = (fun _ => 1#1) ∧ x2 = (fun _ => 1#1) ∧ x3 = (fun _ => 1#1) ∧ x4 = (fun _ => 1#1) ∧ x5 = (fun _ => 1#1) ∧
      x6 = (fun _ => 1#1) ∧ x7 = (fun _ => 1#1) ∧ x8 = (fun _ => 1#1) ∧ x9 = (fun _ => 1#1) := by
  have piece := fun (n k : ℕ) => piece_ones (N := 17052224) (n := n) [⟨S16777216, x0⟩, ⟨S4096, x1⟩, ⟨S4096, x2⟩, ⟨S64, x3⟩, ⟨S65536, x4⟩, ⟨S65536, x5⟩, ⟨S65536, x6⟩, ⟨S65536, x7⟩,
      ⟨S512, x8⟩, ⟨S4096, x9⟩] h hall k
  exact ⟨piece _ 0 (show 0 < 10 by decide) x0 rfl 0 (before 0 (by omega)) (by omega),
    piece _ 1 (show 1 < 10 by decide) x1 rfl 16777216 (before 1 (by omega)) (by omega),
    piece _ 2 (show 2 < 10 by decide) x2 rfl 16781312 (before 2 (by omega)) (by omega),
    piece _ 3 (show 3 < 10 by decide) x3 rfl 16785408 (before 3 (by omega)) (by omega),
    piece _ 4 (show 4 < 10 by decide) x4 rfl 16785472 (before 4 (by omega)) (by omega),
    piece _ 5 (show 5 < 10 by decide) x5 rfl 16851008 (before 5 (by omega)) (by omega),
    piece _ 6 (show 6 < 10 by decide) x6 rfl 16916544 (before 6 (by omega)) (by omega),
    piece _ 7 (show 7 < 10 by decide) x7 rfl 16982080 (before 7 (by omega)) (by omega),
    piece _ 8 (show 8 < 10 by decide) x8 rfl 17047616 (before 8 (by omega)) (by omega),
    piece _ 9 (show 9 < 10 by decide) x9 rfl 17048128 (before 9 (by omega)) (by omega)⟩

/-- A vector of ones laid out otherwise is ones. -/
theorem cast_ones {s t : Shape} (x : s.Idx → BitVec 1) (h : s.ShapeCasts t) (hall : shapeCast t x h = fun _ => 1#1) (i : s.Idx) : x i = 1#1 := by
  have e := congrFun hall ((Shape.reshapeEquiv h).symm i)
  rwa [shapeCast, Equiv.apply_symm_apply] at e

/-- An element below infinity in absolute value is a real number. -/
theorem real_of {s : Shape} {f : FTy} (a b : FVec Ideal s f) (hb : ∀ i, b i = (⊤ : EReal)) (i : s.Idx)
    (h : cmpf .olt (Host.absf a) b i = 1#1) : a i = (((a i : EReal).toReal : ℝ) : EReal) := by
  have h1 : (max (a i : EReal) (-(a i : EReal))) < ⊤ := by
    have h2 : BitVec.ofBool (decide ((max (a i : EReal) (-(a i : EReal))) < (b i : EReal))) = 1#1 := h
    rw [hb] at h2
    by_contra h3
    rw [decide_eq_false h3] at h2
    exact absurd h2 (by decide)
  refine (EReal.coe_toReal ?_ ?_).symm
  · intro h2; rw [h2] at h1; exact absurd (lt_of_le_of_lt (le_max_left _ _) h1) (lt_irrefl _)
  · intro h2; rw [h2] at h1; exact absurd (lt_of_le_of_lt (le_max_right _ _) h1) (by simp)

variable (a0 : FVec Ideal ⟨2, ![32768, 512]⟩ .bf16) (a1 a2 : FVec Ideal ⟨3, ![2, 32, 64]⟩ .f32)
    (a3 : FVec Ideal ⟨2, ![2, 32]⟩ .f32) (a4 a5 : FVec Ideal ⟨4, ![2, 32, 64, 16]⟩ .f32)
    (a6 a7 : FVec Ideal ⟨4, ![2, 32, 16, 64]⟩ .f32) (a8 : FVec Ideal ⟨2, ![32, 16]⟩ .f32)

/-- The arguments as real numbers. -/
def params : Params where
  u b L g i := if h : L < 8192 then (a0 (ix2 ⟨b.val * 8192 + L, by omega⟩ ⟨g.val * 16 + i.val, by omega⟩) : EReal).toReal else 0
  lr d g p := (a1 (ix3 d g p) : EReal).toReal
  li d g p := (a2 (ix3 d g p) : EReal).toReal
  ld d g := (a3 (ix2 d g) : EReal).toReal
  br d g p i := (a4 (ix4 d g p i) : EReal).toReal
  bi d g p i := (a5 (ix4 d g p i) : EReal).toReal
  cr d g o p := (a6 (ix4 d g o p) : EReal).toReal
  ci d g o p := (a7 (ix4 d g o p) : EReal).toReal
  ds g i := (a8 (ix2 g i) : EReal).toReal

/-- The patterns of infinity. -/
theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- Arguments the precondition holds of are these real numbers. -/
theorem reads [Cert.Pre_ssm_tame.Facts] (h : Cert.Pre_ssm_tame.fn (F := Ideal) a0 a1 a2 a3 a4 a5 a6 a7 a8 = fun _ => 1#1) :
    Reads (params a0 a1 a2 a3 a4 a5 a6 a7 a8) a0 a1 a2 a3 a4 a5 a6 a7 a8 := by
  obtain ⟨q0, q1, q2, q3, q4, q5, q6, q7, q8, q9⟩ := pieces _ _ _ _ _ _ _ _ _ _ Facts.concatenates_S16777216_S4096_S4096_S64_S65536_S65536_S65536_S65536_S512_S4096_S17052224_d0 h
  have p0 := cast_ones _ Facts.shapeCasts_S32768x512_S16777216 q0
  have p1 := cast_ones _ Facts.shapeCasts_S2x32x64_S4096 q1
  have p2 := cast_ones _ Facts.shapeCasts_S2x32x64_S4096 q2
  have p3 := cast_ones _ Facts.shapeCasts_S2x32_S64 q3
  have p4 := cast_ones _ Facts.shapeCasts_S2x32x64x16_S65536 q4
  have p5 := cast_ones _ Facts.shapeCasts_S2x32x64x16_S65536 q5
  have p6 := cast_ones _ Facts.shapeCasts_S2x32x16x64_S65536 q6
  have p7 := cast_ones _ Facts.shapeCasts_S2x32x16x64_S65536 q7
  have p8 := cast_ones _ Facts.shapeCasts_S32x16_S512 q8
  have p9 := cast_ones _ Facts.shapeCasts_S2x32x64_S4096 q9
  have r0 : ∀ i, a0 i = (((a0 i : EReal).toReal : ℝ) : EReal) := fun i => real_of a0 _ (fun _ => inf_bf16) i (p0 i)
  have r1 : ∀ i, a1 i = (((a1 i : EReal).toReal : ℝ) : EReal) := fun i => real_of a1 _ (fun _ => inf_f32) i (p1 i)
  have r2 : ∀ i, a2 i = (((a2 i : EReal).toReal : ℝ) : EReal) := fun i => real_of a2 _ (fun _ => inf_f32) i (p2 i)
  refine ⟨fun b L g i h => ?_, fun d g p => r1 _, fun d g p => r2 _, fun d g => real_of a3 _ (fun _ => inf_f32) _ (p3 _),
    fun d g p i => real_of a4 _ (fun _ => inf_f32) _ (p4 _), fun d g p i => real_of a5 _ (fun _ => inf_f32) _ (p5 _),
    fun d g o p => real_of a6 _ (fun _ => inf_f32) _ (p6 _), fun d g o p => real_of a7 _ (fun _ => inf_f32) _ (p7 _),
    fun g i => real_of a8 _ (fun _ => inf_f32) _ (p8 _), fun d g p => ?_⟩
  · refine (r0 _).trans ?_
    simp only [params, dif_pos h]
  · have e : BitVec.ofBool (decide (Ideal.ofBits .f32 0x00000000#32 < ((a1 (ix3 d g p) : EReal) * a1 (ix3 d g p) + (a2 (ix3 d g p) : EReal) * a2 (ix3 d g p)))) = 1#1 := p9 (ix3 d g p)
    rw [r1, r2, ← EReal.coe_mul, ← EReal.coe_mul, ← EReal.coe_add, Ideal.ofBits_zero_f32] at e
    intro hz
    have hz' : (a1 (ix3 d g p) : EReal).toReal * (a1 (ix3 d g p) : EReal).toReal + (a2 (ix3 d g p) : EReal).toReal * (a2 (ix3 d g p) : EReal).toReal = 0 := hz
    rw [hz'] at e
    exact absurd e (by simp)

end Ssm.Pre
-- ==== Proof.SsmRefIn.lean ====
/-
  What the reference's recurrence starts from: the transition, the inputs of both directions in the order they are
  taken, the counter and the empty states.
-/
module

public import proofs.«01_k».proof.Proof.SsmReads
public import proofs.«01_k».proof.Proof.Gen.SsmRefIdeal.Run
public import Idealize.ShloMosaic.Lib.Pipeline.ValueKit
public import Idealize.ShloMosaic.Lib.Pointwise

@[expose] public section

noncomputable section

namespace Cert.SsmRefIdeal.Hand

open Idealize.ShloMosaic Idealize.ShloMosaic.Pipeline Cert.SsmRefIdeal Cert.SsmRefIdeal.Gen Cert.SsmRefIdeal.Value Ssm

variable (m : (ℓ : Loc nD τ sig) → Buf (Elt Ideal) ℓ) (c : Dev nD)

/-- The reference's argument arrays hold the real numbers `P`. -/
abbrev Reads (P : Params) : Prop := Ssm.Reads P (m (c, Proc.tc.devRef main_arg0)) (m (c, Proc.tc.devRef main_arg1))
  (m (c, Proc.tc.devRef main_arg2)) (m (c, Proc.tc.devRef main_arg3)) (m (c, Proc.tc.devRef main_arg4))
  (m (c, Proc.tc.devRef main_arg5)) (m (c, Proc.tc.devRef main_arg6)) (m (c, Proc.tc.devRef main_arg7))
  (m (c, Proc.tc.devRef main_arg8))

/-- What a buffer holds when the recurrence starts. -/
def entry (r : Ref sig .tc) : (Proc.devRef (τ := τ) .tc r).ty.Contents (Elt Ideal) :=
  StableHlo.after hostOps0 (fun b => m (c, b)) (Proc.devRef .tc r)

theorem entry_eq (r : Ref sig .tc) : StableHlo.entryContents (preI (F := Ideal)) m c (Proc.devRef .tc r) = entry m c r := rfl

/-- The product with the inputs, at an index. -/
theorem dot_at (a : FVec Ideal S2x32x64x16 .f32) (b : FVec Ideal S4x8192x32x16 .f32) (g : Fin 32) (d : Fin 2) (p : Fin 64) (s : Fin 4) (L : Fin 8192) :
    Host.dotGeneral dot_S2x32x64x16_S4x8192x32x16_S32x2x64x4x8192_3_3_02_01_1_2 none a b (ix5 g d p s L)
      = ∑ i : Fin 16, a (ix4 d g p i) * b (ix4 s L g i) := by
  show FloatOps.dotGeneral _ _ _ a b _ = _
  rw [Ideal.dotGeneral_apply, ← Equiv.sum_comp (ValueIdx.contrEquiv1 dot_S2x32x64x16_S4x8192x32x16_S32x2x64x4x8192_3_3_02_01_1_2 16 rfl rfl).symm]
  refine Finset.sum_congr rfl fun i _ => ?_
  have hp := ValueIdx.contrEquiv1_symm_val dot_S2x32x64x16_S4x8192x32x16_S32x2x64x4x8192_3_3_02_01_1_2 16 rfl rfl i
  congr 1
  · congr 1
    funext ax; apply Fin.ext
    fin_cases ax <;> simp [DotDims.lhsIdx, dot_S2x32x64x16_S4x8192x32x16_S32x2x64x4x8192_3_3_02_01_1_2]
    all_goals first | rfl | exact hp
  · congr 1
    funext ax; apply Fin.ext
    fin_cases ax <;> simp [DotDims.rhsIdx, dot_S2x32x64x16_S4x8192x32x16_S32x2x64x4x8192_3_3_02_01_1_2]
    all_goals first | rfl | exact hp

/-- The discretised input matrix, real and imaginary parts, and the inputs. -/
def matRe : FVec Ideal S2x32x64x16 .f32 := entry m c main_v36
def matIm : FVec Ideal S2x32x64x16 .f32 := entry m c main_v43
def inputs : FVec Ideal S4x8192x32x16 .f32 := entry m c main_v1

variable {m c} {P : Params}

/-- The transition. -/
theorem entry_re (h : Reads m c P) (d : Fin 2) (z : Fin 1) (g : Fin 32) (p : Fin 64) :
    entry m c main_v69_2 (ix4 d z g p) = (((A P d g p).re : ℝ) : EReal) := by
  have e := pow_re P d g p 1
  simp only [pow_one, Nat.cast_one, mul_one] at e
  unfold entry
  after_reads_at
  pointwise [id]
  simp only [Ideal.mulf_def, Ideal.hostUnary_exp_def, Ideal.hostUnary_cos_def, h.lr, h.li, h.ld, exp_coe, cos_coe, ← EReal.coe_mul, e]
theorem entry_im (h : Reads m c P) (d : Fin 2) (z : Fin 1) (g : Fin 32) (p : Fin 64) :
    entry m c main_v69_3 (ix4 d z g p) = (((A P d g p).im : ℝ) : EReal) := by
  have e := pow_im P d g p 1
  simp only [pow_one, Nat.cast_one, mul_one] at e
  unfold entry
  after_reads_at
  pointwise [id]
  simp only [Ideal.mulf_def, Ideal.hostUnary_exp_def, Ideal.hostUnary_sin_def, h.lr, h.li, h.ld, exp_coe, sin_coe, ← EReal.coe_mul, e]

/-- The states and the lists of states before the first position. -/
theorem entry_state (d : Fin 2) (b : Fin 4) (g : Fin 32) (p : Fin 64) :
    entry m c main_v69_5 (ix4 d b g p) = ((0 : ℝ) : EReal) ∧ entry m c main_v69_6 (ix4 d b g p) = ((0 : ℝ) : EReal) := by
  constructor
  · unfold entry
    after_reads_at
    pointwise [id]
    simp [Ideal.ofBits_zero_f32]
  · unfold entry
    after_reads_at
    pointwise [id]
    simp [Ideal.ofBits_zero_f32]

set_option maxHeartbeats 8000000 in
/-- The discretised input matrix. -/
theorem entry_v36 (h : Reads m c P) (d : Fin 2) (g : Fin 32) (p : Fin 64) (i : Fin 16) :
    matRe m c (ix4 d g p i) = (((B P d g p i).re : ℝ) : EReal) := by
  have hs := h.size d g p
  have e1 := pow_re P d g p 1
  have e2 := pow_im P d g p 1
  simp only [pow_one, Nat.cast_one, mul_one] at e1 e2
  unfold matRe entry
  after_reads_at
  simp only [Ideal.mulf_def, Ideal.addf_def, Ideal.subf_def, Ideal.hostUnary_exp_def, Ideal.hostUnary_cos_def, Ideal.hostUnary_sin_def, Ideal.hostDivf_def, Ideal.ofBits_def, one_coe, h.lr, h.li, h.ld,
    h.br, h.bi, exp_coe, cos_coe, sin_coe, ← EReal.coe_mul, ← EReal.coe_add, ← EReal.coe_sub, e1, e2]
  rw [← EReal.coe_one]
  simp only [← EReal.coe_mul, ← EReal.coe_add, ← EReal.coe_sub]
  rw [size] at hs
  simp only [div_coe _ hs, ← EReal.coe_mul, ← EReal.coe_add, ← EReal.coe_sub]
  congr 1
  simp [B, Q, size]
set_option maxHeartbeats 8000000 in
theorem entry_v43 (h : Reads m c P) (d : Fin 2) (g : Fin 32) (p : Fin 64) (i : Fin 16) :
    matIm m c (ix4 d g p i) = (((B P d g p i).im : ℝ) : EReal) := by
  have hs := h.size d g p
  have e1 := pow_re P d g p 1
  have e2 := pow_im P d g p 1
  simp only [pow_one, Nat.cast_one, mul_one] at e1 e2
  unfold matIm entry
  after_reads_at
  simp only [Ideal.mulf_def, Ideal.addf_def, Ideal.subf_def, Ideal.hostUnary_exp_def, Ideal.hostUnary_cos_def, Ideal.hostUnary_sin_def, Ideal.hostDivf_def, Ideal.ofBits_def, one_coe, h.lr, h.li, h.ld,
    h.br, h.bi, exp_coe, cos_coe, sin_coe, ← EReal.coe_mul, ← EReal.coe_add, ← EReal.coe_sub, e1, e2]
  rw [← EReal.coe_one]
  simp only [← EReal.coe_mul, ← EReal.coe_add, ← EReal.coe_sub]
  rw [size] at hs
  simp only [div_coe _ hs, ← EReal.coe_mul, ← EReal.coe_add, ← EReal.coe_sub]
  congr 1
  simp [B, Q, size]

set_option maxHeartbeats 8000000 in
/-- The inputs. -/
theorem entry_v1 (h : Reads m c P) (b : Fin 4) (L : Fin 8192) (g : Fin 32) (i : Fin 16) :
    inputs m c (ix4 b L g i) = ((P.u b L.val g i : ℝ) : EReal) := by
  refine Eq.trans ?_ (h.u b L.val g i L.isLt)
  unfold inputs entry
  after_reads_at

set_option maxHeartbeats 16000000 in
/-- The products with the inputs. -/
theorem entry_v44 (h : Reads m c P) (g : Fin 32) (d : Fin 2) (p : Fin 64) (b : Fin 4) (L : Fin 8192) :
    entry m c main_v44 (ix5 g d p b L) = (((inp P d b g p L.val).re : ℝ) : EReal) := by
  refine Eq.trans (b := ∑ i : Fin 16, matRe m c (ix4 d g p i) * inputs m c (ix4 b L g i))
    (Eq.trans (congrFun (a := ix5 g d p b L) ?_) (dot_at (matRe m c) (inputs m c) g d p b L)) ?_
  · unfold matRe inputs entry
    simp only [StableHlo.readAfter, StableHlo.readUpto, StableHlo.binary_result']
  · simp only [entry_v36 h, entry_v1 h, ← EReal.coe_mul, sum_coe]
    simp [inp]
set_option maxHeartbeats 16000000 in
theorem entry_v46 (h : Reads m c P) (g : Fin 32) (d : Fin 2) (p : Fin 64) (b : Fin 4) (L : Fin 8192) :
    entry m c main_v46 (ix5 g d p b L) = (((inp P d b g p L.val).im : ℝ) : EReal) := by
  refine Eq.trans (b := ∑ i : Fin 16, matIm m c (ix4 d g p i) * inputs m c (ix4 b L g i))
    (Eq.trans (congrFun (a := ix5 g d p b L) ?_) (dot_at (matIm m c) (inputs m c) g d p b L)) ?_
  · unfold matIm inputs entry
    simp only [StableHlo.readAfter, StableHlo.readUpto, StableHlo.binary_result']
  · simp only [entry_v43 h, entry_v1 h, ← EReal.coe_mul, sum_coe]
    simp [inp]

/-- A list of two directions with the second one's positions reversed. -/
def bothWays (x : FVec Ideal S8192x2x4x32x64 .f32) : FVec Ideal S8192x2x4x32x64 .f32 :=
  concatenate S8192x2x4x32x64 1
    [⟨S8192x1x4x32x64, broadcastInDim S8192x1x4x32x64 ![0, 2, 3, 4] bcast_S8192x4x32x64_S8192x1x4x32x64_0_2_3_4
        (shapeCast S8192x4x32x64 (extractStridedSlice S8192x1x4x32x64 ![0, 0, 0, 0, 0] x slices_S8192x2x4x32x64_S8192x1x4x32x64_0_0_0_0_0)
          shapeCasts_S8192x1x4x32x64_S8192x4x32x64)⟩,
      ⟨S8192x1x4x32x64, broadcastInDim S8192x1x4x32x64 ![0, 2, 3, 4] bcast_S8192x4x32x64_S8192x1x4x32x64_0_2_3_4
        (shapeCast S8192x4x32x64 (Host.reverse [0] (extractStridedSlice S8192x1x4x32x64 ![0, 1, 0, 0, 0] x slices_S8192x2x4x32x64_S8192x1x4x32x64_0_1_0_0_0))
          shapeCasts_S8192x1x4x32x64_S8192x4x32x64)⟩]
    concatenates_S8192x1x4x32x64_S8192x1x4x32x64_S8192x2x4x32x64_d1

theorem bothWays_at (x : FVec Ideal S8192x2x4x32x64 .f32) (k : Fin 8192) (d : Fin 2) (b : Fin 4) (g : Fin 32) (p : Fin 64) :
    bothWays x (ix5 k d b g p) = x (ix5 (if d = 0 then k else k.rev) d b g p) := by
  fin_cases d
  · pointwise [bothWays]
  · pointwise [bothWays]
    simp

/-- The two halves of such a list, one after the other. -/
def half (j : Fin 2) (x : FVec Ideal S8192x2x4x32x64 .f32) : FVec Ideal S8192x1x4x32x64 .f32 :=
  broadcastInDim S8192x1x4x32x64 ![0, 2, 3, 4] bcast_S8192x4x32x64_S8192x1x4x32x64_0_2_3_4
    (shapeCast S8192x4x32x64
      (if j = 0 then extractStridedSlice S8192x1x4x32x64 ![0, 0, 0, 0, 0] x slices_S8192x2x4x32x64_S8192x1x4x32x64_0_0_0_0_0
        else Host.reverse [0] (extractStridedSlice S8192x1x4x32x64 ![0, 1, 0, 0, 0] x slices_S8192x2x4x32x64_S8192x1x4x32x64_0_1_0_0_0))
      shapeCasts_S8192x1x4x32x64_S8192x4x32x64)

/-- The products with the inputs, positions first. -/
def prodRe (m : (ℓ : Loc nD τ sig) → Buf (Elt Ideal) ℓ) (c : Dev nD) : FVec Ideal S8192x2x4x32x64 .f32 := transpose S8192x2x4x32x64 [4, 1, 3, 0, 2] (entry m c main_v44) transposes_S32x2x64x4x8192_S8192x2x4x32x64_4_1_3_0_2
def prodIm (m : (ℓ : Loc nD τ sig) → Buf (Elt Ideal) ℓ) (c : Dev nD) : FVec Ideal S8192x2x4x32x64 .f32 := transpose S8192x2x4x32x64 [4, 1, 3, 0, 2] (entry m c main_v46) transposes_S32x2x64x4x8192_S8192x2x4x32x64_4_1_3_0_2

set_option maxHeartbeats 16000000 in
theorem entry_v69_0 : entry m c main_v69_0 = bothWays (prodRe m c) := by
  have e0 : StableHlo.upto hostOps0 (fun b => m (c, b)) 61 (Proc.tc.devRef main_v56) = half 0 (prodRe m c) := by
    unfold half prodRe entry
    after_reads_simp
    rfl
  have e1 : StableHlo.upto hostOps0 (fun b => m (c, b)) 61 (Proc.tc.devRef main_v57) = half 1 (prodRe m c) := by
    unfold half prodRe entry
    after_reads_simp
    rfl
  unfold entry bothWays
  after_reads_simp
  rw [e0, e1]
  rfl
set_option maxHeartbeats 16000000 in
theorem entry_v69_1 : entry m c main_v69_1 = bothWays (prodIm m c) := by
  have e0 : StableHlo.upto hostOps0 (fun b => m (c, b)) 69 (Proc.tc.devRef main_v64) = half 0 (prodIm m c) := by
    unfold half prodIm entry
    after_reads_simp
    rfl
  have e1 : StableHlo.upto hostOps0 (fun b => m (c, b)) 69 (Proc.tc.devRef main_v65) = half 1 (prodIm m c) := by
    unfold half prodIm entry
    after_reads_simp
    rfl
  unfold entry bothWays
  after_reads_simp
  rw [e0, e1]
  rfl

theorem prodRe_at (h : Reads m c P) (L : Fin 8192) (d : Fin 2) (b : Fin 4) (g : Fin 32) (p : Fin 64) :
    prodRe m c (ix5 L d b g p) = (((inp P d b g p L.val).re : ℝ) : EReal) := by
  unfold prodRe
  pointwise
  exact entry_v44 h g d p b L
theorem prodIm_at (h : Reads m c P) (L : Fin 8192) (d : Fin 2) (b : Fin 4) (g : Fin 32) (p : Fin 64) :
    prodIm m c (ix5 L d b g p) = (((inp P d b g p L.val).im : ℝ) : EReal) := by
  unfold prodIm
  pointwise
  exact entry_v46 h g d p b L

/-- The place in its sequence of the position a direction takes at step `k`. -/
theorem place (k : Fin 8192) (d : Fin 2) : (if d = 0 then k else k.rev).val = if d = 0 then k.val else 8191 - k.val := by
  split
  · rfl
  · rw [Fin.val_rev]; omega

/-- The inputs of both directions in the order they are taken. -/
theorem entry_seq_re (h : Reads m c P) (k : Fin 8192) (d : Fin 2) (b : Fin 4) (g : Fin 32) (p : Fin 64) :
    entry m c main_v69_0 (ix5 k d b g p) = (((seq P d b g p k.val).re : ℝ) : EReal) := by
  rw [entry_v69_0, bothWays_at, prodRe_at h, place, seq]
theorem entry_seq_im (h : Reads m c P) (k : Fin 8192) (d : Fin 2) (b : Fin 4) (g : Fin 32) (p : Fin 64) :
    entry m c main_v69_1 (ix5 k d b g p) = (((seq P d b g p k.val).im : ℝ) : EReal) := by
  rw [entry_v69_1, bothWays_at, prodIm_at h, place, seq]

/-- The counter before the first position. -/
theorem entry_counter : entry m c main_v69_4 = fun _ => (0#32 : BitVec 32) := ctr_entry m c

end Cert.SsmRefIdeal.Hand
-- ==== Proof.SsmRefLoop.lean ====
/-
  The reference's recurrence over the 8192 positions: what its carried buffers hold after any number of steps.
-/
module

public import proofs.«01_k».proof.Proof.SsmRefIn
public import Idealize.ShloMosaic.Lib.WordCmp

@[expose] public section

noncomputable section

namespace Cert.SsmRefIdeal.Hand

open Idealize.ShloMosaic Idealize.ShloMosaic.Pipeline Cert.SsmRefIdeal Cert.SsmRefIdeal.Gen Cert.SsmRefIdeal.Value Ssm

/-- One position's block of a list of states fits inside the list. -/
theorem fits (k : Fin 8192) : S8192x2x4x32x64.Slices ![k.val, 0, 0, 0, 0] S1x2x4x32x64 :=
  ⟨rfl, fun a => by
    have := k.isLt
    fin_cases a
    · show k.val + 1 ≤ 8192; omega
    · show 0 + 2 ≤ 2; decide
    · show 0 + 4 ≤ 4; decide
    · show 0 + 32 ≤ 32; decide
    · show 0 + 64 ≤ 64; decide⟩

/-- The entry of a list at one position. -/
theorem slice_at (x : FVec Ideal S8192x2x4x32x64 .f32) (s : Fin 5 → Int) (k : Fin 8192)
    (hs : ∀ a, s a = ((![k.val, 0, 0, 0, 0] : Fin 5 → ℕ) a : Int)) (d : Fin 2) (b : Fin 4) (g : Fin 32) (p : Fin 64) :
    shapeCast S2x4x32x64 (Host.dynamicSlice S1x2x4x32x64 x s sliceFits_S8192x2x4x32x64_S1x2x4x32x64) shapeCasts_S1x2x4x32x64_S2x4x32x64 (ix4 d b g p)
      = x (ix5 k d b g p) := by
  rw [WordCmp.dynamicSlice_eq_extract S1x2x4x32x64 x s _ ![k.val, 0, 0, 0, 0] (fits k) hs]
  pointwise

/-- A list after the states of one position have been written into it. -/
theorem update_at (x : FVec Ideal S8192x2x4x32x64 .f32) (y : FVec Ideal S2x4x32x64 .f32) (s : Fin 5 → Int) (k : Fin 8192)
    (hs : ∀ a, s a = ((![k.val, 0, 0, 0, 0] : Fin 5 → ℕ) a : Int)) (j : Fin 8192) (d : Fin 2) (b : Fin 4) (g : Fin 32) (p : Fin 64) :
    Host.dynamicUpdateSlice x (broadcastInDim S1x2x4x32x64 ![1, 2, 3, 4] bcast_S2x4x32x64_S1x2x4x32x64_1_2_3_4 y) s updateFits_S8192x2x4x32x64_S1x2x4x32x64
        (ix5 j d b g p)
      = if j = k then y (ix4 d b g p) else x (ix5 j d b g p) := by
  rw [WordCmp.dynamicUpdateSlice_eq_update x _ s _ ![k.val, 0, 0, 0, 0] (fits k) hs]
  unfold updateSlice
  by_cases e : j = k
  · subst e
    rw [if_pos rfl, dif_pos]
    · pointwise
    · intro a
      fin_cases a
      · exact ⟨le_refl _, Nat.lt_succ_self _⟩
      · exact ⟨Nat.zero_le _, d.isLt.trans_eq (Nat.zero_add _).symm⟩
      · exact ⟨Nat.zero_le _, b.isLt.trans_eq (Nat.zero_add _).symm⟩
      · exact ⟨Nat.zero_le _, g.isLt.trans_eq (Nat.zero_add _).symm⟩
      · exact ⟨Nat.zero_le _, p.isLt.trans_eq (Nat.zero_add _).symm⟩
  · rw [if_neg e, dif_neg]
    intro hin
    have h0 : k.val ≤ j.val ∧ j.val < k.val + 1 := hin 0
    exact e (Fin.ext (by omega))

/-- Where the counter points. -/
theorem starts (n : S_.Idx → BitVec 32) (k : Fin 8192) (hn : n = fun _ => BitVec.ofNat 32 k.val) (a : Fin 5) :
    (((![n, constantI S_ 32 0#32, constantI S_ 32 0#32, constantI S_ 32 0#32, constantI S_ 32 0#32] : Fin 5 → (⟨S_, .i32⟩ : BufTy).Contents (Elt Ideal)))
      a (Shape.Idx.first h_S_)).toInt = ((![k.val, 0, 0, 0, 0] : Fin 5 → ℕ) a : Int) := by
  subst hn
  have := k.isLt
  fin_cases a
  · exact WordCmp.toInt_ofNat_of_lt (by omega)
  all_goals rfl

variable {m : (ℓ : Loc nD τ sig) → Buf (Elt Ideal) ℓ} {c : Dev nD} {P : Params}

/-- The state of a direction after `k` steps. -/
abbrev after (P : Params) (d : Fin 2) (b : Fin 4) (g : Fin 32) (p : Fin 64) (k : ℕ) : ℂ := Ssm.scan (A P d g p) 0 (seq P d b g p) k

/-- What the carried buffers hold after `k` steps. -/
structure Holds (P : Params) (k : ℕ) (V : Valuation τ sig (Elt Ideal)) : Prop where
  ctr : V (Proc.devRef .tc main_v69_4) = fun _ => BitVec.ofNat 32 k
  aRe : ∀ d z g p, V (Proc.devRef .tc main_v69_2) (ix4 d z g p) = (((A P d g p).re : ℝ) : EReal)
  aIm : ∀ d z g p, V (Proc.devRef .tc main_v69_3) (ix4 d z g p) = (((A P d g p).im : ℝ) : EReal)
  xRe : ∀ (j : Fin 8192) d b g p, V (Proc.devRef .tc main_v69_0) (ix5 j d b g p) = (((seq P d b g p j.val).re : ℝ) : EReal)
  xIm : ∀ (j : Fin 8192) d b g p, V (Proc.devRef .tc main_v69_1) (ix5 j d b g p) = (((seq P d b g p j.val).im : ℝ) : EReal)
  sRe : ∀ d b g p, V (Proc.devRef .tc main_v69_5) (ix4 d b g p) = (((after P d b g p k).re : ℝ) : EReal)
  sIm : ∀ d b g p, V (Proc.devRef .tc main_v69_6) (ix4 d b g p) = (((after P d b g p k).im : ℝ) : EReal)
  lRe : ∀ (j : Fin 8192) d b g p, j.val < k → V (Proc.devRef .tc main_v69_7) (ix5 j d b g p) = (((after P d b g p (j.val + 1)).re : ℝ) : EReal)
  lIm : ∀ (j : Fin 8192) d b g p, j.val < k → V (Proc.devRef .tc main_v69_8) (ix5 j d b g p) = (((after P d b g p (j.val + 1)).im : ℝ) : EReal)

/-- Before the first step. -/
theorem holds_zero (h : Reads m c P) : Holds P 0 (StableHlo.entryContents (preI (F := Ideal)) m c) where
  ctr := entry_counter
  aRe := entry_re h
  aIm := entry_im h
  xRe := entry_seq_re h
  xIm := entry_seq_im h
  sRe d b g p := (entry_state d b g p).1
  sIm d b g p := (entry_state d b g p).2
  lRe j d b g p hj := absurd hj (Nat.not_lt_zero _)
  lIm j d b g p hj := absurd hj (Nat.not_lt_zero _)

variable {V : Valuation τ sig (Elt Ideal)}

/-- One step of a complex recurrence on real and imaginary parts, at an index. -/
theorem step_re (t u : FVec Ideal S2x1x32x64 .f32) (x y z : FVec Ideal S2x4x32x64 .f32) (d : Fin 2) (b : Fin 4) (g : Fin 32) (p : Fin 64)
    {t' u' x' y' z' : ℝ} (ht : t (ix4 d 0 g p) = (t' : EReal)) (hu : u (ix4 d 0 g p) = (u' : EReal)) (hx : x (ix4 d b g p) = (x' : EReal))
    (hy : y (ix4 d b g p) = (y' : EReal)) (hz : z (ix4 d b g p) = (z' : EReal)) :
    addf (subf (mulf (broadcastInDim S2x4x32x64 ![0, 1, 2, 3] bcast_S2x1x32x64_S2x4x32x64_0_1_2_3 t) x)
        (mulf (broadcastInDim S2x4x32x64 ![0, 1, 2, 3] bcast_S2x1x32x64_S2x4x32x64_0_1_2_3 u) y)) z (ix4 d b g p)
      = ((t' * x' - u' * y' + z' : ℝ) : EReal) := by
  pointwise
  simp only [ht, hu, hx, hy, hz, ← EReal.coe_mul, ← EReal.coe_add, ← EReal.coe_sub]
theorem step_im (t u : FVec Ideal S2x1x32x64 .f32) (x y z : FVec Ideal S2x4x32x64 .f32) (d : Fin 2) (b : Fin 4) (g : Fin 32) (p : Fin 64)
    {t' u' x' y' z' : ℝ} (ht : t (ix4 d 0 g p) = (t' : EReal)) (hu : u (ix4 d 0 g p) = (u' : EReal)) (hx : x (ix4 d b g p) = (x' : EReal))
    (hy : y (ix4 d b g p) = (y' : EReal)) (hz : z (ix4 d b g p) = (z' : EReal)) :
    addf (addf (mulf (broadcastInDim S2x4x32x64 ![0, 1, 2, 3] bcast_S2x1x32x64_S2x4x32x64_0_1_2_3 t) x)
        (mulf (broadcastInDim S2x4x32x64 ![0, 1, 2, 3] bcast_S2x1x32x64_S2x4x32x64_0_1_2_3 u) y)) z (ix4 d b g p)
      = ((t' * x' + u' * y' + z' : ℝ) : EReal) := by
  pointwise
  simp only [ht, hu, hx, hy, hz, ← EReal.coe_mul, ← EReal.coe_add, ← EReal.coe_sub]

theorem after_re (d : Fin 2) (b : Fin 4) (g : Fin 32) (p : Fin 64) (k : ℕ) :
    (A P d g p).re * (after P d b g p k).re - (A P d g p).im * (after P d b g p k).im + (seq P d b g p k).re = (after P d b g p (k + 1)).re := by
  rw [after, after, Ssm.scan, Complex.add_re, Complex.mul_re]
theorem after_im (d : Fin 2) (b : Fin 4) (g : Fin 32) (p : Fin 64) (k : ℕ) :
    (A P d g p).re * (after P d b g p k).im + (A P d g p).im * (after P d b g p k).re + (seq P d b g p k).im = (after P d b g p (k + 1)).im := by
  rw [after, after, Ssm.scan, Complex.add_im, Complex.mul_im]

/-- The states one step computes. -/
theorem next_re {k : Fin 8192} (h : Holds P k.val V) (d : Fin 2) (b : Fin 4) (g : Fin 32) (p : Fin 64) :
    res_main_while0b_v108 V (ix4 d b g p) = (((after P d b g p (k.val + 1)).re : ℝ) : EReal) :=
  (step_re _ _ _ _ _ d b g p (h.aRe d 0 g p) (h.aIm d 0 g p) (h.sRe d b g p) (h.sIm d b g p)
    ((slice_at _ _ k (starts _ k h.ctr) d b g p).trans (h.xRe k d b g p))).trans (congrArg _ (after_re d b g p k.val))
theorem next_im {k : Fin 8192} (h : Holds P k.val V) (d : Fin 2) (b : Fin 4) (g : Fin 32) (p : Fin 64) :
    res_main_while0b_v114 V (ix4 d b g p) = (((after P d b g p (k.val + 1)).im : ℝ) : EReal) :=
  (step_im _ _ _ _ _ d b g p (h.aRe d 0 g p) (h.aIm d 0 g p) (h.sIm d b g p) (h.sRe d b g p)
    ((slice_at _ _ k (starts _ k h.ctr) d b g p).trans (h.xIm k d b g p))).trans (congrArg _ (after_im d b g p k.val))

/-- One step. -/
theorem holds_succ {k : Fin 8192} (h : Holds P k.val V) : Holds P (k.val + 1) (STEP V) where
  ctr := by
    rw [STEP_main_v69_4]
    show addi (V (Proc.devRef .tc main_v69_4)) (constantI S_ 32 1#32) = _
    rw [h.ctr]
    funext i
    show BitVec.ofNat 32 k.val + 1#32 = _
    rw [← BitVec.ofNat_add]
  aRe d z g p := by rw [STEP_main_v69_2]; exact h.aRe d z g p
  aIm d z g p := by rw [STEP_main_v69_3]; exact h.aIm d z g p
  xRe j d b g p := by rw [STEP_main_v69_0]; exact h.xRe j d b g p
  xIm j d b g p := by rw [STEP_main_v69_1]; exact h.xIm j d b g p
  sRe d b g p := by rw [STEP_main_v69_5]; exact next_re h d b g p
  sIm d b g p := by rw [STEP_main_v69_6]; exact next_im h d b g p
  lRe j d b g p hj := by
    rw [STEP_main_v69_7]
    refine (update_at (V (Proc.devRef .tc main_v69_7)) (res_main_while0b_v108 V) _ k (starts _ k h.ctr) j d b g p).trans ?_
    split
    · next e => subst e; exact next_re h d b g p
    · next e => exact h.lRe j d b g p (lt_of_le_of_ne (Nat.le_of_lt_succ hj) fun q => e (Fin.ext q))
  lIm j d b g p hj := by
    rw [STEP_main_v69_8]
    refine (update_at (V (Proc.devRef .tc main_v69_8)) (res_main_while0b_v114 V) _ k (starts _ k h.ctr) j d b g p).trans ?_
    split
    · next e => subst e; exact next_im h d b g p
    · next e => exact h.lIm j d b g p (lt_of_le_of_ne (Nat.le_of_lt_succ hj) fun q => e (Fin.ext q))

/-- After any number of steps. -/
theorem holds (h : Reads m c P) (k : ℕ) (hk : k ≤ 8192) : Holds P k (STEP^[k] (StableHlo.entryContents (preI (F := Ideal)) m c)) := by
  induction k with
  | zero => exact holds_zero h
  | succ k ih =>
    rw [Function.iterate_succ_apply']
    exact holds_succ (k := ⟨k, hk⟩) (ih (Nat.le_of_lt hk))

end Cert.SsmRefIdeal.Hand
-- ==== Proof.SsmRefOut.lean ====
/-
  The reference's output: the states of both directions through the output matrix, and the input passed on.
-/
module

public import proofs.«01_k».proof.Proof.SsmRefLoop
public import Idealize.ShloMosaic.Lib.TwoAxisContraction

@[expose] public section

set_option maxRecDepth 16384

noncomputable section

namespace Cert.SsmRefIdeal.Hand

open Idealize.ShloMosaic Idealize.ShloMosaic.Pipeline Cert.SsmRefIdeal Cert.SsmRefIdeal.Gen Cert.SsmRefIdeal.Value Ssm

/-- The product with the states of both directions. -/
def through (a : FVec Ideal S2x32x16x64 .f32) (x : FVec Ideal S8192x2x4x32x64 .f32) : FVec Ideal S32x16x8192x4 .f32 :=
  Host.dotGeneral dot_S2x32x16x64_S8192x2x4x32x64_S32x16x8192x4_03_14_2_02_1_3 none a x

/-- That product at an index. -/
theorem dot2_at (a : FVec Ideal S2x32x16x64 .f32) (x : FVec Ideal S8192x2x4x32x64 .f32) (g : Fin 32) (o : Fin 16) (L : Fin 8192) (b : Fin 4) :
    through a x (ix4 g o L b)
      = ∑ d : Fin 2, ∑ p : Fin 64, a (ix4 d g o p) * x (ix5 L d b g p) := by
  show FloatOps.dotGeneral _ _ _ a x _ = _
  rw [Ideal.dotGeneral_apply, ← Equiv.sum_comp (ValueIdx.contrEquiv2 dot_S2x32x16x64_S8192x2x4x32x64_S32x16x8192x4_03_14_2_02_1_3 2 64 rfl rfl rfl).symm,
    Fintype.sum_prod_type]
  refine Finset.sum_congr rfl fun d _ => Finset.sum_congr rfl fun p _ => ?_
  have h0 := ValueIdx.contrEquiv2_symm_val0 dot_S2x32x16x64_S8192x2x4x32x64_S32x16x8192x4_03_14_2_02_1_3 2 64 rfl rfl rfl (d, p)
  have h1 := ValueIdx.contrEquiv2_symm_val1 dot_S2x32x16x64_S8192x2x4x32x64_S32x16x8192x4_03_14_2_02_1_3 2 64 rfl rfl rfl (d, p)
  congr 1
  · congr 1
    funext ax; apply Fin.ext
    fin_cases ax
    · exact h0
    · rfl
    · rfl
    · exact h1
  · congr 1
    funext ax; apply Fin.ext
    fin_cases ax
    · rfl
    · exact h0
    · rfl
    · rfl
    · exact h1

/-- The output before it is put into rows: the input passed on plus the difference of the two products. -/
def total (a0 : FVec Ideal S32768x512 .bf16) (a8 : FVec Ideal S32x16 .f32) (x y : FVec Ideal S32x16x8192x4 .f32) : FVec Ideal S4x8192x32x16 .f32 :=
  addf (mulf (broadcastInDim S4x8192x32x16 ![0, 1, 2, 3] bcast_S1x1x32x16_S4x8192x32x16_0_1_2_3 (broadcastInDim S1x1x32x16 ![2, 3] bcast_S32x16_S1x1x32x16_2_3 a8))
      (shapeCast S4x8192x32x16 (extf .f32 a0 bitsLt_bf16_f32) shapeCasts_S32768x512_S4x8192x32x16))
    (subf (transpose S4x8192x32x16 [3, 2, 0, 1] x transposes_S32x16x8192x4_S4x8192x32x16_3_2_0_1)
      (transpose S4x8192x32x16 [3, 2, 0, 1] y transposes_S32x16x8192x4_S4x8192x32x16_3_2_0_1))

/-- The output in rows. -/
def rows (x : FVec Ideal S4x8192x32x16 .f32) : FVec Ideal S32x2048x256 .bf16 :=
  truncf .bf16 (shapeCast S32x2048x256 (transpose S32x2048x16x16 [2, 0, 1, 3] (shapeCast S2048x16x32x16 x shapeCasts_S4x8192x32x16_S2048x16x32x16)
    transposes_S2048x16x32x16_S32x2048x16x16_2_0_1_3) shapeCasts_S32x2048x16x16_S32x2048x256) bitsLt_bf16_f32

/-- The rows of the output: sequences and positions, sixteen positions to a row. -/
theorem rows_at (x : FVec Ideal S4x8192x32x16 .f32) (g : Fin 32) (r : Fin 2048) (q : Fin 256) :
    rows x (ix3 g r q)
      = x (ix4 ⟨r.val / 512, by omega⟩ ⟨16 * (r.val % 512) + q.val / 16, by omega⟩ g ⟨q.val % 16, by omega⟩) := by
  pointwise [rows]
  exact congrArg x (congrArg (fun k => ix4 _ k g _) (Fin.ext (congrArg (· + _) (Nat.mul_comm _ _))))

/-- The input passed on plus the difference of the two products, at an index. -/
theorem sum_at (a0 : FVec Ideal S32768x512 .bf16) (a8 : FVec Ideal S32x16 .f32) (x y : FVec Ideal S32x16x8192x4 .f32)
    (b : Fin 4) (L : Fin 8192) (g : Fin 32) (o : Fin 16) :
    total a0 a8 x y (ix4 b L g o)
      = a8 (ix2 g o) * a0 (ix2 ⟨b.val * 8192 + L.val, by omega⟩ ⟨g.val * 16 + o.val, by omega⟩) + (x (ix4 g o L b) - y (ix4 g o L b)) := by
  pointwise [total]

variable {m : (ℓ : Loc nD τ sig) → Buf (Elt Ideal) ℓ} {c : Dev nD} {P : Params} {V : Valuation τ sig (Elt Ideal)}

/-- The states of a position, both directions. -/
theorem states_re (h : Holds P 8192 V) (L : Fin 8192) (d : Fin 2) (b : Fin 4) (g : Fin 32) (p : Fin 64) :
    bothWays (V (Proc.devRef .tc main_v69_7)) (ix5 L d b g p) = (((state P d b g p L.val).re : ℝ) : EReal) := by
  rw [bothWays_at, h.lRe _ _ _ _ _ (Fin.isLt _), place, after, state]
  congr 4
  split <;> omega
theorem states_im (h : Holds P 8192 V) (L : Fin 8192) (d : Fin 2) (b : Fin 4) (g : Fin 32) (p : Fin 64) :
    bothWays (V (Proc.devRef .tc main_v69_8)) (ix5 L d b g p) = (((state P d b g p L.val).im : ℝ) : EReal) := by
  rw [bothWays_at, h.lIm _ _ _ _ _ (Fin.isLt _), place, after, state]
  congr 4
  split <;> omega

/-- The states through the output matrix: the real part of a complex product, summed. -/
theorem out_eq (P : Params) (b : Fin 4) (L : ℕ) (g : Fin 32) (o : Fin 16) :
    P.ds g o * P.u b L g o + ((∑ d, ∑ p, P.cr d g o p * (state P d b g p L).re) - ∑ d, ∑ p, P.ci d g o p * (state P d b g p L).im)
      = out P b L g o := by
  simp only [out, ← Finset.sum_sub_distrib, Complex.mul_re, C]

/-- The output in these words. -/
theorem out_rows (V : Valuation τ sig (Elt Ideal)) : out_main_v100 V = rows (total (V (Proc.devRef .tc main_arg0)) (V (Proc.devRef .tc main_arg8))
    (through (V (Proc.devRef .tc main_arg6)) (bothWays (V (Proc.devRef .tc main_v69_7))))
    (through (V (Proc.devRef .tc main_arg7)) (bothWays (V (Proc.devRef .tc main_v69_8))))) := rfl

/-- The output, at an index. -/
theorem output (h : Holds P 8192 V)
    (hr : Ssm.Reads P (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8))) (g : Fin 32) (r : Fin 2048) (q : Fin 256) :
    out_main_v100 V (ix3 g r q)
      = ((out P ⟨r.val / 512, by omega⟩ (16 * (r.val % 512) + q.val / 16) g ⟨q.val % 16, by omega⟩ : ℝ) : EReal) := by
  rw [out_rows, rows_at, sum_at]
  rw [dot2_at, dot2_at, hr.ds, hr.u _ _ _ _ (by omega)]
  simp only [states_re h, states_im h, hr.cr, hr.ci, ← EReal.coe_mul, sum_coe, ← EReal.coe_add, ← EReal.coe_sub]
  exact congrArg _ (out_eq P _ _ g _)

/-- The reference's result, at an index. -/
theorem final (h : Reads m c P) (g : Fin 32) (r : Fin 2048) (q : Fin 256) :
    out_main_v100 (STEP^[8192] (StableHlo.entryContents (preI (F := Ideal)) m c)) (ix3 g r q)
      = ((out P ⟨r.val / 512, by omega⟩ (16 * (r.val % 512) + q.val / 16) g ⟨q.val % 16, by omega⟩ : ℝ) : EReal) :=
  output (holds h 8192 le_rfl) (by
    rw [iter_main_arg0, iter_main_arg1, iter_main_arg2, iter_main_arg3, iter_main_arg4, iter_main_arg5, iter_main_arg6, iter_main_arg7, iter_main_arg8]
    exact h) g r q

end Cert.SsmRefIdeal.Hand
-- ==== Proof.SsmClaim.lean ====
/- THE EQUATION OF THE RECURRENCE. Kernel and reference, run from equal arguments that satisfy the precondition, end with
   equal results: both hold the output of the recurrence over the real numbers of the arguments. -/
module

public import proofs.«01_k».proof.Defs
public import proofs.«01_k».proof.Proof.SsmFinal
public import proofs.«01_k».proof.Proof.SsmPre
public import proofs.«01_k».proof.Proof.SsmRefOut

@[expose] public section

set_option maxRecDepth 16384

noncomputable section

namespace Cert.Proof

open Idealize.ShloMosaic Idealize.ShloMosaic.TcCoe Idealize.SL.Sem

/-- The real numbers in the kernel's argument arrays. -/
def ssmParams (m : (ℓ : Loc SsmIdeal.nD SsmIdeal.τ SsmIdeal.sig) → Buf (Elt Ideal) ℓ) (c : Dev SsmIdeal.nD) : _root_.Ssm.Params :=
  _root_.Ssm.Pre.params (m ((c.tc : Thread _ _).loc SsmIdeal.main_arg0)) (m ((c.tc : Thread _ _).loc SsmIdeal.main_arg1))
    (m ((c.tc : Thread _ _).loc SsmIdeal.main_arg2)) (m ((c.tc : Thread _ _).loc SsmIdeal.main_arg3)) (m ((c.tc : Thread _ _).loc SsmIdeal.main_arg4))
    (m ((c.tc : Thread _ _).loc SsmIdeal.main_arg5)) (m ((c.tc : Thread _ _).loc SsmIdeal.main_arg6)) (m ((c.tc : Thread _ _).loc SsmIdeal.main_arg7))
    (m ((c.tc : Thread _ _).loc SsmIdeal.main_arg8))

/-- `Cert.algebraic_SsmIdeal_SsmRefIdeal_pre_ssm_tame`: both programs run, and from equal arguments their two results are equal. -/
theorem ssm : Cert.algebraic_SsmIdeal_SsmRefIdeal_pre_ssm_tame (hSsmIdeal := SsmIdeal.Gen.facts) (hSsmRefIdeal := SsmRefIdeal.Gen.facts)
    (hPre_ssm_tame := _root_.Ssm.Pre.facts) := by
  intro m g m' g' hpre hargs
  haveI := _root_.Ssm.Pre.facts
  have hk : ∀ c, SsmIdeal.Hand.Reads m c (ssmParams m c) := fun c =>
    _root_.Ssm.Pre.reads (h := hpre c)
  refine ⟨fun c => SsmIdeal.Hand.result (ssmParams m c), ?_, ?_⟩
  · exact (θ_run SsmIdeal.defs _ _).mono (fun r h c => ⟨((h.1 c).1 5).trans (SsmIdeal.Hand.final5 (hk c)), h.2.1 c⟩)
      (θ_run_and (SsmIdeal.Hand.run_main m g) (SsmIdeal.Hand.unchanged m g))
  · refine (θ_run SsmRefIdeal.defs _ _).mono (fun r h c => ⟨(h c).1.trans ?_, (h c).2⟩) (SsmRefIdeal.Value.run (F := Ideal) m' g')
    obtain ⟨e0, e1, e2, e3, e4, e5, e6, e7, e8⟩ := hargs c
    have hr : SsmRefIdeal.Hand.Reads m' c (ssmParams m c) := by
      have := hk c
      unfold SsmRefIdeal.Hand.Reads
      rwa [e0, e1, e2, e3, e4, e5, e6, e7, e8]
    funext i
    idx_vars i
    exact SsmRefIdeal.Hand.final hr _ _ _

end Cert.Proof

end
-- ==== Proof.FftRun.lean ====
/-
  The run of the two transform calls: what the result array holds at its end is what the last host lines make of the second call's blocks.
-/
module

public import proofs.«01_k».proof.Proof.Gen.FftIdeal.Frame

@[expose] public section

set_option maxRecDepth 16384

noncomputable section

namespace Cert.FftIdeal.Hand

open Cert.FftIdeal Cert.FftIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, its result array ends at what the host leaves in it after the second call, and its argument as it was. -/
theorem run_ends : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v58 (by decide)),
      (h c _ (mem_uc main_arg0 (by decide))).trans (W5_main_arg0 m ρ c)⟩)

end Cert.FftIdeal.Hand

end
-- ==== Proof.FftBlocks.lean ====
/-
  The two transform calls' arrays: what each call leaves in its result, from the arrays it is given.
-/
module

public import proofs.«01_k».proof.Proof.Gen.FftIdeal.Frame
public import Idealize.ShloMosaic.Lib.Pipeline.ValueKit
public import Idealize.ShloMosaic.Lib.Pointwise

@[expose] public section

set_option maxRecDepth 16384

noncomputable section

namespace Cert.FftIdeal.Array

open Cert.FftIdeal Cert.FftIdeal.Gen Idealize.ShloMosaic Idealize.ShloMosaic.TcCoe Idealize.ShloMosaic.Pipeline Idealize.SL.Sem

/-- The first call: a matrix times each sequence's 64 rows. -/
def small (w : S128x64.Idx → EReal) (u : S4x64x65536.Idx → EReal) (i : S4x128x65536.Idx) : EReal :=
  ∑ n : Fin 64, w (ix2 (i 1) n) * u (ix3 (i 0) n (i 2))

/-- The second call: for each of the 64 frequencies a matrix times its 256 rows. -/
def large (w : S64x256x256.Idx → EReal) (y : S4x64x256x512.Idx → EReal) (i : S4x64x256x512.Idx) : EReal :=
  ∑ q : Fin 256, w (ix3 (i 1) (i 2) q) * y (ix4 (i 0) (i 1) q (i 3))

/-- The block the first call stores. -/
theorem small_at (w : FVec Ideal S128x64 .bf16) (u : FVec Ideal S1x64x8192 .bf16) (z : Fin 1) (r : Fin 128) (j : Fin 8192) :
    k0_pay1 (F := Ideal) w u (ix3 z r j) = ∑ n : Fin 64, (w (ix2 r n) * u (ix3 0 n j) : EReal) := by
  pointwise [k0_pay1]

/-- The blocks the second call stores. -/
theorem large_at (w : FVec Ideal S1x256x256 .bf16) (y : FVec Ideal S1x1x256x512 .bf16) (z z' : Fin 1) (r : Fin 256) (j : Fin 512) :
    k1_pay3 (F := Ideal) w y (ix4 z z' r j) = ∑ q : Fin 256, (w (ix3 0 r q) * y (ix4 0 0 q j) : EReal) := by
  pointwise [k1_pay3]

/-- Which block each window stages at a grid point. -/
theorem idx0 : ∀ t : Fin cfg0.N, win0_0.index t = ![0, 0] ∧ win0_1.index t = ![t.val / 8, 0, t.val % 8] ∧ win0_2.index t = ![t.val / 8, 0, t.val % 8] :=
  (by decide +kernel : ∀ t : Fin grid0.N, _)
theorem idx1 : ∀ t : Fin cfg1.N, win1_0.index t = ![t.val % 16, 0, 0] ∧ win1_1.index t = ![t.val / 16, t.val % 16, 0, 0] ∧ win1_2.index t = ![t.val / 16, t.val % 16, 0, 0] :=
  (by decide +kernel : ∀ t : Fin grid1.N, _)

variable (V : (c : Dev nD) → (b : Ref sig .tc) → Buf (Elt Ideal) ((c : Thread nD τ).loc b))

/-- The sequence and the columns of a point of the first call. -/
def seq0 (t : Fin cfg0.N) : Fin 4 := ⟨t.val / 8, by have := t.isLt; have h : cfg0.N = 32 := rfl; omega⟩
def col0 (t : Fin cfg0.N) (j : Fin 8192) : Fin 65536 := ⟨t.val % 8 * 8192 + j.val, by omega⟩

theorem blk0_0 (c : Dev nD) (t : Fin cfg0.N) (r : Fin 128) (n : Fin 64) : iblk0 V c 0 t (ix2 r n) = V c main_v50 (ix2 r n) := by
  blk_ext [iblk0, idx0 t]
theorem blk0_1 (c : Dev nD) (t : Fin cfg0.N) (n : Fin 64) (j : Fin 8192) : iblk0 V c 1 t (ix3 0 n j) = V c main_v52 (ix3 (seq0 t) n (col0 t j)) := by
  blk_ext [iblk0, idx0 t, seq0, col0]

/-- The first call's result. -/
theorem final0 (c : Dev nD) : (dat0 (F := Ideal) V c).arrAt 2 cfg0.N = small (V c main_v50) (V c main_v52) := by
  refine (dat0 (F := Ideal) V c).arrAt_eq_of_covers 2 _ (by decide +kernel) fun t _ y => ?_
  blk_simp
  rw [after0_2]
  frame_out
  idx_vars y
  have e0 : ((View.whole main_v53).slice (win0_2.rect t)).emb (ix3 y0 y1 y2) = ix3 (seq0 t) y1 (col0 t y2) := by
    blk_ext [idx0 t, seq0, col0]
  refine (small_at _ _ y0 y1 y2).trans ?_
  simp only [blk0_0, blk0_1, small, e0]
  rfl

/-- Four matrices, each times its rows. -/
def four (x : FVec Ideal S4x256x256 .bf16) (y : FVec Ideal S1x4x256x512 .bf16) (i : S1x4x256x512.Idx) : Elt Ideal .bf16 :=
  (∑ q : Fin 256, x (ix3 (i 1) (i 2) q) * y (ix4 0 (i 1) q (i 3)) : EReal)

/-- The block of four the second call stores. -/
theorem four_at (x : FVec Ideal S4x256x256 .bf16) (y : FVec Ideal S1x4x256x512 .bf16) (i : S1x4x256x512.Idx) :
    out1_2 (F := Ideal) x y i = four x y i := by
  unfold out1_2
  refine View.canon_apply_of_pieces (four x y) _ (fun p hp j => ?_) i (cover1_2 _ _ _ _ i)
  simp only [List.mem_cons, List.mem_nil_iff, or_false] at hp
  rcases hp with rfl | rfl | rfl | rfl
  all_goals
    idx_vars j
    refine (large_at _ _ j0 j1 j2 j3).trans ?_
    refine Finset.sum_congr rfl fun q _ => ?_
    refine congrArg₂ (fun a b : EReal => a * b) (congrArg x ?_) (congrArg y ?_)
    · funext ax; apply Fin.ext
      fin_cases ax <;> simp [Rect.emb_apply] <;> omega
    · funext ax; apply Fin.ext
      fin_cases ax <;> simp [Rect.emb_apply] <;> omega

/-- The sequence and the frequency of a point of the second call. -/
def seq1 (t : Fin cfg1.N) : Fin 4 := ⟨t.val / 16, by have := t.isLt; have h : cfg1.N = 64 := rfl; omega⟩
def freq1 (t : Fin cfg1.N) (j : Fin 4) : Fin 64 := ⟨t.val % 16 * 4 + j.val, by omega⟩

theorem blk1_0 (c : Dev nD) (t : Fin cfg1.N) (j : Fin 4) (r q : Fin 256) : iblk1 V c 0 t (ix3 j r q) = V c main_v51 (ix3 (freq1 t j) r q) := by
  blk_ext [iblk1, idx1 t, freq1]
theorem blk1_1 (c : Dev nD) (t : Fin cfg1.N) (j : Fin 4) (q : Fin 256) (l : Fin 512) : iblk1 V c 1 t (ix4 0 j q l) = V c main_v54 (ix4 (seq1 t) (freq1 t j) q l) := by
  blk_ext [iblk1, idx1 t, seq1, freq1]

/-- The second call's result. -/
theorem final1 (c : Dev nD) : (dat1 (F := Ideal) V c).arrAt 2 cfg1.N = large (V c main_v51) (V c main_v54) := by
  refine (dat1 (F := Ideal) V c).arrAt_eq_of_covers 2 _ (by decide +kernel) fun t _ y => ?_
  blk_simp
  rw [after1_2]
  idx_vars y
  have e0 : ((View.whole main_v55).slice (win1_2.rect t)).emb (ix4 y0 y1 y2 y3) = ix4 (seq1 t) (freq1 t y1) y2 y3 := by
    blk_ext [idx1 t, seq1, freq1]
  refine (four_at _ _ (ix4 y0 y1 y2 y3)).trans ?_
  rw [four, e0, large]
  refine Finset.sum_congr rfl fun q _ => ?_
  exact congrArg₂ (fun a b : EReal => a * b) (blk1_0 V c t y1 y2 q) (blk1_1 V c t y1 q y3)

end Cert.FftIdeal.Array

end
-- ==== Proof.FftMath.lean ====
/-
  The discrete Fourier transform over 8192 positions, and its factoring into a transform over 64 positions 128 apart,
  a turn, and a transform over 128 positions.
-/
module

public import proofs.«01_k».proof.Proof.SsmReads

@[expose] public section

noncomputable section

namespace Fft

/-- The angle of `k / n` turns, whole turns taken off. -/
def angle (n k : ℕ) : ℝ := 2 * Real.pi * (((k % n : ℕ) : ℝ) * (n : ℝ)⁻¹)

/-- Row `2 k + w` of the first table is the real (`w = 0`) or imaginary part of frequency `k` at position `l`. -/
def first (row l : ℕ) : ℝ := if row % 2 = 0 then Real.cos (angle 64 (row / 2 * l)) else -Real.sin (angle 64 (row / 2 * l))

/-- The second table: for each `k` a matrix over real and imaginary halves of 128. -/
def second (k row col : ℕ) : ℝ :=
  if row < 128 then
    if col < 128 then Real.cos (angle 8192 ((k + 64 * (row % 128)) * (col % 128))) else Real.sin (angle 8192 ((k + 64 * (row % 128)) * (col % 128)))
  else
    if col < 128 then -Real.sin (angle 8192 ((k + 64 * (row % 128)) * (col % 128))) else Real.cos (angle 8192 ((k + 64 * (row % 128)) * (col % 128)))

/-- The transform of `u` at frequency `f`: its real part (`z = 0`) or its imaginary part. -/
def dft (u : ℕ → ℝ) (z f : ℕ) : ℝ :=
  ∑ l : Fin 8192, (if z = 0 then Real.cos (angle 8192 (f * l.val)) else -Real.sin (angle 8192 (f * l.val))) * u l.val

/-- The first step, at row `row` and column `n` of the 128. -/
def step (u : ℕ → ℝ) (row n : ℕ) : ℝ := ∑ l : Fin 64, first row l.val * u (l.val * 128 + n)

/-- The second step over the first. -/
def steps (u : ℕ → ℝ) (k row : ℕ) : ℝ := ∑ q : Fin 256, second k row q.val * step u (2 * k + q.val / 128) (q.val % 128)

/-- An angle is its turns, whole turns aside. -/
theorem turns (n k : ℕ) (hn : n ≠ 0) : 2 * Real.pi * ((k : ℝ) / n) = angle n k + ((k / n : ℕ) : ℝ) * (2 * Real.pi) := by
  have h : ((n * (k / n) + k % n : ℕ) : ℝ) = (k : ℝ) := by rw [Nat.div_add_mod]
  have hn' : (n : ℝ) ≠ 0 := by exact_mod_cast hn
  push_cast at h
  rw [angle, ← h]
  push_cast
  field_simp
  ring

theorem cos_angle (n k : ℕ) (hn : n ≠ 0) : Real.cos (angle n k) = Real.cos (2 * Real.pi * ((k : ℝ) / n)) := by
  rw [turns n k hn, Real.cos_add_nat_mul_two_pi]
theorem sin_angle (n k : ℕ) (hn : n ≠ 0) : Real.sin (angle n k) = Real.sin (2 * Real.pi * ((k : ℝ) / n)) := by
  rw [turns n k hn, Real.sin_add_nat_mul_two_pi]

/-- The angle at position `128 l + n` of frequency `k + 64 j`: the turn, the small transform's angle and whole turns. -/
theorem split (k j l n : ℕ) : 2 * Real.pi * (((k + 64 * j) * (l * 128 + n) : ℕ) / (8192 : ℕ)) =
    2 * Real.pi * (((k + 64 * j) * n : ℕ) / (8192 : ℕ)) + 2 * Real.pi * ((k * l : ℕ) / (64 : ℕ)) + ((j * l : ℕ) : ℝ) * (2 * Real.pi) := by
  push_cast
  ring

theorem cos_split (k j l n : ℕ) : Real.cos (angle 8192 ((k + 64 * j) * (l * 128 + n))) =
    Real.cos (angle 8192 ((k + 64 * j) * n)) * Real.cos (angle 64 (k * l)) - Real.sin (angle 8192 ((k + 64 * j) * n)) * Real.sin (angle 64 (k * l)) := by
  simp only [cos_angle _ _ (show 8192 ≠ 0 by decide), cos_angle _ _ (show 64 ≠ 0 by decide), sin_angle _ _ (show 8192 ≠ 0 by decide), sin_angle _ _ (show 64 ≠ 0 by decide)]
  rw [split, Real.cos_add_nat_mul_two_pi, Real.cos_add]
theorem sin_split (k j l n : ℕ) : Real.sin (angle 8192 ((k + 64 * j) * (l * 128 + n))) =
    Real.sin (angle 8192 ((k + 64 * j) * n)) * Real.cos (angle 64 (k * l)) + Real.cos (angle 8192 ((k + 64 * j) * n)) * Real.sin (angle 64 (k * l)) := by
  simp only [cos_angle _ _ (show 8192 ≠ 0 by decide), cos_angle _ _ (show 64 ≠ 0 by decide), sin_angle _ _ (show 8192 ≠ 0 by decide), sin_angle _ _ (show 64 ≠ 0 by decide)]
  rw [split, Real.sin_add_nat_mul_two_pi, Real.sin_add]

/-- A sum over 8192 positions as 64 runs of 128. -/
theorem sum_positions (f : ℕ → ℝ) : ∑ l : Fin 8192, f l.val = ∑ n : Fin 128, ∑ l : Fin 64, f (l.val * 128 + n.val) := by
  rw [Finset.sum_comm, ← Fintype.sum_prod_type', ← Equiv.sum_comp (finProdFinEquiv (m := 64) (n := 128))]
  refine Finset.sum_congr rfl fun p _ => ?_
  congr 1
  rw [finProdFinEquiv_apply_val]
  ring

/-- The two halves of 256. -/
theorem sum_halves (f : ℕ → ℝ) : ∑ q : Fin 256, f q.val = ∑ n : Fin 128, (f n.val + f (128 + n.val)) := by
  rw [Finset.sum_add_distrib]
  exact Fin.sum_univ_add (a := 128) (b := 128) fun q => f q.val

/-- The two steps are the transform. -/
theorem steps_eq (u : ℕ → ℝ) (k row : ℕ) (hr : row < 256) : steps u k row = dft u (row / 128) (k + 64 * (row % 128)) := by
  have h1 : ∀ n : Fin 128, n.val / 128 = 0 ∧ n.val % 128 = n.val ∧ (128 + n.val) / 128 = 1 ∧ (128 + n.val) % 128 = n.val ∧ ¬ 128 + n.val < 128 := fun n => by omega
  have h2 : 2 * k % 2 = 0 ∧ 2 * k / 2 = k ∧ (2 * k + 1) % 2 = 1 ∧ (2 * k + 1) / 2 = k := by omega
  unfold steps dft
  rw [sum_halves fun q => second k row q * step u (2 * k + q / 128) (q % 128),
    sum_positions fun l => (if row / 128 = 0 then Real.cos (angle 8192 ((k + 64 * (row % 128)) * l)) else -Real.sin (angle 8192 ((k + 64 * (row % 128)) * l))) * u l]
  refine Finset.sum_congr rfl fun n _ => ?_
  obtain ⟨q1, q2, q3, q4, q5⟩ := h1 n
  obtain ⟨k1, k2, k3, k4⟩ := h2
  simp only [step, first, second, q1, q2, q3, q4, q5, k1, k2, k3, k4, n.isLt, if_true, if_false, add_zero, one_ne_zero, Finset.mul_sum, cos_split, sin_split, ← Finset.sum_add_distrib]
  refine Finset.sum_congr rfl fun l _ => ?_
  by_cases h : row < 128
  · rw [if_pos h, if_pos h, if_pos (by omega)]
    ring
  · rw [if_neg h, if_neg h, if_neg (by omega)]
    ring

end Fft

end
-- ==== Proof.FftAngle.lean ====
/-
  The angle as the two programs compute it: the position times the frequency, whole turns taken off by the remainder of
  words, over the length, times eight times the arc tangent of one.
-/
module

public import proofs.«01_k».proof.Proof.FftMath
public import proofs.«01_k».proof.Proof.SsmReads
public import Idealize.ShloMosaic.Lib.Affine

@[expose] public section

noncomputable section

namespace Fft

open Idealize.ShloMosaic

/-- The remainder of a small word, read as a number. -/
theorem rem_coe (n k : ℕ) (hn : 0 < n) (hn' : n < 2 ^ 30) (hk : k < 2 ^ 30) :
    (FloatOps.sitofp (F := Ideal) .f32 (IntOp.remsi .host (BitVec.ofNat 32 k) (BitVec.ofNat 32 n)) : EReal) = (((k % n : ℕ) : ℝ) : EReal) := by
  have h1 : (BitVec.ofNat 32 k).toNat = k := by rw [BitVec.toNat_ofNat, Nat.mod_eq_of_lt (by omega)]
  have h2 : (IntOp.remsi .host (BitVec.ofNat 32 k) (BitVec.ofNat 32 n)).toNat = k % n :=
    (IntOp.toNat_remsi .host (x := BitVec.ofNat 32 k) (by omega) n hn (by omega)).trans (by rw [h1])
  have h3 : k % n < n := Nat.mod_lt _ hn
  show ((((IntOp.remsi .host (BitVec.ofNat 32 k) (BitVec.ofNat 32 n)).toInt : ℝ)) : EReal) = _
  rw [BitVec.toInt_eq_toNat_of_lt (by omega), h2, Int.cast_natCast]

/-- Eight and the two lengths. -/
theorem eight_coe : Ideal.ofBits .f32 1090519040#32 = ((8 : ℝ) : EReal) := by
  simp [Ideal.ofBits, Ideal.ieee]
  rw [← EReal.coe_mul]
  norm_num

theorem sixtyfour_coe : Ideal.ofBits .f32 1115684864#32 = (((64 : ℕ) : ℝ) : EReal) := by
  simp [Ideal.ofBits, Ideal.ieee]
  rw [← EReal.coe_mul]
  norm_num
theorem eightk_coe : Ideal.ofBits .f32 1174405120#32 = (((8192 : ℕ) : ℝ) : EReal) := by
  simp [Ideal.ofBits, Ideal.ieee]
  rw [← EReal.coe_mul]
  norm_num

/-- The computed angle. -/
theorem angle_coe (n k : ℕ) (e w : EReal) (r : BitVec 32) (he : e = ((n : ℝ) : EReal)) (hr : r = BitVec.ofNat 32 n) (x : BitVec 32) (hx : x = BitVec.ofNat 32 k)
    (hn : 0 < n) (hn' : n < 2 ^ 30) (hk : k < 2 ^ 30) (hw : w = 1) :
    Ideal.ofBits .f32 1090519040#32 * Ideal.atan w * Ideal.div (FloatOps.sitofp (F := Ideal) .f32 (IntOp.remsi .host x r) : EReal) e = ((angle n k : ℝ) : EReal) := by
  subst he hr hx hw
  rw [rem_coe n k hn hn' hk, Ssm.div_coe _ (by exact_mod_cast hn.ne'), eight_coe, ← EReal.coe_one, Ideal.atan_coe, Real.arctan_one, ← EReal.coe_mul, ← EReal.coe_mul, angle]
  congr 1
  ring

end Fft

end
-- ==== Proof.FftTables.lean ====
/-
  What the host computes before the first call: the two tables of cosines and sines, and the sequences laid out in rows.
-/
module

public import proofs.«01_k».proof.Proof.FftAngle
public import proofs.«01_k».proof.Proof.Gen.FftIdeal.Frame
public import Idealize.ShloMosaic.Lib.StableHlo.ReadAt
public import Idealize.ShloMosaic.Lib.IdealHost
public import Idealize.ShloMosaic.Lib.Pipeline.ValueKit
public import Idealize.ShloMosaic.Lib.Pointwise

@[expose] public section

set_option maxRecDepth 16384

noncomputable section

namespace Cert.FftIdeal.Hand

open Cert.FftIdeal Cert.FftIdeal.Gen Idealize.ShloMosaic Idealize.ShloMosaic.TcCoe Idealize.ShloMosaic.Pipeline Fft

variable (m : (ℓ : Loc nD τ sig) → Buf (Elt Ideal) ℓ) (c : Dev nD)

/-- What a buffer holds when the first call starts. -/
def entry (r : Ref sig .tc) : (Proc.devRef (τ := τ) .tc r).ty.Contents (Elt Ideal) :=
  StableHlo.after hostOps0 (fun b => m (c, b)) (Proc.devRef .tc r)

/-- The small table's angles. -/
theorem cos_small (k l : Fin 64) : entry m c main_v15 (ix2 k l) = ((Real.cos (angle 64 (k.val * l.val)) : ℝ) : EReal) := by
  rw [← Ssm.cos_coe]
  unfold entry
  after_reads_at
  exact congrArg Ideal.cos (angle_coe 64 (k.val * l.val) _ _ _ sixtyfour_coe rfl _ (BitVec.ofNat_mul ..).symm (by omega) (by omega) (by have := k.isLt; have := l.isLt; nlinarith) rfl)
theorem sin_small (k l : Fin 64) : entry m c main_v17 (ix2 k l) = ((-Real.sin (angle 64 (k.val * l.val)) : ℝ) : EReal) := by
  rw [EReal.coe_neg, ← Ssm.sin_coe]
  unfold entry
  after_reads_at
  exact congrArg (fun x => -Ideal.sin x) (angle_coe 64 (k.val * l.val) _ _ _ sixtyfour_coe rfl _ (BitVec.ofNat_mul ..).symm (by omega) (by omega) (by have := k.isLt; have := l.isLt; nlinarith) rfl)

/-- The large table's angles. -/
theorem large_word (k : Fin 64) (f n : Fin 128) :
    IntOp.muli (IntOp.addi (BitVec.ofNat 32 k.val) (IntOp.muli 64#32 (BitVec.ofNat 32 f.val))) (BitVec.ofNat 32 n.val)
      = BitVec.ofNat 32 ((k.val + 64 * f.val) * n.val) := by
  simp only [IntOp.muli, IntOp.addi, BitVec.ofNat_mul, BitVec.ofNat_add]
theorem large_small (k : Fin 64) (f n : Fin 128) : (k.val + 64 * f.val) * n.val < 2 ^ 30 := by
  have := k.isLt; have := f.isLt; have := n.isLt
  nlinarith
theorem cos_large (k : Fin 64) (f n : Fin 128) : entry m c main_v43 (ix3 k f n) = ((Real.cos (angle 8192 ((k.val + 64 * f.val) * n.val)) : ℝ) : EReal) := by
  rw [← Ssm.cos_coe]
  unfold entry
  after_reads_at
  exact congrArg Ideal.cos (angle_coe 8192 _ _ _ _ eightk_coe rfl _ (large_word k f n) (by omega) (by omega) (large_small k f n) rfl)
theorem sin_large (k : Fin 64) (f n : Fin 128) : entry m c main_v45 (ix3 k f n) = ((-Real.sin (angle 8192 ((k.val + 64 * f.val) * n.val)) : ℝ) : EReal) := by
  rw [EReal.coe_neg, ← Ssm.sin_coe]
  unfold entry
  after_reads_at
  exact congrArg (fun x => -Ideal.sin x) (angle_coe 8192 _ _ _ _ eightk_coe rfl _ (large_word k f n) (by omega) (by omega) (large_small k f n) rfl)
theorem sin_large' (k : Fin 64) (f n : Fin 128) : entry m c main_v46 (ix3 k f n) = ((Real.sin (angle 8192 ((k.val + 64 * f.val) * n.val)) : ℝ) : EReal) := by
  rw [← neg_neg (Real.sin _), EReal.coe_neg, ← sin_large m c]
  unfold entry
  after_reads_at

/-- Two tables row by row in turns. -/
theorem turns_at (a b : S64x1x64.Idx → EReal) (k l : Fin 64) (row : Fin 128) (h : row.val / 2 = k.val) :
    shapeCast S128x64 (concatenate S64x2x64 1 [⟨S64x1x64, a⟩, ⟨S64x1x64, b⟩] concatenates_S64x1x64_S64x1x64_S64x2x64_d1) shapeCasts_S64x2x64_S128x64 (ix2 row l)
      = if row.val % 2 = 0 then a (ix3 k 0 l) else b (ix3 k 0 l) := by
  pointwise
  by_cases h1 : row.val % 2 < 1
  · exact (dif_pos h1).trans ((congrArg a (congrArg₂ (fun x z => ix3 x z l) (Fin.ext h) (Subsingleton.elim _ _))).trans (if_pos (by omega)).symm)
  · exact (dif_neg h1).trans ((congrArg b (congrArg₂ (fun x z => ix3 x z l) (Fin.ext h) (Subsingleton.elim _ _))).trans (if_neg (by omega)).symm)
/-- Two tables one after the other, along the columns and along the rows. -/
theorem beside_at (a b : S64x128x128.Idx → EReal) (k : Fin 64) (r : Fin 128) (q : Fin 256) :
    concatenate S64x128x256 2 [⟨S64x128x128, a⟩, ⟨S64x128x128, b⟩] concatenates_S64x128x128_S64x128x128_S64x128x256_d2 (ix3 k r q)
      = if q.val < 128 then a (ix3 k r ⟨q.val % 128, Nat.mod_lt _ (by omega)⟩) else b (ix3 k r ⟨q.val % 128, Nat.mod_lt _ (by omega)⟩) := by
  pointwise
  by_cases h1 : q.val < 128
  · have e : (⟨q.val, by omega⟩ : Fin 128) = ⟨q.val % 128, by omega⟩ := Fin.ext (by show q.val = q.val % 128; omega)
    exact (dif_pos h1).trans ((congrArg (fun z => a (ix3 k r z)) e).trans (if_pos h1).symm)
  · have e : (⟨q.val - 128, by omega⟩ : Fin 128) = ⟨q.val % 128, by omega⟩ := Fin.ext (by show q.val - 128 = q.val % 128; omega)
    exact (dif_neg h1).trans ((congrArg (fun z => b (ix3 k r z)) e).trans (if_neg h1).symm)
theorem below_at (a b : S64x128x256.Idx → EReal) (k : Fin 64) (r q : Fin 256) :
    concatenate S64x256x256 1 [⟨S64x128x256, a⟩, ⟨S64x128x256, b⟩] concatenates_S64x128x256_S64x128x256_S64x256x256_d1 (ix3 k r q)
      = if r.val < 128 then a (ix3 k ⟨r.val % 128, Nat.mod_lt _ (by omega)⟩ q) else b (ix3 k ⟨r.val % 128, Nat.mod_lt _ (by omega)⟩ q) := by
  pointwise
  by_cases h1 : r.val < 128
  · have e : (⟨r.val, by omega⟩ : Fin 128) = ⟨r.val % 128, by omega⟩ := Fin.ext (by show r.val = r.val % 128; omega)
    exact (dif_pos h1).trans ((congrArg (fun z => a (ix3 k z q)) e).trans (if_pos h1).symm)
  · have e : (⟨r.val - 128, by omega⟩ : Fin 128) = ⟨r.val % 128, by omega⟩ := Fin.ext (by show r.val - 128 = r.val % 128; omega)
    exact (dif_neg h1).trans ((congrArg (fun z => b (ix3 k z q)) e).trans (if_neg h1).symm)

/-- The tables. -/
theorem rows_at (row : Fin 128) (l : Fin 64) : entry m c main_v50 (ix2 row l) = ((first row.val l.val : ℝ) : EReal) := by
  have hk : row.val / 2 < 64 := by omega
  have e : entry m c main_v50 (ix2 row l) = if row.val % 2 = 0 then entry m c main_v15 (ix2 ⟨row.val / 2, hk⟩ l) else entry m c main_v17 (ix2 ⟨row.val / 2, hk⟩ l) := by
    unfold entry
    after_reads_simp
    refine (turns_at _ _ ⟨row.val / 2, hk⟩ l row rfl).trans ?_
    split_ifs <;> after_reads_at
  rw [e, first, cos_small, sin_small]
  split_ifs <;> rfl
theorem pairs_at (k : Fin 64) (r q : Fin 256) : entry m c main_v51 (ix3 k r q) = ((second k.val r.val q.val : ℝ) : EReal) := by
  have hr : r.val % 128 < 128 := Nat.mod_lt _ (by omega)
  have hq : q.val % 128 < 128 := Nat.mod_lt _ (by omega)
  have e : entry m c main_v51 (ix3 k r q)
      = if r.val < 128 then (if q.val < 128 then entry m c main_v43 (ix3 k ⟨_, hr⟩ ⟨_, hq⟩) else entry m c main_v46 (ix3 k ⟨_, hr⟩ ⟨_, hq⟩))
        else if q.val < 128 then entry m c main_v45 (ix3 k ⟨_, hr⟩ ⟨_, hq⟩) else entry m c main_v43 (ix3 k ⟨_, hr⟩ ⟨_, hq⟩) := by
    unfold entry
    after_reads_simp
    refine (below_at _ _ k r q).trans ?_
    refine if_congr Iff.rfl ?_ ?_
    · after_reads_simp
      refine (beside_at _ _ k _ q).trans ?_
      split_ifs <;> after_reads_at
    · after_reads_simp
      refine (beside_at _ _ k _ q).trans ?_
      split_ifs <;> after_reads_at
  rw [e, second, cos_large, sin_large, sin_large']
  split_ifs <;> rfl

/-- The sequences in rows. -/
theorem sequences_at (b : Fin 4) (n : Fin 64) (j : Fin 65536) (x : Fin 32768) (y : Fin 512) (hx : x.val = b.val * 8192 + n.val * 128 + j.val / 512) (hy : y.val = j.val % 512) :
    entry m c main_v52 (ix3 b n j) = m (c, Proc.devRef .tc main_arg0) (ix2 x y) := by
  unfold entry
  after_reads_at
  exact congrArg (m (c, Proc.devRef .tc main_arg0)) (congrArg₂ ix2 (Fin.ext hx.symm) (Fin.ext hy.symm))

end Cert.FftIdeal.Hand

end
-- ==== Proof.FftPre.lean ====
/-
  The sequences as real numbers, which the precondition makes them, and the transform of them.
-/
module

public import proofs.«01_k».proof.Pre_fft_tame
public import proofs.«01_k».proof.Proof.SsmPre
public import proofs.«01_k».proof.Proof.FftMath
public import Idealize.ShloMosaic.Lib.Pipeline.ValueKit

@[expose] public section

set_option maxRecDepth 16384

noncomputable section

namespace Fft

open Idealize.ShloMosaic Cert.Pre_fft_tame

/-- The shapes the precondition's operations relate. -/
theorem pre_facts : Cert.Pre_fft_tame.Facts where
  bcast_S_S32768x512 := by decide

/-- Column `c` of sequence `b`, position by position. -/
def column (a : S32768x512.Idx → EReal) (b : Fin 4) (c : Fin 512) (l : ℕ) : ℝ :=
  if h : l < 8192 then (a (ix2 ⟨b.val * 8192 + l, by omega⟩ c)).toReal else 0

/-- The real (`z = 0`) or imaginary part at frequency `row mod 8192` of sequence `row div 8192`. -/
def transform (a : S32768x512.Idx → EReal) (z : Fin 2) (row : Fin 32768) (c : Fin 512) : EReal :=
  ((dft (column a ⟨row.val / 8192, by omega⟩ c) z.val (row.val % 8192) : ℝ) : EReal)

/-- Every entry the precondition holds of is a real number. -/
theorem column_coe [Cert.Pre_fft_tame.Facts] (a : FVec Ideal S32768x512 .bf16) (h : Cert.Pre_fft_tame.fn (F := Ideal) a = fun _ => 1#1)
    (b : Fin 4) (c : Fin 512) (l : ℕ) (x : Fin 32768) (hx : x.val = b.val * 8192 + l) (hl : l < 8192) : a (ix2 x c) = ((column a b c l : ℝ) : EReal) := by
  have e : x = ⟨b.val * 8192 + l, by omega⟩ := Fin.ext hx
  rw [column, dif_pos hl, ← e]
  exact Ssm.Pre.real_of a _ (fun _ => Ssm.Pre.inf_bf16) _ (congrFun h _)

end Fft

end
-- ==== Proof.FftValue.lean ====
/-
  The kernel's result: the two calls' steps together are the transform.
-/
module

public import proofs.«01_k».proof.Proof.FftRun
public import proofs.«01_k».proof.Proof.FftBlocks
public import proofs.«01_k».proof.Proof.FftTables
public import proofs.«01_k».proof.Proof.FftPre

@[expose] public section

set_option maxRecDepth 16384

noncomputable section

namespace Cert.FftIdeal.Hand

open Cert.FftIdeal Cert.FftIdeal.Gen Idealize.ShloMosaic Idealize.ShloMosaic.TcCoe Idealize.ShloMosaic.Pipeline Idealize.SL.Sem Fft

/-- The second product of real numbers. -/
theorem large_real (w : S64x256x256.Idx → EReal) (y : S4x64x256x512.Idx → EReal) (b : Fin 4) (k : Fin 64) (r : Fin 256) (x : Fin 512) (f g : Fin 256 → ℝ)
    (hw : ∀ q, w (ix3 k r q) = ((f q : ℝ) : EReal)) (hy : ∀ q, y (ix4 b k q x) = ((g q : ℝ) : EReal)) :
    Array.large w y (ix4 b k r x) = ((∑ q, f q * g q : ℝ) : EReal) := by
  rw [← Ssm.sum_coe]
  refine Finset.sum_congr rfl fun q _ => ?_
  rw [EReal.coe_mul, ← hw, ← hy]
  rfl

variable (m : (ℓ : Loc nD τ sig) → Buf (Elt Ideal) ℓ) (ρ : Dev nD → PrngReg) (c : Dev nD)

/-- The first call's results, laid out for the second. -/
theorem between (b : Fin 4) (k : Fin 64) (q : Fin 256) (x : Fin 512) :
    V3 m ρ c main_v54 (ix4 b k q x) = Array.small (entry m c main_v50) (entry m c main_v52)
      (ix3 b ⟨2 * k.val + q.val / 128, by omega⟩ ⟨q.val % 128 * 512 + x.val, by omega⟩) := by
  have e : W2 m ρ c (Proc.devRef .tc main_v53) = Array.small (entry m c main_v50) (entry m c main_v52) := (W2_arr m ρ c 2).trans (Array.final0 (V1 m ρ) c)
  rw [← e]
  show StableHlo.after hostOps1 (W2 m ρ c) (Proc.devRef .tc main_v54) _ = _
  after_reads_at
  exact congrArg (W2 m ρ c (Proc.devRef .tc main_v53)) (congrArg (fun z => ix3 b z _) (Fin.ext (by show k.val * 2 + q.val / 128 = 2 * k.val + q.val / 128; omega)))

/-- The second table is still there when the second call starts. -/
theorem kept : V3 m ρ c main_v51 = entry m c main_v51 :=
  (W3_of m ρ c main_v51 (by decide)).trans (W2_of m ρ c main_v51 (by decide))

variable [Cert.Pre_fft_tame.Facts] (h : Cert.Pre_fft_tame.fn (F := Ideal) (m ((c.tc : Thread nD τ).loc main_arg0)) = fun _ => 1#1)
include h

/-- The first call's result at an index. -/
theorem small_step (b : Fin 4) (row : Fin 128) (n : Fin 128) (x : Fin 512) (j : Fin 65536) (hj : j.val = n.val * 512 + x.val) :
    Array.small (entry m c main_v50) (entry m c main_v52) (ix3 b row j) = ((step (column (m ((c.tc : Thread nD τ).loc main_arg0)) b x) row.val n.val : ℝ) : EReal) := by
  unfold step
  rw [← Ssm.sum_coe]
  refine Finset.sum_congr rfl fun l _ => ?_
  have hl : l.val * 128 + n.val < 8192 := by omega
  rw [EReal.coe_mul, ← column_coe _ h b x (l.val * 128 + n.val) ⟨b.val * 8192 + (l.val * 128 + n.val), by omega⟩ rfl hl, ← rows_at m c row l]
  exact congrArg _ (sequences_at m c b l j _ _ (by show b.val * 8192 + (l.val * 128 + n.val) = _; omega) (by omega))

/-- The second call's result at an index. -/
theorem second_at (b : Fin 4) (k : Fin 64) (r : Fin 256) (x : Fin 512) :
    W4 m ρ c (Proc.devRef .tc main_v55) (ix4 b k r x)
      = ((dft (column (m ((c.tc : Thread nD τ).loc main_arg0)) b x) (r.val / 128) (k.val + 64 * (r.val % 128)) : ℝ) : EReal) := by
  have e : W4 m ρ c (Proc.devRef .tc main_v55) = Array.large (V3 m ρ c main_v51) (V3 m ρ c main_v54) := (W4_arr m ρ c 2).trans (Array.final1 (V3 m ρ) c)
  refine (congrFun e _).trans ((large_real _ _ b k r x (fun q => second k.val r.val q.val)
    (fun q => step (column (m ((c.tc : Thread nD τ).loc main_arg0)) b x) (2 * k.val + q.val / 128) (q.val % 128))
    (fun q => (congrFun (kept m ρ c) _).trans (pairs_at m c k r q))
    (fun q => (between m ρ c b k q x).trans (small_step m c h b ⟨2 * k.val + q.val / 128, by omega⟩ ⟨q.val % 128, by omega⟩ x _ rfl))).trans ?_)
  exact congrArg _ (steps_eq _ _ _ r.isLt)

/-- The result. -/
theorem result_at (z : Fin 2) (row : Fin 32768) (x : Fin 512) :
    W5 m ρ c (Proc.devRef .tc main_v58) (ix3 z row x) = transform (m ((c.tc : Thread nD τ).loc main_arg0)) z row x := by
  have e := second_at m ρ c h ⟨row.val / 8192, by omega⟩ ⟨row.val % 64, by omega⟩ ⟨z.val * 128 + row.val % 8192 / 64, by omega⟩ x
  unfold transform
  rw [show (z.val * 128 + row.val % 8192 / 64) / 128 = z.val by omega,
    show row.val % 64 + 64 * ((z.val * 128 + row.val % 8192 / 64) % 128) = row.val % 8192 by omega] at e
  rw [← e]
  show StableHlo.after hostOps2 (W4 m ρ c) (Proc.devRef .tc main_v58) _ = _
  after_reads_at
  exact congrArg (W4 m ρ c (Proc.devRef .tc main_v55)) (congrArg (fun y => ix4 _ _ y x) (Fin.ext (by show z.val * 128 + row.val / 64 % 128 = z.val * 128 + row.val % 8192 / 64; omega)))
theorem result : W5 m ρ c (Proc.devRef .tc main_v58) = fun i => transform (m ((c.tc : Thread nD τ).loc main_arg0)) (i 0) (i 1) (i 2) := by
  funext i
  obtain ⟨z, row, x, rfl⟩ : ∃ z row x, i = ix3 z row x := ⟨i 0, i 1, i 2, by funext a; fin_cases a <;> rfl⟩
  exact result_at m ρ c h z row x

end Cert.FftIdeal.Hand

end
-- ==== Proof.FftRefSteps.lean ====
/-
  The steps of the reference, each at an index: the product over the positions and the arrangement of the two results.
-/
module

public import proofs.«01_k».proof.Proof.FftAngle
public import proofs.«01_k».proof.Proof.FftPre
public import proofs.«01_k».proof.Proof.Gen.FftRefIdeal.Run
public import Idealize.ShloMosaic.Lib.IdealHost
public import Idealize.ShloMosaic.Lib.Pipeline.ValueKit
public import Idealize.ShloMosaic.Lib.Pointwise

@[expose] public section

set_option maxRecDepth 16384

noncomputable section

namespace Cert.FftRefIdeal.Hand

open Idealize.ShloMosaic Idealize.ShloMosaic.TcCoe Idealize.ShloMosaic.Pipeline Idealize.SL.Sem Cert.FftRefIdeal Cert.FftRefIdeal.Gen Fft

/-- A product with a matrix over the positions. -/
theorem dot_at (a : FVec Ideal S4x8192x512 .f32) (w : FVec Ideal S8192x8192 .f32) (b : Fin 4) (c : Fin 512) (f : Fin 8192) :
    Host.dotGeneral dot_S4x8192x512_S8192x8192_S4x512x8192_1_1_02_0_n_n none a w (ix3 b c f) = ∑ l : Fin 8192, a (ix3 b l c) * w (ix2 f l) := by
  show FloatOps.dotGeneral _ _ _ a w _ = _
  rw [Ideal.dotGeneral_apply, ← Equiv.sum_comp (ValueIdx.contrEquiv1 dot_S4x8192x512_S8192x8192_S4x512x8192_1_1_02_0_n_n 8192 rfl rfl).symm]
  refine Finset.sum_congr rfl fun l _ => ?_
  have hp := ValueIdx.contrEquiv1_symm_val dot_S4x8192x512_S8192x8192_S4x512x8192_1_1_02_0_n_n 8192 rfl rfl l
  congr 1
  · congr 1
    funext ax; apply Fin.ext
    fin_cases ax <;> simp [DotDims.lhsIdx, dot_S4x8192x512_S8192x8192_S4x512x8192_1_1_02_0_n_n]
    all_goals first | rfl | exact hp
  · congr 1
    funext ax; apply Fin.ext
    fin_cases ax <;> simp [DotDims.rhsIdx, dot_S4x8192x512_S8192x8192_S4x512x8192_1_1_02_0_n_n]
    all_goals first | rfl | exact hp

/-- The two results, real and imaginary, one after the other: step by step. -/
theorem rows_at (x : S2x4x8192x512.Idx → EReal) (z : Fin 2) (row : Fin 32768) (c : Fin 512) :
    shapeCast S2x32768x512 x shapeCasts_S2x4x8192x512_S2x32768x512 (ix3 z row c) = x (ix4 z ⟨row.val / 8192, by omega⟩ ⟨row.val % 8192, by omega⟩ c) := by
  pointwise
theorem parts_at (p q : S1x4x8192x512.Idx → EReal) (z : Fin 2) (b : Fin 4) (f : Fin 8192) (c : Fin 512) :
    concatenate S2x4x8192x512 0 [⟨S1x4x8192x512, p⟩, ⟨S1x4x8192x512, q⟩] concatenates_S1x4x8192x512_S1x4x8192x512_S2x4x8192x512_d0 (ix4 z b f c)
      = if z.val = 0 then p (ix4 0 b f c) else q (ix4 0 b f c) := by
  fin_cases z
  · pointwise
  · pointwise
theorem lifted_at (p : S4x512x8192.Idx → EReal) (z : Fin 1) (b : Fin 4) (f : Fin 8192) (c : Fin 512) :
    broadcastInDim S1x4x8192x512 ![1, 2, 3] bcast_S4x8192x512_S1x4x8192x512_1_2_3 (transpose S4x8192x512 [0, 2, 1] p transposes_S4x512x8192_S4x8192x512_0_2_1) (ix4 z b f c)
      = p (ix3 b c f) := by
  pointwise
theorem narrow_at (x : FVec Ideal S2x32768x512 .f32) (i : S2x32768x512.Idx) : truncf (F := Ideal) .bf16 x bitsLt_bf16_f32 i = x i := rfl
theorem halves_at (p q : FVec Ideal S4x512x8192 .f32) (z : Fin 2) (row : Fin 32768) (c : Fin 512) :
    truncf (F := Ideal) (φ := .f32) .bf16 (shapeCast S2x32768x512 (concatenate S2x4x8192x512 0
      [⟨S1x4x8192x512, broadcastInDim S1x4x8192x512 ![1, 2, 3] bcast_S4x8192x512_S1x4x8192x512_1_2_3 (transpose S4x8192x512 [0, 2, 1] p transposes_S4x512x8192_S4x8192x512_0_2_1)⟩,
        ⟨S1x4x8192x512, broadcastInDim S1x4x8192x512 ![1, 2, 3] bcast_S4x8192x512_S1x4x8192x512_1_2_3 (transpose S4x8192x512 [0, 2, 1] q transposes_S4x512x8192_S4x8192x512_0_2_1)⟩]
      concatenates_S1x4x8192x512_S1x4x8192x512_S2x4x8192x512_d0) shapeCasts_S2x4x8192x512_S2x32768x512) bitsLt_bf16_f32 (ix3 z row c)
      = if z.val = 0 then p (ix3 ⟨row.val / 8192, by omega⟩ c ⟨row.val % 8192, by omega⟩) else q (ix3 ⟨row.val / 8192, by omega⟩ c ⟨row.val % 8192, by omega⟩) := by
  rw [narrow_at, rows_at, parts_at, lifted_at, lifted_at]

end Cert.FftRefIdeal.Hand

end
-- ==== Proof.FftRefValue.lean ====
/-
  The reference's result: the transform, term by term.
-/
module

public import proofs.«01_k».proof.Proof.FftRefSteps
public import proofs.«01_k».proof.Proof.FftPre
public import proofs.«01_k».proof.Proof.Gen.FftRefIdeal.Run
public import Idealize.ShloMosaic.Lib.IdealHost
public import Idealize.ShloMosaic.Lib.Pipeline.ValueKit
public import Idealize.ShloMosaic.Lib.Pointwise

@[expose] public section

set_option maxRecDepth 16384

noncomputable section

namespace Cert.FftRefIdeal.Hand

open Idealize.ShloMosaic Idealize.ShloMosaic.TcCoe Idealize.ShloMosaic.Pipeline Idealize.SL.Sem Cert.FftRefIdeal Cert.FftRefIdeal.Gen Fft

/-- The angles of the frequencies at the positions. -/
theorem angles_at (f l : Fin 8192) :
    mulf (F := Ideal) (broadcastInDim S8192x8192 ![] bcast_S_S8192x8192 (mulf (constant S_ .f32 0x41000000#32) (Host.atan (constant S_ .f32 0x3F800000#32)))) (Host.divf (sitofp .f32 (Host.remsi (muli (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))) (broadcastInDim S8192x8192 ![] bcast_S_S8192x8192 (constantI S_ 32 8192#32)))) (broadcastInDim S8192x8192 ![] bcast_S_S8192x8192 (constant S_ .f32 0x46000000#32))) (ix2 f l)
      = ((angle 8192 (f.val * l.val) : ℝ) : EReal) := by
  pointwise
  exact angle_coe 8192 (f.val * l.val) _ _ _ eightk_coe rfl _ (BitVec.ofNat_mul ..).symm (by omega) (by omega) (by have := f.isLt; have := l.isLt; nlinarith) rfl
/-- The two tables, each from the angles. -/
theorem cos_at (x : FVec Ideal S8192x8192 .f32) (i : S8192x8192.Idx) (t : ℝ) (h : x i = ((t : ℝ) : EReal)) : Host.cos (F := Ideal) x i = ((Real.cos t : ℝ) : EReal) :=
  (congrArg Ideal.cos h).trans (Ssm.cos_coe t)
theorem sin_at (x : FVec Ideal S8192x8192 .f32) (i : S8192x8192.Idx) (t : ℝ) (h : x i = ((t : ℝ) : EReal)) : Host.negf (F := Ideal) (Host.sin x) i = ((-Real.sin t : ℝ) : EReal) :=
  (congrArg (fun y => -Ideal.sin y) h).trans (by rw [Ssm.sin_coe, EReal.coe_neg])
theorem input_at (a : FVec Ideal S32768x512 .bf16) (b : Fin 4) (l : Fin 8192) (c : Fin 512) :
    shapeCast S4x8192x512 (extf (F := Ideal) .f32 a bitsLt_bf16_f32) shapeCasts_S32768x512_S4x8192x512 (ix3 b l c) = a (ix2 ⟨b.val * 8192 + l.val, by omega⟩ c) := by
  pointwise [id]

/-- The reference's run: its result is the transform of its argument, which it leaves. -/
theorem run_transform [Cert.Pre_fft_tame.Facts] (m : (ℓ : Loc nD τ sig) → Buf (Elt Ideal) ℓ) (ρ : Dev nD → PrngReg)
    (h : ∀ c : Dev nD, Cert.Pre_fft_tame.fn (F := Ideal) (m ((c.tc : Thread nD τ).loc main_arg0)) = fun _ => 1#1) :
    θ_run defs (onTc (τ := τ) (main (F := Ideal))) ⟨m, fun _ => 0, ρ⟩ fun r => ∀ c : Dev nD,
      r.2.mem ((c.tc : Thread nD τ).loc main_v28) = (fun i => transform (m ((c.tc : Thread nD τ).loc main_arg0)) (i 0) (i 1) (i 2))
      ∧ r.2.mem ((c.tc : Thread nD τ).loc main_arg0) = m ((c.tc : Thread nD τ).loc main_arg0) := by
  refine (θ_run defs _ _).mono (fun r hr c => ⟨(hr c).1.trans ?_, (hr c).2⟩) (Value.run (F := Ideal) m ρ)
  funext i
  obtain ⟨z, row, c', rfl⟩ : ∃ z row c', i = ix3 z row c' := ⟨i 0, i 1, i 2, by funext a; fin_cases a <;> rfl⟩
  have hb : row.val / 8192 < 4 := by omega
  have hf : row.val % 8192 < 8192 := by omega
  refine (halves_at _ _ z row c').trans ?_
  show _ = transform _ z row c'
  unfold transform dft
  rw [← Ssm.sum_coe]
  by_cases h1 : z.val = 0
  · simp only [if_pos h1]
    refine (dot_at _ _ ⟨_, hb⟩ c' ⟨_, hf⟩).trans (Finset.sum_congr rfl fun l _ => ?_)
    rw [input_at, column_coe _ (h c) ⟨_, hb⟩ c' l.val _ rfl l.isLt, cos_at _ _ _ (angles_at ⟨_, hf⟩ l), mul_comm, ← EReal.coe_mul]
  · simp only [if_neg h1]
    refine (dot_at _ _ ⟨_, hb⟩ c' ⟨_, hf⟩).trans (Finset.sum_congr rfl fun l _ => ?_)
    rw [input_at, column_coe _ (h c) ⟨_, hb⟩ c' l.val _ rfl l.isLt, sin_at _ _ _ (angles_at ⟨_, hf⟩ l), mul_comm, ← EReal.coe_mul]

end Cert.FftRefIdeal.Hand

end
-- ==== Proof.FftClaim.lean ====
/- THE EQUATION OF THE TRANSFORM. Kernel and reference, run from equal finite sequences, end with equal results. -/
module

public import proofs.«01_k».proof.Defs
public import proofs.«01_k».proof.Proof.FftValue
public import proofs.«01_k».proof.Proof.FftRefValue

@[expose] public section

set_option maxRecDepth 16384

noncomputable section

namespace Cert.Proof

open Idealize.ShloMosaic Idealize.ShloMosaic.TcCoe Idealize.SL.Sem

/-- `Cert.algebraic_FftIdeal_FftRefIdeal_pre_fft_tame`: both programs run, and from equal arguments of real numbers their results are equal. -/
theorem fft : Cert.algebraic_FftIdeal_FftRefIdeal_pre_fft_tame (hFftIdeal := FftIdeal.Gen.facts) (hFftRefIdeal := FftRefIdeal.Gen.facts) (hPre_fft_tame := _root_.Fft.pre_facts) := by
  intro m g m' g' hpre hargs
  haveI := _root_.Fft.pre_facts
  refine ⟨fun c i => _root_.Fft.transform (m ((c.tc : Thread _ _).loc FftIdeal.main_arg0)) (i 0) (i 1) (i 2), ?_, ?_⟩
  · refine (θ_run FftIdeal.defs _ _).mono (fun r h c => ⟨(h c).1.trans ?_, (h c).2⟩) (FftIdeal.Hand.run_ends (F := Ideal) m g)
    exact FftIdeal.Hand.result m g c (hpre c)
  · refine (θ_run FftRefIdeal.defs _ _).mono (fun r h c => ⟨(h c).1.trans ?_, (h c).2⟩) (FftRefIdeal.Hand.run_transform m' g' fun c => ?_)
    · rw [hargs c]
      exact hpre c
    · rw [hargs c]
      rfl

/-- The reference runs and leaves its arguments as they were. -/
theorem fft_ref_frame : Cert.quiescent_FftRefIdeal (hFftRefIdeal := FftRefIdeal.Gen.facts) := by
  intro m ρ _
  exact (θ_run FftRefIdeal.defs _ _).mono (fun r h => ⟨fun c => (h c).2, sem_eq_zero_of_no_sems (by decide) r.2⟩)
    (FftRefIdeal.Value.run (F := Ideal) m ρ)

end Cert.Proof

end
-- ==== Proof.lean ====
module

public import proofs.«01_k».proof.Defs
public import proofs.«01_k».proof.Proof.Gen.Mlp.Frame
public import proofs.«01_k».proof.Proof.Gen.Inp.Frame
public import proofs.«01_k».proof.Proof.Gen.Ssm.Loops
public import proofs.«01_k».proof.Proof.Gen.SsmIdeal.Loops
public import proofs.«01_k».proof.Proof.Gen.Ssm.Frame
public import proofs.«01_k».proof.Proof.Gen.SsmIdeal.Frame
public import proofs.«01_k».proof.Proof.Gen.SsmRefIdeal.Run
public import proofs.«01_k».proof.Proof.Gen.Fft.Frame
public import proofs.«01_k».proof.Proof.Gen.FftIdeal.Frame
public import proofs.«01_k».proof.Proof.Gen.FftRefIdeal.Run
public import proofs.«01_k».proof.Proof.MlpClaim
public import proofs.«01_k».proof.Proof.InpClaim
public import proofs.«01_k».proof.Proof.SsmFrames
public import proofs.«01_k».proof.Proof.SsmClaim
public import proofs.«01_k».proof.Proof.FftClaim

@[expose] public section

noncomputable section

namespace Cert.Proof

open Idealize.ShloMosaic Idealize.SL.Sem

/-- Every claim stated for the mixing tail and feed-forward call, the input projection, the recurrence
    and the transform over the positions. -/
theorem claim : Cert.Claim :=
  ⟨Mlp.Gen.facts, MlpIdeal.Gen.facts, MlpRefIdeal.Gen.facts, Inp.Gen.facts, InpIdeal.Gen.facts, InpRefIdeal.Gen.facts,
    Ssm.Gen.facts, SsmIdeal.Gen.facts, SsmRefIdeal.Gen.facts, Fft.Gen.facts, FftIdeal.Gen.facts, FftRefIdeal.Gen.facts,
    _root_.Ssm.Pre.facts, _root_.Fft.pre_facts,
    fun m ρ _ => Mlp.Gen.frame m ρ, fun m ρ _ => MlpIdeal.Gen.frame m ρ, mlp_ref_frame,
    fun m ρ _ => Inp.Gen.frame m ρ, fun m ρ _ => InpIdeal.Gen.frame m ρ, inp_ref_frame,
    ssm_frame, ssm_ideal_frame, fun m ρ _ => ssm_ideal_frame m ρ trivial, ssm_ref_frame, fun m ρ _ => ssm_ref_frame m ρ trivial,
    fun m ρ _ => Fft.Gen.frame m ρ, fun m ρ _ => FftIdeal.Gen.frame m ρ, fun m ρ _ => FftIdeal.Gen.frame m ρ, fft_ref_frame, fun m ρ _ => fft_ref_frame m ρ trivial,
    trivial, mlp, trivial, inp, trivial, ssm, trivial, fft⟩

end Cert.Proof

end
